-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_draw_is_shortlisted [hPre_draw_is_shortlisted : Cert.Pre_draw_is_shortlisted.Facts] (m : (ℓ : Loc Cert.KernelIdeal.nD Cert.KernelIdeal.τ Cert.KernelIdeal.sig) → Buf (Elt Ideal) ℓ) : Prop :=
  ∀ c : Dev Cert.KernelIdeal.nD,
    (Cert.Pre_draw_is_shortlisted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_draw_is_shortlisted [hPre_draw_is_shortlisted : Cert.Pre_draw_is_shortlisted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_draw_is_shortlisted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_draw_is_shortlisted [hKernelIdeal : Cert.KernelIdeal.Facts] [hPre_draw_is_shortlisted : Cert.Pre_draw_is_shortlisted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_draw_is_shortlisted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_draw_is_shortlisted [hReferenceIdeal : Cert.ReferenceIdeal.Facts] [hPre_draw_is_shortlisted : Cert.Pre_draw_is_shortlisted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_draw_is_shortlisted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_draw_is_shortlisted [hKernelIdeal : Cert.KernelIdeal.Facts] [hReferenceIdeal : Cert.ReferenceIdeal.Facts] [hPre_draw_is_shortlisted : Cert.Pre_draw_is_shortlisted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_draw_is_shortlisted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_draw_is_shortlisted : Cert.Pre_draw_is_shortlisted.Facts),
    quiescent_Kernel (hKernel := hKernel)
    ∧ quiescent_KernelIdeal (hKernelIdeal := hKernelIdeal)
    ∧ quiescent_KernelIdeal_pre_draw_is_shortlisted (hKernelIdeal := hKernelIdeal) (hPre_draw_is_shortlisted := hPre_draw_is_shortlisted)
    ∧ quiescent_ReferenceIdeal (hReferenceIdeal := hReferenceIdeal)
    ∧ quiescent_ReferenceIdeal_pre_draw_is_shortlisted (hReferenceIdeal := hReferenceIdeal) (hPre_draw_is_shortlisted := hPre_draw_is_shortlisted)
    ∧ preserves_Kernel_KernelIdeal
    ∧ algebraic_KernelIdeal_ReferenceIdeal_pre_draw_is_shortlisted (hKernelIdeal := hKernelIdeal) (hReferenceIdeal := hReferenceIdeal) (hPre_draw_is_shortlisted := hPre_draw_is_shortlisted)
-- ==== Pre_draw_is_shortlisted.lean ====
abbrev S4x128 : Shape := ⟨2, ![4, 128]⟩
abbrev S65536x128 : Shape := ⟨2, ![65536, 128]⟩
abbrev S16x3 : Shape := ⟨2, ![16, 3]⟩
abbrev S16x16 : Shape := ⟨2, ![16, 16]⟩
abbrev S16x128x128 : Shape := ⟨3, ![16, 128, 128]⟩
abbrev S16x128 : Shape := ⟨2, ![16, 128]⟩
abbrev S3x1x1x1 : Shape := ⟨4, ![3, 1, 1, 1]⟩
abbrev S_ : Shape := ⟨0, ![]⟩
abbrev S16 : Shape := ⟨1, ![16]⟩
abbrev S16x1 : Shape := ⟨2, ![16, 1]⟩
abbrev S16x4096x128 : Shape := ⟨3, ![16, 4096, 128]⟩
abbrev S3x4x65536x128 : Shape := ⟨4, ![3, 4, 65536, 128]⟩
abbrev S1x65536x128 : Shape := ⟨3, ![1, 65536, 128]⟩
abbrev S1x4x65536x128 : Shape := ⟨4, ![1, 4, 65536, 128]⟩
abbrev S4x65536x128 : Shape := ⟨3, ![4, 65536, 128]⟩
abbrev S4x1x128 : Shape := ⟨3, ![4, 1, 128]⟩
abbrev S4x16x512x8x128 : Shape := ⟨5, ![4, 16, 512, 8, 128]⟩
abbrev S4x512x128 : Shape := ⟨3, ![4, 512, 128]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S16x16 : S_.BroadcastsInDim S16x16 (![] : Fin 0 → Fin S16x16.rank)
  reducesTo_S16x16_S_d0_1 : S16x16.ReducesTo [0, 1] S_
  reducesTo_S16x16_S16_d1 : S16x16.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S65536x128_S16x4096x128 : S65536x128.ShapeCasts S16x4096x128
  shapeCasts_S16x4096x128_S65536x128 : S16x4096x128.ShapeCasts S65536x128
  bcast_S_S3x4x65536x128 : S_.BroadcastsInDim S3x4x65536x128 (![] : Fin 0 → Fin S3x4x65536x128.rank)
  bcast_S3x1x1x1_S3x4x65536x128_0_1_2_3 : S3x1x1x1.BroadcastsInDim S3x4x65536x128 (![0, 1, 2, 3] : Fin 4 → Fin S3x4x65536x128.rank)
  bcast_S65536x128_S1x65536x128_1_2 : S65536x128.BroadcastsInDim S1x65536x128 (![1, 2] : Fin 2 → Fin S1x65536x128.rank)
  slices_S3x4x65536x128_S1x4x65536x128_0_0_0_0 : S3x4x65536x128.Slices ![0, 0, 0, 0] S1x4x65536x128
  shapeCasts_S1x4x65536x128_S4x65536x128 : S1x4x65536x128.ShapeCasts S4x65536x128
  bcast_S_S4x65536x128 : S_.BroadcastsInDim S4x65536x128 (![] : Fin 0 → Fin S4x65536x128.rank)
  bcast_S1x65536x128_S4x65536x128_0_1_2 : S1x65536x128.BroadcastsInDim S4x65536x128 (![0, 1, 2] : Fin 3 → Fin S4x65536x128.rank)
  slices_S3x4x65536x128_S1x4x65536x128_1_0_0_0 : S3x4x65536x128.Slices ![1, 0, 0, 0] S1x4x65536x128
  slices_S3x4x65536x128_S1x4x65536x128_2_0_0_0 : S3x4x65536x128.Slices ![2, 0, 0, 0] S1x4x65536x128
  reducesTo_S4x65536x128_S4x128_d1 : S4x65536x128.ReducesTo [1] S4x128
  bcast_S4x128_S4x1x128_0_2 : S4x128.BroadcastsInDim S4x1x128 (![0, 2] : Fin 2 → Fin S4x1x128.rank)
  bcast_S4x1x128_S4x65536x128_0_1_2 : S4x1x128.BroadcastsInDim S4x65536x128 (![0, 1, 2] : Fin 3 → Fin S4x65536x128.rank)
  shapeCasts_S4x65536x128_S4x16x512x8x128 : S4x65536x128.ShapeCasts S4x16x512x8x128
  reducesTo_S4x16x512x8x128_S4x512x128_d1_3 : S4x16x512x8x128.ReducesTo [1, 3] S4x512x128
  bcast_S4x1x128_S4x512x128_0_1_2 : S4x1x128.BroadcastsInDim S4x512x128 (![0, 1, 2] : Fin 3 → Fin S4x512x128.rank)
  bcast_S_S4x128 : S_.BroadcastsInDim S4x128 (![] : Fin 0 → Fin S4x128.rank)
  reducesTo_S4x512x128_S4x128_d1 : S4x512x128.ReducesTo [1] S4x128
  dot_S16x16_S16x4096x128_S16x4096x128_1_0_0_12_n_n_wf : DotDims.WF S16x16 S16x4096x128 S16x4096x128 [1] [0] [0] [1, 2] [] []

variable [Facts]

def dot_S16x16_S16x4096x128_S16x4096x128_1_0_0_12_n_n : DotDims S16x16 S16x4096x128 S16x4096x128 where
  lhsContracting := [1]
  rhsContracting := [0]
  lhsNonContracting := [0]
  rhsNonContracting := [1, 2]
  lhsBatch := []
  rhsBatch := []
  wf := dot_S16x16_S16x4096x128_S16x4096x128_1_0_0_12_n_n_wf

noncomputable abbrev lit0 : Fin 3 → BitVec 32 := fun
  | 0 => 507451445#32 | 1 => 1948878966#32 | 2 => 2441914641#32
  | _ => 0#32

noncomputable abbrev lit1 : Fin 3 → BitVec 32 := fun
  | 0 => 1853169794#32 | 1 => 4237131848#32 | 2 => 3819641963#32
  | _ => 0#32

noncomputable abbrev lit2 : Fin 3 → BitVec 32 := fun
  | 0 => 1853169794#32 | 1 => 4237131848#32 | 2 => 3819641963#32
  | _ => 0#32

noncomputable abbrev lit3 : Fin 3 → BitVec 32 := fun
  | 0 => 1805329262#32 | 1 => 2473923557#32 | 2 => 1777774241#32
  | _ => 0#32

noncomputable abbrev lit4 : Fin 3 → BitVec 32 := fun
  | 0 => 1805329261#32 | 1 => 2473923556#32 | 2 => 1777774240#32
  | _ => 0#32

noncomputable abbrev lit5 : Fin 3 → BitVec 32 := fun
  | 0 => 507451447#32 | 1 => 1948878968#32 | 2 => 2441914643#32
  | _ => 0#32

noncomputable abbrev lit6 : Fin 3 → BitVec 32 := fun
  | 0 => 507451445#32 | 1 => 1948878966#32 | 2 => 2441914641#32
  | _ => 0#32

noncomputable abbrev lit7 : Fin 3 → BitVec 32 := fun
  | 0 => 1853169797#32 | 1 => 4237131851#32 | 2 => 3819641966#32
  | _ => 0#32

noncomputable abbrev lit8 : Fin 3 → BitVec 32 := fun
  | 0 => 1853169794#32 | 1 => 4237131848#32 | 2 => 3819641963#32
  | _ => 0#32

noncomputable abbrev lit9 : Fin 3 → BitVec 32 := fun
  | 0 => 1805329265#32 | 1 => 2473923560#32 | 2 => 1777774244#32
  | _ => 0#32

noncomputable abbrev lit10 : Fin 3 → BitVec 32 := fun
  | 0 => 1805329261#32 | 1 => 2473923556#32 | 2 => 1777774240#32
  | _ => 0#32

noncomputable abbrev lit11 : Fin 3 → BitVec 32 := fun
  | 0 => 507451450#32 | 1 => 1948878971#32 | 2 => 2441914646#32
  | _ => 0#32

def fn_where {F : FTy → Type} [FloatOps F] (arg0 : IVec S4x65536x128 1) (arg1 : FVec F S4x65536x128 .f32) (arg2 : FVec F S4x65536x128 .f32) : FVec F S4x65536x128 .f32 :=
  let v0 : FVec F S4x65536x128 .f32 := select arg0 arg1 arg2
  v0

def fn_where_0 {F : FTy → Type} [FloatOps F] (arg0 : IVec S4x65536x128 1) (arg1 : IVec S4x65536x128 32) (arg2 : IVec S_ 32) : IVec S4x65536x128 32 :=
  let v0 : IVec S4x65536x128 32 := broadcastInDim S4x65536x128 ![] bcast_S_S4x65536x128 arg2
  let v1 : IVec S4x65536x128 32 := select arg0 arg1 v0
  v1

def fn_where_1 {F : FTy → Type} [FloatOps F] (arg0 : IVec S4x65536x128 1) (arg1 : FVec F S4x65536x128 .f32) (arg2 : FVec F S_ .f32) : FVec F S4x65536x128 .f32 :=
  let v0 : FVec F S4x65536x128 .f32 := broadcastInDim S4x65536x128 ![] bcast_S_S4x65536x128 arg2
  let v1 : FVec F S4x65536x128 .f32 := select arg0 arg1 v0
  v1

def fn_where_2 {F : FTy → Type} [FloatOps F] (arg0 : IVec S4x65536x128 1) (arg1 : FVec F S_ .f32) (arg2 : FVec F S4x65536x128 .f32) : FVec F S4x65536x128 .f32 :=
  let v0 : FVec F S4x65536x128 .f32 := broadcastInDim S4x65536x128 ![] bcast_S_S4x65536x128 arg1
  let v1 : FVec F S4x65536x128 .f32 := select arg0 v0 arg2
  v1

def fn_part25 {F : FTy → Type} [FloatOps F] (main_v456 : IVec S4x128 1) (main_v458 : FVec F S4x128 .f32) : IVec S4x128 1 :=
  let main_cst_139 : FVec F S_ .f32 := constant S_ .f32 0x40200000#32
  let main_v459 : FVec F S4x128 .f32 := broadcastInDim S4x128 ![] bcast_S_S4x128 main_cst_139
  let main_v460 : IVec S4x128 1 := cmpf .olt main_v458 main_v459
  let main_v461 : IVec S4x128 1 := andi main_v456 main_v460
  main_v461

def fn_part24 {F : FTy → Type} [FloatOps F] (main_v18 : IVec S_ 1) (main_v419 : IVec S4x128 32) (main_v437 : FVec F S4x128 .f32) (main_v439 : FVec F S4x16x512x8x128 .f32) : IVec S4x128 1 :=
  let main_cst_134 : FVec F S_ .f32 := constant S_ .f32 0xFF800000#32
  let main_v440 : FVec F S4x512x128 .f32 := (fun x v => Host.reduce FloatOps.maximumf x v reducesTo_S4x16x512x8x128_S4x512x128_d1_3 h_S_) main_v439 main_cst_134
  let main_v441 : FVec F S4x1x128 .f32 := broadcastInDim S4x1x128 ![0, 2] bcast_S4x128_S4x1x128_0_2 main_v437
  let main_v442 : FVec F S4x512x128 .f32 := broadcastInDim S4x512x128 ![0, 1, 2] bcast_S4x1x128_S4x512x128_0_1_2 main_v441
  let main_v443 : IVec S4x512x128 1 := cmpf .oge main_v440 main_v442
  let main_v444 : IVec S4x512x128 32 := iotaInDim S4x512x128 32 1
  let main_c_135 : IVec S_ 32 := constantI S_ 32 4095#32
  let main_v445 : IVec S4x128 32 := broadcastInDim S4x128 ![] bcast_S_S4x128 main_c_135
  let main_v446 : IVec S4x128 32 := andi main_v419 main_v445
  let main_c_136 : IVec S_ 32 := constantI S_ 32 3#32
  let main_v447 : IVec S4x128 32 := broadcastInDim S4x128 ![] bcast_S_S4x128 main_c_136
  let main_v448 : IVec S4x128 32 := Host.shrsi main_v446 main_v447
  let main_v449 : IVec S4x1x128 32 := broadcastInDim S4x1x128 ![0, 2] bcast_S4x128_S4x1x128_0_2 main_v448
  let main_v450 : IVec S4x512x128 32 := broadcastInDim S4x512x128 ![0, 1, 2] bcast_S4x1x128_S4x512x128_0_1_2 main_v449
  let main_v451 : IVec S4x512x128 1 := cmpi .eq main_v444 main_v450
  let main_v452 : IVec S4x512x128 1 := andi main_v443 main_v451
  let main_c_137 : IVec S_ 1 := constantI S_ 1 0#1
  let main_v453 : IVec S4x128 1 := (fun x v => Host.reduce IntOp.ori x v reducesTo_S4x512x128_S4x128_d1 h_S_) main_v452 main_c_137
  let main_v454 : IVec S4x128 1 := noti main_v453
  let main_v455 : IVec S4x128 1 := broadcastInDim S4x128 ![] bcast_S_S4x128 main_v18
  let main_v456 : IVec S4x128 1 := andi main_v455 main_v454
  let main_v457 : FVec F S4x512x128 .f32 := uitofp .f32 main_v443
  let main_cst_138 : FVec F S_ .f32 := constant S_ .f32 0x00000000#32
  let main_v458 : FVec F S4x128 .f32 := (fun x v => Host.reduceAdd x v reducesTo_S4x512x128_S4x128_d1 h_S_) main_v457 main_cst_138
  fn_part25 (F := F) main_v456 main_v458

def fn_part23 {F : FTy → Type} [FloatOps F] (main_v18 : IVec S_ 1) (main_v52 : FVec F S65536x128 .f32) (main_v62 : FVec F S65536x128 .f32) (main_v242 : FVec F S3x4x65536x128 .f32) (main_v419 : IVec S4x128 32) : IVec S4x128 1 :=
  let main_v420 : FVec F S65536x128 .f32 := mulf main_v52 main_v52
  let main_v421 : FVec F S65536x128 .f32 := mulf main_v62 main_v62
  let main_v422 : FVec F S65536x128 .f32 := addf main_v420 main_v421
  let main_cst_130 : FVec F S_ .f32 := constant S_ .f32 0x1E3CE508#32
  let main_v423 : FVec F S65536x128 .f32 := broadcastInDim S65536x128 ![] bcast_S_S65536x128 main_cst_130
  let main_v424 : FVec F S65536x128 .f32 := addf main_v422 main_v423
  let main_v425 : FVec F S1x65536x128 .f32 := broadcastInDim S1x65536x128 ![1, 2] bcast_S65536x128_S1x65536x128_1_2 main_v424
  let main_v426 : FVec F S1x4x65536x128 .f32 := (extractStridedSlice S1x4x65536x128 ![2, 0, 0, 0] · slices_S3x4x65536x128_S1x4x65536x128_2_0_0_0) main_v242
  let main_v427 : FVec F S4x65536x128 .f32 := shapeCast S4x65536x128 main_v426 shapeCasts_S1x4x65536x128_S4x65536x128
  let main_v428 : FVec F S4x65536x128 .f32 := Host.log main_v427
  let main_v429 : FVec F S4x65536x128 .f32 := Host.negf main_v428
  let main_v430 : FVec F S4x65536x128 .f32 := broadcastInDim S4x65536x128 ![0, 1, 2] bcast_S1x65536x128_S4x65536x128_0_1_2 main_v425
  let main_v431 : FVec F S4x65536x128 .f32 := Host.divf main_v430 main_v429
  let main_v432 : IVec S4x65536x128 32 := iotaInDim S4x65536x128 32 1
  let main_v433 : IVec S4x1x128 32 := broadcastInDim S4x1x128 ![0, 2] bcast_S4x128_S4x1x128_0_2 main_v419
  let main_v434 : IVec S4x65536x128 32 := broadcastInDim S4x65536x128 ![0, 1, 2] bcast_S4x1x128_S4x65536x128_0_1_2 main_v433
  let main_v435 : IVec S4x65536x128 1 := cmpi .eq main_v432 main_v434
  let main_cst_131 : FVec F S_ .f32 := constant S_ .f32 0xBF800000#32
  let main_v436 : FVec F S4x65536x128 .f32 := fn_where_1 (F := F) main_v435 main_v431 main_cst_131
  let main_cst_132 : FVec F S_ .f32 := constant S_ .f32 0xFF800000#32
  let main_v437 : FVec F S4x128 .f32 := (fun x v => Host.reduce FloatOps.maximumf x v reducesTo_S4x65536x128_S4x128_d1 h_S_) main_v436 main_cst_132
  let main_cst_133 : FVec F S_ .f32 := constant S_ .f32 0xBF800000#32
  let main_v438 : FVec F S4x65536x128 .f32 := fn_where_2 (F := F) main_v435 main_cst_133 main_v431
  let main_v439 : FVec F S4x16x512x8x128 .f32 := shapeCast S4x16x512x8x128 main_v438 shapeCasts_S4x65536x128_S4x16x512x8x128
  fn_part24 (F := F) main_v18 main_v419 main_v437 main_v439

def fn_part22 {F : FTy → Type} [FloatOps F] (main_v18 : IVec S_ 1) (main_v52 : FVec F S65536x128 .f32) (main_v62 : FVec F S65536x128 .f32) (main_v242 : FVec F S3x4x65536x128 .f32) (main_v318 : FVec F S4x65536x128 .f32) (main_v394 : FVec F S4x65536x128 .f32) (main_v400 : FVec F S4x65536x128 .f32) : IVec S4x128 1 :=
  let main_cst_125 : FVec F S_ .f32 := constant S_ .f32 0x33D6BF95#32
  let main_v401 : FVec F S4x65536x128 .f32 := broadcastInDim S4x65536x128 ![] bcast_S_S4x65536x128 main_cst_125
  let main_v402 : FVec F S4x65536x128 .f32 := maximumf main_v401 main_v400
  let main_v403 : FVec F S4x65536x128 .f32 := mulf main_v318 main_v318
  let main_v404 : FVec F S4x65536x128 .f32 := mulf main_v394 main_v394
  let main_v405 : FVec F S4x65536x128 .f32 := addf main_v403 main_v404
  let main_cst_126 : FVec F S_ .f32 := constant S_ .f32 0x1E3CE508#32
  let main_v406 : FVec F S4x65536x128 .f32 := broadcastInDim S4x65536x128 ![] bcast_S_S4x65536x128 main_cst_126
  let main_v407 : FVec F S4x65536x128 .f32 := addf main_v405 main_v406
  let main_v408 : FVec F S4x65536x128 .f32 := Host.log main_v407
  let main_v409 : FVec F S4x65536x128 .f32 := Host.log main_v402
  let main_v410 : FVec F S4x65536x128 .f32 := Host.negf main_v409
  let main_v411 : FVec F S4x65536x128 .f32 := Host.log main_v410
  let main_v412 : FVec F S4x65536x128 .f32 := subf main_v408 main_v411
  let main_v413 : IVec S4x65536x128 32 := iotaInDim S4x65536x128 32 1
  let main_cst_127 : FVec F S_ .f32 := constant S_ .f32 0xFF800000#32
  let main_v414 : FVec F S4x128 .f32 := (fun x v => Host.reduce FloatOps.maximumf x v reducesTo_S4x65536x128_S4x128_d1 h_S_) main_v412 main_cst_127
  let main_v415 : FVec F S4x1x128 .f32 := broadcastInDim S4x1x128 ![0, 2] bcast_S4x128_S4x1x128_0_2 main_v414
  let main_v416 : FVec F S4x65536x128 .f32 := broadcastInDim S4x65536x128 ![0, 1, 2] bcast_S4x1x128_S4x65536x128_0_1_2 main_v415
  let main_v417 : IVec S4x65536x128 1 := cmpf .oeq main_v412 main_v416
  let main_c_128 : IVec S_ 32 := constantI S_ 32 65536#32
  let main_v418 : IVec S4x65536x128 32 := fn_where_0 (F := F) main_v417 main_v413 main_c_128
  let main_c_129 : IVec S_ 32 := constantI S_ 32 2147483647#32
  let main_v419 : IVec S4x128 32 := (fun x v => Host.reduce IntOp.minsi x v reducesTo_S4x65536x128_S4x128_d1 h_S_) main_v418 main_c_129
  fn_part23 (F := F) main_v18 main_v52 main_v62 main_v242 main_v419

def fn_part21 {F : FTy → Type} [FloatOps F] (main_v18 : IVec S_ 1) (main_v52 : FVec F S65536x128 .f32) (main_v62 : FVec F S65536x128 .f32) (main_v242 : FVec F S3x4x65536x128 .f32) (main_v318 : FVec F S4x65536x128 .f32) (main_v319 : FVec F S1x65536x128 .f32) (main_v327 : FVec F S4x65536x128 .f32) (main_v331 : FVec F S4x65536x128 .f32) (main_v336 : FVec F S4x65536x128 .f32) (main_v380 : FVec F S4x65536x128 .f32) (main_v381 : FVec F S4x65536x128 .f32) (main_cst_119 : FVec F S_ .f32) : IVec S4x128 1 :=
  let main_v382 : FVec F S4x65536x128 .f32 := broadcastInDim S4x65536x128 ![] bcast_S_S4x65536x128 main_cst_119
  let main_v383 : FVec F S4x65536x128 .f32 := addf main_v381 main_v382
  let main_v384 : FVec F S4x65536x128 .f32 := mulf main_v380 main_v336
  let main_cst_120 : FVec F S_ .f32 := constant S_ .f32 0x40354F7E#32
  let main_v385 : FVec F S4x65536x128 .f32 := broadcastInDim S4x65536x128 ![] bcast_S_S4x65536x128 main_cst_120
  let main_v386 : FVec F S4x65536x128 .f32 := addf main_v384 main_v385
  let main_cst_121 : FVec F S_ .f32 := constant S_ .f32 0x40A00000#32
  let main_v387 : FVec F S4x65536x128 .f32 := broadcastInDim S4x65536x128 ![] bcast_S_S4x65536x128 main_cst_121
  let main_v388 : IVec S4x65536x128 1 := cmpf .olt main_v331 main_v387
  let main_v389 : FVec F S4x65536x128 .f32 := fn_where (F := F) main_v388 main_v383 main_v386
  let main_v390 : FVec F S4x65536x128 .f32 := mulf main_v389 main_v327
  let main_cst_122 : FVec F S_ .f32 := constant S_ .f32 0x3A826B00#32
  let main_v391 : FVec F S4x65536x128 .f32 := broadcastInDim S4x65536x128 ![] bcast_S_S4x65536x128 main_cst_122
  let main_v392 : FVec F S4x65536x128 .f32 := mulf main_v390 main_v391
  let main_v393 : FVec F S4x65536x128 .f32 := broadcastInDim S4x65536x128 ![0, 1, 2] bcast_S1x65536x128_S4x65536x128_0_1_2 main_v319
  let main_v394 : FVec F S4x65536x128 .f32 := addf main_v393 main_v392
  let main_v395 : FVec F S1x4x65536x128 .f32 := (extractStridedSlice S1x4x65536x128 ![2, 0, 0, 0] · slices_S3x4x65536x128_S1x4x65536x128_2_0_0_0) main_v242
  let main_v396 : FVec F S4x65536x128 .f32 := shapeCast S4x65536x128 main_v395 shapeCasts_S1x4x65536x128_S4x65536x128
  let main_cst_123 : FVec F S_ .f32 := constant S_ .f32 0x3F7FFFFE#32
  let main_v397 : FVec F S4x65536x128 .f32 := broadcastInDim S4x65536x128 ![] bcast_S_S4x65536x128 main_cst_123
  let main_v398 : FVec F S4x65536x128 .f32 := mulf main_v396 main_v397
  let main_cst_124 : FVec F S_ .f32 := constant S_ .f32 0x33D6BF95#32
  let main_v399 : FVec F S4x65536x128 .f32 := broadcastInDim S4x65536x128 ![] bcast_S_S4x65536x128 main_cst_124
  let main_v400 : FVec F S4x65536x128 .f32 := addf main_v398 main_v399
  fn_part22 (F := F) main_v18 main_v52 main_v62 main_v242 main_v318 main_v394 main_v400

def fn_part20 {F : FTy → Type} [FloatOps F] (main_v18 : IVec S_ 1) (main_v52 : FVec F S65536x128 .f32) (main_v62 : FVec F S65536x128 .f32) (main_v242 : FVec F S3x4x65536x128 .f32) (main_v318 : FVec F S4x65536x128 .f32) (main_v319 : FVec F S1x65536x128 .f32) (main_v327 : FVec F S4x65536x128 .f32) (main_v331 : FVec F S4x65536x128 .f32) (main_v333 : FVec F S4x65536x128 .f32) (main_v336 : FVec F S4x65536x128 .f32) (main_v362 : FVec F S4x65536x128 .f32) (main_v363 : FVec F S4x65536x128 .f32) (main_cst_113 : FVec F S_ .f32) : IVec S4x128 1 :=
  let main_v364 : FVec F S4x65536x128 .f32 := broadcastInDim S4x65536x128 ![] bcast_S_S4x65536x128 main_cst_113
  let main_v365 : FVec F S4x65536x128 .f32 := addf main_v363 main_v364
  let main_v366 : FVec F S4x65536x128 .f32 := mulf main_v362 main_v336
  let main_cst_114 : FVec F S_ .f32 := constant S_ .f32 0xBBF9C5D7#32
  let main_v367 : FVec F S4x65536x128 .f32 := broadcastInDim S4x65536x128 ![] bcast_S_S4x65536x128 main_cst_114
  let main_v368 : FVec F S4x65536x128 .f32 := addf main_v366 main_v367
  let main_v369 : FVec F S4x65536x128 .f32 := mulf main_v365 main_v333
  let main_cst_115 : FVec F S_ .f32 := constant S_ .f32 0xBB88E4EF#32
  let main_v370 : FVec F S4x65536x128 .f32 := broadcastInDim S4x65536x128 ![] bcast_S_S4x65536x128 main_cst_115
  let main_v371 : FVec F S4x65536x128 .f32 := addf main_v369 main_v370
  let main_v372 : FVec F S4x65536x128 .f32 := mulf main_v368 main_v336
  let main_cst_116 : FVec F S_ .f32 := constant S_ .f32 0x3C1AA57E#32
  let main_v373 : FVec F S4x65536x128 .f32 := broadcastInDim S4x65536x128 ![] bcast_S_S4x65536x128 main_cst_116
  let main_v374 : FVec F S4x65536x128 .f32 := addf main_v372 main_v373
  let main_v375 : FVec F S4x65536x128 .f32 := mulf main_v371 main_v333
  let main_cst_117 : FVec F S_ .f32 := constant S_ .f32 0x3E7C8F63#32
  let main_v376 : FVec F S4x65536x128 .f32 := broadcastInDim S4x65536x128 ![] bcast_S_S4x65536x128 main_cst_117
  let main_v377 : FVec F S4x65536x128 .f32 := addf main_v375 main_v376
  let main_v378 : FVec F S4x65536x128 .f32 := mulf main_v374 main_v336
  let main_cst_118 : FVec F S_ .f32 := constant S_ .f32 0x3F8036DB#32
  let main_v379 : FVec F S4x65536x128 .f32 := broadcastInDim S4x65536x128 ![] bcast_S_S4x65536x128 main_cst_118
  let main_v380 : FVec F S4x65536x128 .f32 := addf main_v378 main_v379
  let main_v381 : FVec F S4x65536x128 .f32 := mulf main_v377 main_v333
  let main_cst_119 : FVec F S_ .f32 := constant S_ .f32 0x3FC02E2F#32
  fn_part21 (F := F) main_v18 main_v52 main_v62 main_v242 main_v318 main_v319 main_v327 main_v331 main_v336 main_v380 main_v381 main_cst_119

def fn_part19 {F : FTy → Type} [FloatOps F] (main_v18 : IVec S_ 1) (main_v52 : FVec F S65536x128 .f32) (main_v62 : FVec F S65536x128 .f32) (main_v242 : FVec F S3x4x65536x128 .f32) (main_v318 : FVec F S4x65536x128 .f32) (main_v319 : FVec F S1x65536x128 .f32) (main_v327 : FVec F S4x65536x128 .f32) (main_v331 : FVec F S4x65536x128 .f32) (main_v333 : FVec F S4x65536x128 .f32) (main_v336 : FVec F S4x65536x128 .f32) (main_v344 : FVec F S4x65536x128 .f32) (main_v345 : FVec F S4x65536x128 .f32) (main_cst_107 : FVec F S_ .f32) : IVec S4x128 1 :=
  let main_v346 : FVec F S4x65536x128 .f32 := broadcastInDim S4x65536x128 ![] bcast_S_S4x65536x128 main_cst_107
  let main_v347 : FVec F S4x65536x128 .f32 := addf main_v345 main_v346
  let main_v348 : FVec F S4x65536x128 .f32 := mulf main_v344 main_v336
  let main_cst_108 : FVec F S_ .f32 := constant S_ .f32 0x3AB0DC72#32
  let main_v349 : FVec F S4x65536x128 .f32 := broadcastInDim S4x65536x128 ![] bcast_S_S4x65536x128 main_cst_108
  let main_v350 : FVec F S4x65536x128 .f32 := addf main_v348 main_v349
  let main_v351 : FVec F S4x65536x128 .f32 := mulf main_v347 main_v333
  let main_cst_109 : FVec F S_ .f32 := constant S_ .f32 0xB6935AC1#32
  let main_v352 : FVec F S4x65536x128 .f32 := broadcastInDim S4x65536x128 ![] bcast_S_S4x65536x128 main_cst_109
  let main_v353 : FVec F S4x65536x128 .f32 := addf main_v351 main_v352
  let main_v354 : FVec F S4x65536x128 .f32 := mulf main_v350 main_v336
  let main_cst_110 : FVec F S_ .f32 := constant S_ .f32 0xBB70BDE7#32
  let main_v355 : FVec F S4x65536x128 .f32 := broadcastInDim S4x65536x128 ![] bcast_S_S4x65536x128 main_cst_110
  let main_v356 : FVec F S4x65536x128 .f32 := addf main_v354 main_v355
  let main_v357 : FVec F S4x65536x128 .f32 := mulf main_v353 main_v333
  let main_cst_111 : FVec F S_ .f32 := constant S_ .f32 0x396532DB#32
  let main_v358 : FVec F S4x65536x128 .f32 := broadcastInDim S4x65536x128 ![] bcast_S_S4x65536x128 main_cst_111
  let main_v359 : FVec F S4x65536x128 .f32 := addf main_v357 main_v358
  let main_v360 : FVec F S4x65536x128 .f32 := mulf main_v356 main_v336
  let main_cst_112 : FVec F S_ .f32 := constant S_ .f32 0x3BBC127B#32
  let main_v361 : FVec F S4x65536x128 .f32 := broadcastInDim S4x65536x128 ![] bcast_S_S4x65536x128 main_cst_112
  let main_v362 : FVec F S4x65536x128 .f32 := addf main_v360 main_v361
  let main_v363 : FVec F S4x65536x128 .f32 := mulf main_v359 main_v333
  let main_cst_113 : FVec F S_ .f32 := constant S_ .f32 0xBAA45408#32
  fn_part20 (F := F) main_v18 main_v52 main_v62 main_v242 main_v318 main_v319 main_v327 main_v331 main_v333 main_v336 main_v362 main_v363 main_cst_113

def fn_part18 {F : FTy → Type} [FloatOps F] (main_v18 : IVec S_ 1) (main_v52 : FVec F S65536x128 .f32) (main_v62 : FVec F S65536x128 .f32) (main_v242 : FVec F S3x4x65536x128 .f32) (main_v318 : FVec F S4x65536x128 .f32) (main_v319 : FVec F S1x65536x128 .f32) (main_v327 : FVec F S4x65536x128 .f32) (main_v328 : FVec F S4x65536x128 .f32) : IVec S4x128 1 :=
  let main_v329 : FVec F S4x65536x128 .f32 := mulf main_v328 main_v327
  let main_v330 : FVec F S4x65536x128 .f32 := Host.log1p main_v329
  let main_v331 : FVec F S4x65536x128 .f32 := Host.negf main_v330
  let main_cst_101 : FVec F S_ .f32 := constant S_ .f32 0x40200000#32
  let main_v332 : FVec F S4x65536x128 .f32 := broadcastInDim S4x65536x128 ![] bcast_S_S4x65536x128 main_cst_101
  let main_v333 : FVec F S4x65536x128 .f32 := subf main_v331 main_v332
  let main_v334 : FVec F S4x65536x128 .f32 := Host.sqrt main_v331
  let main_cst_102 : FVec F S_ .f32 := constant S_ .f32 0x40400000#32
  let main_v335 : FVec F S4x65536x128 .f32 := broadcastInDim S4x65536x128 ![] bcast_S_S4x65536x128 main_cst_102
  let main_v336 : FVec F S4x65536x128 .f32 := subf main_v334 main_v335
  let main_cst_103 : FVec F S_ .f32 := constant S_ .f32 0x32F16588#32
  let main_v337 : FVec F S4x65536x128 .f32 := broadcastInDim S4x65536x128 ![] bcast_S_S4x65536x128 main_cst_103
  let main_v338 : FVec F S4x65536x128 .f32 := mulf main_v337 main_v333
  let main_cst_104 : FVec F S_ .f32 := constant S_ .f32 0x34B84B36#32
  let main_v339 : FVec F S4x65536x128 .f32 := broadcastInDim S4x65536x128 ![] bcast_S_S4x65536x128 main_cst_104
  let main_v340 : FVec F S4x65536x128 .f32 := addf main_v338 main_v339
  let main_cst_105 : FVec F S_ .f32 := constant S_ .f32 0xB951F09B#32
  let main_v341 : FVec F S4x65536x128 .f32 := broadcastInDim S4x65536x128 ![] bcast_S_S4x65536x128 main_cst_105
  let main_v342 : FVec F S4x65536x128 .f32 := mulf main_v341 main_v336
  let main_cst_106 : FVec F S_ .f32 := constant S_ .f32 0x38D3B56B#32
  let main_v343 : FVec F S4x65536x128 .f32 := broadcastInDim S4x65536x128 ![] bcast_S_S4x65536x128 main_cst_106
  let main_v344 : FVec F S4x65536x128 .f32 := addf main_v342 main_v343
  let main_v345 : FVec F S4x65536x128 .f32 := mulf main_v340 main_v333
  let main_cst_107 : FVec F S_ .f32 := constant S_ .f32 0xB66C7357#32
  fn_part19 (F := F) main_v18 main_v52 main_v62 main_v242 main_v318 main_v319 main_v327 main_v331 main_v333 main_v336 main_v344 main_v345 main_cst_107

def fn_part17 {F : FTy → Type} [FloatOps F] (main_v18 : IVec S_ 1) (main_v52 : FVec F S65536x128 .f32) (main_v62 : FVec F S65536x128 .f32) (main_v242 : FVec F S3x4x65536x128 .f32) (main_v243 : FVec F S1x65536x128 .f32) (main_v251 : FVec F S4x65536x128 .f32) (main_v255 : FVec F S4x65536x128 .f32) (main_v307 : FVec F S4x65536x128 .f32) (main_v308 : FVec F S4x65536x128 .f32) (main_v309 : FVec F S4x65536x128 .f32) : IVec S4x128 1 :=
  let main_v310 : FVec F S4x65536x128 .f32 := addf main_v308 main_v309
  let main_cst_96 : FVec F S_ .f32 := constant S_ .f32 0x40A00000#32
  let main_v311 : FVec F S4x65536x128 .f32 := broadcastInDim S4x65536x128 ![] bcast_S_S4x65536x128 main_cst_96
  let main_v312 : IVec S4x65536x128 1 := cmpf .olt main_v255 main_v311
  let main_v313 : FVec F S4x65536x128 .f32 := fn_where (F := F) main_v312 main_v307 main_v310
  let main_v314 : FVec F S4x65536x128 .f32 := mulf main_v313 main_v251
  let main_cst_97 : FVec F S_ .f32 := constant S_ .f32 0x3A826B00#32
  let main_v315 : FVec F S4x65536x128 .f32 := broadcastInDim S4x65536x128 ![] bcast_S_S4x65536x128 main_cst_97
  let main_v316 : FVec F S4x65536x128 .f32 := mulf main_v314 main_v315
  let main_v317 : FVec F S4x65536x128 .f32 := broadcastInDim S4x65536x128 ![0, 1, 2] bcast_S1x65536x128_S4x65536x128_0_1_2 main_v243
  let main_v318 : FVec F S4x65536x128 .f32 := addf main_v317 main_v316
  let main_v319 : FVec F S1x65536x128 .f32 := broadcastInDim S1x65536x128 ![1, 2] bcast_S65536x128_S1x65536x128_1_2 main_v62
  let main_v320 : FVec F S1x4x65536x128 .f32 := (extractStridedSlice S1x4x65536x128 ![1, 0, 0, 0] · slices_S3x4x65536x128_S1x4x65536x128_1_0_0_0) main_v242
  let main_v321 : FVec F S4x65536x128 .f32 := shapeCast S4x65536x128 main_v320 shapeCasts_S1x4x65536x128_S4x65536x128
  let main_cst_98 : FVec F S_ .f32 := constant S_ .f32 0x40000000#32
  let main_v322 : FVec F S4x65536x128 .f32 := broadcastInDim S4x65536x128 ![] bcast_S_S4x65536x128 main_cst_98
  let main_v323 : FVec F S4x65536x128 .f32 := mulf main_v321 main_v322
  let main_cst_99 : FVec F S_ .f32 := constant S_ .f32 0xBF7FFFFF#32
  let main_v324 : FVec F S4x65536x128 .f32 := broadcastInDim S4x65536x128 ![] bcast_S_S4x65536x128 main_cst_99
  let main_v325 : FVec F S4x65536x128 .f32 := addf main_v323 main_v324
  let main_cst_100 : FVec F S_ .f32 := constant S_ .f32 0xBF7FFFFF#32
  let main_v326 : FVec F S4x65536x128 .f32 := broadcastInDim S4x65536x128 ![] bcast_S_S4x65536x128 main_cst_100
  let main_v327 : FVec F S4x65536x128 .f32 := maximumf main_v326 main_v325
  let main_v328 : FVec F S4x65536x128 .f32 := Host.negf main_v327
  fn_part18 (F := F) main_v18 main_v52 main_v62 main_v242 main_v318 main_v319 main_v327 main_v328

def fn_part16 {F : FTy → Type} [FloatOps F] (main_v18 : IVec S_ 1) (main_v52 : FVec F S65536x128 .f32) (main_v62 : FVec F S65536x128 .f32) (main_v242 : FVec F S3x4x65536x128 .f32) (main_v243 : FVec F S1x65536x128 .f32) (main_v251 : FVec F S4x65536x128 .f32) (main_v255 : FVec F S4x65536x128 .f32) (main_v257 : FVec F S4x65536x128 .f32) (main_v260 : FVec F S4x65536x128 .f32) (main_v289 : FVec F S4x65536x128 .f32) (main_v290 : FVec F S4x65536x128 .f32) (main_v291 : FVec F S4x65536x128 .f32) : IVec S4x128 1 :=
  let main_v292 : FVec F S4x65536x128 .f32 := addf main_v290 main_v291
  let main_v293 : FVec F S4x65536x128 .f32 := mulf main_v289 main_v257
  let main_cst_90 : FVec F S_ .f32 := constant S_ .f32 0xBB88E4EF#32
  let main_v294 : FVec F S4x65536x128 .f32 := broadcastInDim S4x65536x128 ![] bcast_S_S4x65536x128 main_cst_90
  let main_v295 : FVec F S4x65536x128 .f32 := addf main_v293 main_v294
  let main_v296 : FVec F S4x65536x128 .f32 := mulf main_v292 main_v260
  let main_cst_91 : FVec F S_ .f32 := constant S_ .f32 0x3C1AA57E#32
  let main_v297 : FVec F S4x65536x128 .f32 := broadcastInDim S4x65536x128 ![] bcast_S_S4x65536x128 main_cst_91
  let main_v298 : FVec F S4x65536x128 .f32 := addf main_v296 main_v297
  let main_v299 : FVec F S4x65536x128 .f32 := mulf main_v295 main_v257
  let main_cst_92 : FVec F S_ .f32 := constant S_ .f32 0x3E7C8F63#32
  let main_v300 : FVec F S4x65536x128 .f32 := broadcastInDim S4x65536x128 ![] bcast_S_S4x65536x128 main_cst_92
  let main_v301 : FVec F S4x65536x128 .f32 := addf main_v299 main_v300
  let main_v302 : FVec F S4x65536x128 .f32 := mulf main_v298 main_v260
  let main_cst_93 : FVec F S_ .f32 := constant S_ .f32 0x3F8036DB#32
  let main_v303 : FVec F S4x65536x128 .f32 := broadcastInDim S4x65536x128 ![] bcast_S_S4x65536x128 main_cst_93
  let main_v304 : FVec F S4x65536x128 .f32 := addf main_v302 main_v303
  let main_v305 : FVec F S4x65536x128 .f32 := mulf main_v301 main_v257
  let main_cst_94 : FVec F S_ .f32 := constant S_ .f32 0x3FC02E2F#32
  let main_v306 : FVec F S4x65536x128 .f32 := broadcastInDim S4x65536x128 ![] bcast_S_S4x65536x128 main_cst_94
  let main_v307 : FVec F S4x65536x128 .f32 := addf main_v305 main_v306
  let main_v308 : FVec F S4x65536x128 .f32 := mulf main_v304 main_v260
  let main_cst_95 : FVec F S_ .f32 := constant S_ .f32 0x40354F7E#32
  let main_v309 : FVec F S4x65536x128 .f32 := broadcastInDim S4x65536x128 ![] bcast_S_S4x65536x128 main_cst_95
  fn_part17 (F := F) main_v18 main_v52 main_v62 main_v242 main_v243 main_v251 main_v255 main_v307 main_v308 main_v309

def fn_part15 {F : FTy → Type} [FloatOps F] (main_v18 : IVec S_ 1) (main_v52 : FVec F S65536x128 .f32) (main_v62 : FVec F S65536x128 .f32) (main_v242 : FVec F S3x4x65536x128 .f32) (main_v243 : FVec F S1x65536x128 .f32) (main_v251 : FVec F S4x65536x128 .f32) (main_v255 : FVec F S4x65536x128 .f32) (main_v257 : FVec F S4x65536x128 .f32) (main_v260 : FVec F S4x65536x128 .f32) (main_v271 : FVec F S4x65536x128 .f32) (main_v272 : FVec F S4x65536x128 .f32) (main_v273 : FVec F S4x65536x128 .f32) : IVec S4x128 1 :=
  let main_v274 : FVec F S4x65536x128 .f32 := addf main_v272 main_v273
  let main_v275 : FVec F S4x65536x128 .f32 := mulf main_v271 main_v257
  let main_cst_84 : FVec F S_ .f32 := constant S_ .f32 0xB6935AC1#32
  let main_v276 : FVec F S4x65536x128 .f32 := broadcastInDim S4x65536x128 ![] bcast_S_S4x65536x128 main_cst_84
  let main_v277 : FVec F S4x65536x128 .f32 := addf main_v275 main_v276
  let main_v278 : FVec F S4x65536x128 .f32 := mulf main_v274 main_v260
  let main_cst_85 : FVec F S_ .f32 := constant S_ .f32 0xBB70BDE7#32
  let main_v279 : FVec F S4x65536x128 .f32 := broadcastInDim S4x65536x128 ![] bcast_S_S4x65536x128 main_cst_85
  let main_v280 : FVec F S4x65536x128 .f32 := addf main_v278 main_v279
  let main_v281 : FVec F S4x65536x128 .f32 := mulf main_v277 main_v257
  let main_cst_86 : FVec F S_ .f32 := constant S_ .f32 0x396532DB#32
  let main_v282 : FVec F S4x65536x128 .f32 := broadcastInDim S4x65536x128 ![] bcast_S_S4x65536x128 main_cst_86
  let main_v283 : FVec F S4x65536x128 .f32 := addf main_v281 main_v282
  let main_v284 : FVec F S4x65536x128 .f32 := mulf main_v280 main_v260
  let main_cst_87 : FVec F S_ .f32 := constant S_ .f32 0x3BBC127B#32
  let main_v285 : FVec F S4x65536x128 .f32 := broadcastInDim S4x65536x128 ![] bcast_S_S4x65536x128 main_cst_87
  let main_v286 : FVec F S4x65536x128 .f32 := addf main_v284 main_v285
  let main_v287 : FVec F S4x65536x128 .f32 := mulf main_v283 main_v257
  let main_cst_88 : FVec F S_ .f32 := constant S_ .f32 0xBAA45408#32
  let main_v288 : FVec F S4x65536x128 .f32 := broadcastInDim S4x65536x128 ![] bcast_S_S4x65536x128 main_cst_88
  let main_v289 : FVec F S4x65536x128 .f32 := addf main_v287 main_v288
  let main_v290 : FVec F S4x65536x128 .f32 := mulf main_v286 main_v260
  let main_cst_89 : FVec F S_ .f32 := constant S_ .f32 0xBBF9C5D7#32
  let main_v291 : FVec F S4x65536x128 .f32 := broadcastInDim S4x65536x128 ![] bcast_S_S4x65536x128 main_cst_89
  fn_part16 (F := F) main_v18 main_v52 main_v62 main_v242 main_v243 main_v251 main_v255 main_v257 main_v260 main_v289 main_v290 main_v291

def fn_part14 {F : FTy → Type} [FloatOps F] (main_v18 : IVec S_ 1) (main_v52 : FVec F S65536x128 .f32) (main_v62 : FVec F S65536x128 .f32) (main_v242 : FVec F S3x4x65536x128 .f32) (main_v243 : FVec F S1x65536x128 .f32) (main_v251 : FVec F S4x65536x128 .f32) (main_v255 : FVec F S4x65536x128 .f32) (main_v256 : FVec F S4x65536x128 .f32) : IVec S4x128 1 :=
  let main_v257 : FVec F S4x65536x128 .f32 := subf main_v255 main_v256
  let main_v258 : FVec F S4x65536x128 .f32 := Host.sqrt main_v255
  let main_cst_77 : FVec F S_ .f32 := constant S_ .f32 0x40400000#32
  let main_v259 : FVec F S4x65536x128 .f32 := broadcastInDim S4x65536x128 ![] bcast_S_S4x65536x128 main_cst_77
  let main_v260 : FVec F S4x65536x128 .f32 := subf main_v258 main_v259
  let main_cst_78 : FVec F S_ .f32 := constant S_ .f32 0x32F16588#32
  let main_v261 : FVec F S4x65536x128 .f32 := broadcastInDim S4x65536x128 ![] bcast_S_S4x65536x128 main_cst_78
  let main_v262 : FVec F S4x65536x128 .f32 := mulf main_v261 main_v257
  let main_cst_79 : FVec F S_ .f32 := constant S_ .f32 0x34B84B36#32
  let main_v263 : FVec F S4x65536x128 .f32 := broadcastInDim S4x65536x128 ![] bcast_S_S4x65536x128 main_cst_79
  let main_v264 : FVec F S4x65536x128 .f32 := addf main_v262 main_v263
  let main_cst_80 : FVec F S_ .f32 := constant S_ .f32 0xB951F09B#32
  let main_v265 : FVec F S4x65536x128 .f32 := broadcastInDim S4x65536x128 ![] bcast_S_S4x65536x128 main_cst_80
  let main_v266 : FVec F S4x65536x128 .f32 := mulf main_v265 main_v260
  let main_cst_81 : FVec F S_ .f32 := constant S_ .f32 0x38D3B56B#32
  let main_v267 : FVec F S4x65536x128 .f32 := broadcastInDim S4x65536x128 ![] bcast_S_S4x65536x128 main_cst_81
  let main_v268 : FVec F S4x65536x128 .f32 := addf main_v266 main_v267
  let main_v269 : FVec F S4x65536x128 .f32 := mulf main_v264 main_v257
  let main_cst_82 : FVec F S_ .f32 := constant S_ .f32 0xB66C7357#32
  let main_v270 : FVec F S4x65536x128 .f32 := broadcastInDim S4x65536x128 ![] bcast_S_S4x65536x128 main_cst_82
  let main_v271 : FVec F S4x65536x128 .f32 := addf main_v269 main_v270
  let main_v272 : FVec F S4x65536x128 .f32 := mulf main_v268 main_v260
  let main_cst_83 : FVec F S_ .f32 := constant S_ .f32 0x3AB0DC72#32
  let main_v273 : FVec F S4x65536x128 .f32 := broadcastInDim S4x65536x128 ![] bcast_S_S4x65536x128 main_cst_83
  fn_part15 (F := F) main_v18 main_v52 main_v62 main_v242 main_v243 main_v251 main_v255 main_v257 main_v260 main_v271 main_v272 main_v273

def fn_part13 {F : FTy → Type} [FloatOps F] (main_v18 : IVec S_ 1) (main_v52 : FVec F S65536x128 .f32) (main_v62 : FVec F S65536x128 .f32) (main_v237 : IVec S3x4x65536x128 32) (main_c_71 : IVec S_ 32) : IVec S4x128 1 :=
  let main_v238 : IVec S3x4x65536x128 32 := broadcastInDim S3x4x65536x128 ![] bcast_S_S3x4x65536x128 main_c_71
  let main_v239 : IVec S3x4x65536x128 32 := ori main_v237 main_v238
  let main_v240 : FVec F S3x4x65536x128 .f32 := bitcastToFloat .f32 main_v239
  let main_cst_72 : FVec F S_ .f32 := constant S_ .f32 0x3F800000#32
  let main_v241 : FVec F S3x4x65536x128 .f32 := broadcastInDim S3x4x65536x128 ![] bcast_S_S3x4x65536x128 main_cst_72
  let main_v242 : FVec F S3x4x65536x128 .f32 := subf main_v240 main_v241
  let main_v243 : FVec F S1x65536x128 .f32 := broadcastInDim S1x65536x128 ![1, 2] bcast_S65536x128_S1x65536x128_1_2 main_v52
  let main_v244 : FVec F S1x4x65536x128 .f32 := (extractStridedSlice S1x4x65536x128 ![0, 0, 0, 0] · slices_S3x4x65536x128_S1x4x65536x128_0_0_0_0) main_v242
  let main_v245 : FVec F S4x65536x128 .f32 := shapeCast S4x65536x128 main_v244 shapeCasts_S1x4x65536x128_S4x65536x128
  let main_cst_73 : FVec F S_ .f32 := constant S_ .f32 0x40000000#32
  let main_v246 : FVec F S4x65536x128 .f32 := broadcastInDim S4x65536x128 ![] bcast_S_S4x65536x128 main_cst_73
  let main_v247 : FVec F S4x65536x128 .f32 := mulf main_v245 main_v246
  let main_cst_74 : FVec F S_ .f32 := constant S_ .f32 0xBF7FFFFF#32
  let main_v248 : FVec F S4x65536x128 .f32 := broadcastInDim S4x65536x128 ![] bcast_S_S4x65536x128 main_cst_74
  let main_v249 : FVec F S4x65536x128 .f32 := addf main_v247 main_v248
  let main_cst_75 : FVec F S_ .f32 := constant S_ .f32 0xBF7FFFFF#32
  let main_v250 : FVec F S4x65536x128 .f32 := broadcastInDim S4x65536x128 ![] bcast_S_S4x65536x128 main_cst_75
  let main_v251 : FVec F S4x65536x128 .f32 := maximumf main_v250 main_v249
  let main_v252 : FVec F S4x65536x128 .f32 := Host.negf main_v251
  let main_v253 : FVec F S4x65536x128 .f32 := mulf main_v252 main_v251
  let main_v254 : FVec F S4x65536x128 .f32 := Host.log1p main_v253
  let main_v255 : FVec F S4x65536x128 .f32 := Host.negf main_v254
  let main_cst_76 : FVec F S_ .f32 := constant S_ .f32 0x40200000#32
  let main_v256 : FVec F S4x65536x128 .f32 := broadcastInDim S4x65536x128 ![] bcast_S_S4x65536x128 main_cst_76
  fn_part14 (F := F) main_v18 main_v52 main_v62 main_v242 main_v243 main_v251 main_v255 main_v256

def fn_part12 {F : FTy → Type} [FloatOps F] (main_c_9 : IVec S3x1x1x1 32) (main_c_10 : IVec S3x1x1x1 32) (main_v18 : IVec S_ 1) (main_v52 : FVec F S65536x128 .f32) (main_v62 : FVec F S65536x128 .f32) (main_v216 : IVec S3x4x65536x128 32) (main_v217 : IVec S3x4x65536x128 32) (main_v218 : IVec S3x4x65536x128 32) : IVec S4x128 1 :=
  let main_v219 : IVec S3x4x65536x128 32 := Host.shli main_v216 main_v218
  let main_c_67 : IVec S_ 32 := constantI S_ 32 6#32
  let main_v220 : IVec S3x4x65536x128 32 := broadcastInDim S3x4x65536x128 ![] bcast_S_S3x4x65536x128 main_c_67
  let main_v221 : IVec S3x4x65536x128 32 := Host.shrui main_v216 main_v220
  let main_v222 : IVec S3x4x65536x128 32 := ori main_v219 main_v221
  let main_v223 : IVec S3x4x65536x128 32 := xori main_v217 main_v222
  let main_v224 : IVec S3x4x65536x128 32 := addi main_v217 main_v223
  let main_c_68 : IVec S_ 32 := constantI S_ 32 6#32
  let main_v225 : IVec S3x4x65536x128 32 := broadcastInDim S3x4x65536x128 ![] bcast_S_S3x4x65536x128 main_c_68
  let main_v226 : IVec S3x4x65536x128 32 := Host.shli main_v223 main_v225
  let main_c_69 : IVec S_ 32 := constantI S_ 32 26#32
  let main_v227 : IVec S3x4x65536x128 32 := broadcastInDim S3x4x65536x128 ![] bcast_S_S3x4x65536x128 main_c_69
  let main_v228 : IVec S3x4x65536x128 32 := Host.shrui main_v223 main_v227
  let main_v229 : IVec S3x4x65536x128 32 := ori main_v226 main_v228
  let main_v230 : IVec S3x4x65536x128 32 := xori main_v224 main_v229
  let main_v231 : IVec S3x4x65536x128 32 := broadcastInDim S3x4x65536x128 ![0, 1, 2, 3] bcast_S3x1x1x1_S3x4x65536x128_0_1_2_3 main_c_9
  let main_v232 : IVec S3x4x65536x128 32 := addi main_v224 main_v231
  let main_v233 : IVec S3x4x65536x128 32 := broadcastInDim S3x4x65536x128 ![0, 1, 2, 3] bcast_S3x1x1x1_S3x4x65536x128_0_1_2_3 main_c_10
  let main_v234 : IVec S3x4x65536x128 32 := addi main_v230 main_v233
  let main_v235 : IVec S3x4x65536x128 32 := xori main_v232 main_v234
  let main_c_70 : IVec S_ 32 := constantI S_ 32 9#32
  let main_v236 : IVec S3x4x65536x128 32 := broadcastInDim S3x4x65536x128 ![] bcast_S_S3x4x65536x128 main_c_70
  let main_v237 : IVec S3x4x65536x128 32 := Host.shrui main_v235 main_v236
  let main_c_71 : IVec S_ 32 := constantI S_ 32 1065353216#32
  fn_part13 (F := F) main_v18 main_v52 main_v62 main_v237 main_c_71

def fn_part11 {F : FTy → Type} [FloatOps F] (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v192 : IVec S3x4x65536x128 32) (main_v198 : IVec S3x4x65536x128 32) (main_v199 : IVec S3x4x65536x128 32) : IVec S4x128 1 :=
  let main_v200 : IVec S3x4x65536x128 32 := addi main_v192 main_v199
  let main_v201 : IVec S3x4x65536x128 32 := broadcastInDim S3x4x65536x128 ![0, 1, 2, 3] bcast_S3x1x1x1_S3x4x65536x128_0_1_2_3 main_c_8
  let main_v202 : IVec S3x4x65536x128 32 := addi main_v198 main_v201
  let main_v203 : IVec S3x4x65536x128 32 := addi main_v200 main_v202
  let main_c_62 : IVec S_ 32 := constantI S_ 32 13#32
  let main_v204 : IVec S3x4x65536x128 32 := broadcastInDim S3x4x65536x128 ![] bcast_S_S3x4x65536x128 main_c_62
  let main_v205 : IVec S3x4x65536x128 32 := Host.shli main_v202 main_v204
  let main_c_63 : IVec S_ 32 := constantI S_ 32 19#32
  let main_v206 : IVec S3x4x65536x128 32 := broadcastInDim S3x4x65536x128 ![] bcast_S_S3x4x65536x128 main_c_63
  let main_v207 : IVec S3x4x65536x128 32 := Host.shrui main_v202 main_v206
  let main_v208 : IVec S3x4x65536x128 32 := ori main_v205 main_v207
  let main_v209 : IVec S3x4x65536x128 32 := xori main_v203 main_v208
  let main_v210 : IVec S3x4x65536x128 32 := addi main_v203 main_v209
  let main_c_64 : IVec S_ 32 := constantI S_ 32 15#32
  let main_v211 : IVec S3x4x65536x128 32 := broadcastInDim S3x4x65536x128 ![] bcast_S_S3x4x65536x128 main_c_64
  let main_v212 : IVec S3x4x65536x128 32 := Host.shli main_v209 main_v211
  let main_c_65 : IVec S_ 32 := constantI S_ 32 17#32
  let main_v213 : IVec S3x4x65536x128 32 := broadcastInDim S3x4x65536x128 ![] bcast_S_S3x4x65536x128 main_c_65
  let main_v214 : IVec S3x4x65536x128 32 := Host.shrui main_v209 main_v213
  let main_v215 : IVec S3x4x65536x128 32 := ori main_v212 main_v214
  let main_v216 : IVec S3x4x65536x128 32 := xori main_v210 main_v215
  let main_v217 : IVec S3x4x65536x128 32 := addi main_v210 main_v216
  let main_c_66 : IVec S_ 32 := constantI S_ 32 26#32
  let main_v218 : IVec S3x4x65536x128 32 := broadcastInDim S3x4x65536x128 ![] bcast_S_S3x4x65536x128 main_c_66
  fn_part12 (F := F) main_c_9 main_c_10 main_v18 main_v52 main_v62 main_v216 main_v217 main_v218

def fn_part10 {F : FTy → Type} [FloatOps F] (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v177 : IVec S3x4x65536x128 32) (main_v178 : IVec S3x4x65536x128 32) (main_v180 : IVec S3x4x65536x128 32) : IVec S4x128 1 :=
  let main_c_57 : IVec S_ 32 := constantI S_ 32 3#32
  let main_v181 : IVec S3x4x65536x128 32 := broadcastInDim S3x4x65536x128 ![] bcast_S_S3x4x65536x128 main_c_57
  let main_v182 : IVec S3x4x65536x128 32 := Host.shrui main_v177 main_v181
  let main_v183 : IVec S3x4x65536x128 32 := ori main_v180 main_v182
  let main_v184 : IVec S3x4x65536x128 32 := xori main_v178 main_v183
  let main_v185 : IVec S3x4x65536x128 32 := addi main_v178 main_v184
  let main_c_58 : IVec S_ 32 := constantI S_ 32 16#32
  let main_v186 : IVec S3x4x65536x128 32 := broadcastInDim S3x4x65536x128 ![] bcast_S_S3x4x65536x128 main_c_58
  let main_v187 : IVec S3x4x65536x128 32 := Host.shli main_v184 main_v186
  let main_c_59 : IVec S_ 32 := constantI S_ 32 16#32
  let main_v188 : IVec S3x4x65536x128 32 := broadcastInDim S3x4x65536x128 ![] bcast_S_S3x4x65536x128 main_c_59
  let main_v189 : IVec S3x4x65536x128 32 := Host.shrui main_v184 main_v188
  let main_v190 : IVec S3x4x65536x128 32 := ori main_v187 main_v189
  let main_v191 : IVec S3x4x65536x128 32 := xori main_v185 main_v190
  let main_v192 : IVec S3x4x65536x128 32 := addi main_v185 main_v191
  let main_c_60 : IVec S_ 32 := constantI S_ 32 24#32
  let main_v193 : IVec S3x4x65536x128 32 := broadcastInDim S3x4x65536x128 ![] bcast_S_S3x4x65536x128 main_c_60
  let main_v194 : IVec S3x4x65536x128 32 := Host.shli main_v191 main_v193
  let main_c_61 : IVec S_ 32 := constantI S_ 32 8#32
  let main_v195 : IVec S3x4x65536x128 32 := broadcastInDim S3x4x65536x128 ![] bcast_S_S3x4x65536x128 main_c_61
  let main_v196 : IVec S3x4x65536x128 32 := Host.shrui main_v191 main_v195
  let main_v197 : IVec S3x4x65536x128 32 := ori main_v194 main_v196
  let main_v198 : IVec S3x4x65536x128 32 := xori main_v192 main_v197
  let main_v199 : IVec S3x4x65536x128 32 := broadcastInDim S3x4x65536x128 ![0, 1, 2, 3] bcast_S3x1x1x1_S3x4x65536x128_0_1_2_3 main_c_7
  fn_part11 (F := F) main_c_8 main_c_9 main_c_10 main_v18 main_v52 main_v62 main_v192 main_v198 main_v199

def fn_part9 {F : FTy → Type} [FloatOps F] (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v159 : IVec S3x4x65536x128 32) (main_v160 : IVec S3x4x65536x128 32) (main_c_52 : IVec S_ 32) : IVec S4x128 1 :=
  let main_v161 : IVec S3x4x65536x128 32 := broadcastInDim S3x4x65536x128 ![] bcast_S_S3x4x65536x128 main_c_52
  let main_v162 : IVec S3x4x65536x128 32 := Host.shli main_v159 main_v161
  let main_c_53 : IVec S_ 32 := constantI S_ 32 26#32
  let main_v163 : IVec S3x4x65536x128 32 := broadcastInDim S3x4x65536x128 ![] bcast_S_S3x4x65536x128 main_c_53
  let main_v164 : IVec S3x4x65536x128 32 := Host.shrui main_v159 main_v163
  let main_v165 : IVec S3x4x65536x128 32 := ori main_v162 main_v164
  let main_v166 : IVec S3x4x65536x128 32 := xori main_v160 main_v165
  let main_v167 : IVec S3x4x65536x128 32 := broadcastInDim S3x4x65536x128 ![0, 1, 2, 3] bcast_S3x1x1x1_S3x4x65536x128_0_1_2_3 main_c_5
  let main_v168 : IVec S3x4x65536x128 32 := addi main_v160 main_v167
  let main_v169 : IVec S3x4x65536x128 32 := broadcastInDim S3x4x65536x128 ![0, 1, 2, 3] bcast_S3x1x1x1_S3x4x65536x128_0_1_2_3 main_c_6
  let main_v170 : IVec S3x4x65536x128 32 := addi main_v166 main_v169
  let main_v171 : IVec S3x4x65536x128 32 := addi main_v168 main_v170
  let main_c_54 : IVec S_ 32 := constantI S_ 32 17#32
  let main_v172 : IVec S3x4x65536x128 32 := broadcastInDim S3x4x65536x128 ![] bcast_S_S3x4x65536x128 main_c_54
  let main_v173 : IVec S3x4x65536x128 32 := Host.shli main_v170 main_v172
  let main_c_55 : IVec S_ 32 := constantI S_ 32 15#32
  let main_v174 : IVec S3x4x65536x128 32 := broadcastInDim S3x4x65536x128 ![] bcast_S_S3x4x65536x128 main_c_55
  let main_v175 : IVec S3x4x65536x128 32 := Host.shrui main_v170 main_v174
  let main_v176 : IVec S3x4x65536x128 32 := ori main_v173 main_v175
  let main_v177 : IVec S3x4x65536x128 32 := xori main_v171 main_v176
  let main_v178 : IVec S3x4x65536x128 32 := addi main_v171 main_v177
  let main_c_56 : IVec S_ 32 := constantI S_ 32 29#32
  let main_v179 : IVec S3x4x65536x128 32 := broadcastInDim S3x4x65536x128 ![] bcast_S_S3x4x65536x128 main_c_56
  let main_v180 : IVec S3x4x65536x128 32 := Host.shli main_v177 main_v179
  fn_part10 (F := F) main_c_7 main_c_8 main_c_9 main_c_10 main_v18 main_v52 main_v62 main_v177 main_v178 main_v180

def fn_part8 {F : FTy → Type} [FloatOps F] (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v138 : IVec S3x4x65536x128 32) (main_v139 : IVec S3x4x65536x128 32) (main_v141 : IVec S3x4x65536x128 32) (main_c_47 : IVec S_ 32) : IVec S4x128 1 :=
  let main_v142 : IVec S3x4x65536x128 32 := broadcastInDim S3x4x65536x128 ![] bcast_S_S3x4x65536x128 main_c_47
  let main_v143 : IVec S3x4x65536x128 32 := Host.shrui main_v138 main_v142
  let main_v144 : IVec S3x4x65536x128 32 := ori main_v141 main_v143
  let main_v145 : IVec S3x4x65536x128 32 := xori main_v139 main_v144
  let main_v146 : IVec S3x4x65536x128 32 := addi main_v139 main_v145
  let main_c_48 : IVec S_ 32 := constantI S_ 32 15#32
  let main_v147 : IVec S3x4x65536x128 32 := broadcastInDim S3x4x65536x128 ![] bcast_S_S3x4x65536x128 main_c_48
  let main_v148 : IVec S3x4x65536x128 32 := Host.shli main_v145 main_v147
  let main_c_49 : IVec S_ 32 := constantI S_ 32 17#32
  let main_v149 : IVec S3x4x65536x128 32 := broadcastInDim S3x4x65536x128 ![] bcast_S_S3x4x65536x128 main_c_49
  let main_v150 : IVec S3x4x65536x128 32 := Host.shrui main_v145 main_v149
  let main_v151 : IVec S3x4x65536x128 32 := ori main_v148 main_v150
  let main_v152 : IVec S3x4x65536x128 32 := xori main_v146 main_v151
  let main_v153 : IVec S3x4x65536x128 32 := addi main_v146 main_v152
  let main_c_50 : IVec S_ 32 := constantI S_ 32 26#32
  let main_v154 : IVec S3x4x65536x128 32 := broadcastInDim S3x4x65536x128 ![] bcast_S_S3x4x65536x128 main_c_50
  let main_v155 : IVec S3x4x65536x128 32 := Host.shli main_v152 main_v154
  let main_c_51 : IVec S_ 32 := constantI S_ 32 6#32
  let main_v156 : IVec S3x4x65536x128 32 := broadcastInDim S3x4x65536x128 ![] bcast_S_S3x4x65536x128 main_c_51
  let main_v157 : IVec S3x4x65536x128 32 := Host.shrui main_v152 main_v156
  let main_v158 : IVec S3x4x65536x128 32 := ori main_v155 main_v157
  let main_v159 : IVec S3x4x65536x128 32 := xori main_v153 main_v158
  let main_v160 : IVec S3x4x65536x128 32 := addi main_v153 main_v159
  let main_c_52 : IVec S_ 32 := constantI S_ 32 6#32
  fn_part9 (F := F) main_c_5 main_c_6 main_c_7 main_c_8 main_c_9 main_c_10 main_v18 main_v52 main_v62 main_v159 main_v160 main_c_52

def fn_part7 {F : FTy → Type} [FloatOps F] (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v120 : IVec S3x4x65536x128 32) (main_v121 : IVec S3x4x65536x128 32) (main_v122 : IVec S3x4x65536x128 32) : IVec S4x128 1 :=
  let main_v123 : IVec S3x4x65536x128 32 := Host.shli main_v120 main_v122
  let main_c_43 : IVec S_ 32 := constantI S_ 32 16#32
  let main_v124 : IVec S3x4x65536x128 32 := broadcastInDim S3x4x65536x128 ![] bcast_S_S3x4x65536x128 main_c_43
  let main_v125 : IVec S3x4x65536x128 32 := Host.shrui main_v120 main_v124
  let main_v126 : IVec S3x4x65536x128 32 := ori main_v123 main_v125
  let main_v127 : IVec S3x4x65536x128 32 := xori main_v121 main_v126
  let main_v128 : IVec S3x4x65536x128 32 := addi main_v121 main_v127
  let main_c_44 : IVec S_ 32 := constantI S_ 32 24#32
  let main_v129 : IVec S3x4x65536x128 32 := broadcastInDim S3x4x65536x128 ![] bcast_S_S3x4x65536x128 main_c_44
  let main_v130 : IVec S3x4x65536x128 32 := Host.shli main_v127 main_v129
  let main_c_45 : IVec S_ 32 := constantI S_ 32 8#32
  let main_v131 : IVec S3x4x65536x128 32 := broadcastInDim S3x4x65536x128 ![] bcast_S_S3x4x65536x128 main_c_45
  let main_v132 : IVec S3x4x65536x128 32 := Host.shrui main_v127 main_v131
  let main_v133 : IVec S3x4x65536x128 32 := ori main_v130 main_v132
  let main_v134 : IVec S3x4x65536x128 32 := xori main_v128 main_v133
  let main_v135 : IVec S3x4x65536x128 32 := broadcastInDim S3x4x65536x128 ![0, 1, 2, 3] bcast_S3x1x1x1_S3x4x65536x128_0_1_2_3 main_c_3
  let main_v136 : IVec S3x4x65536x128 32 := addi main_v128 main_v135
  let main_v137 : IVec S3x4x65536x128 32 := broadcastInDim S3x4x65536x128 ![0, 1, 2, 3] bcast_S3x1x1x1_S3x4x65536x128_0_1_2_3 main_c_4
  let main_v138 : IVec S3x4x65536x128 32 := addi main_v134 main_v137
  let main_v139 : IVec S3x4x65536x128 32 := addi main_v136 main_v138
  let main_c_46 : IVec S_ 32 := constantI S_ 32 13#32
  let main_v140 : IVec S3x4x65536x128 32 := broadcastInDim S3x4x65536x128 ![] bcast_S_S3x4x65536x128 main_c_46
  let main_v141 : IVec S3x4x65536x128 32 := Host.shli main_v138 main_v140
  let main_c_47 : IVec S_ 32 := constantI S_ 32 19#32
  fn_part8 (F := F) main_c_5 main_c_6 main_c_7 main_c_8 main_c_9 main_c_10 main_v18 main_v52 main_v62 main_v138 main_v139 main_v141 main_c_47

def fn_part6 {F : FTy → Type} [FloatOps F] (main_c_2 : IVec S3x1x1x1 32) (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v96 : IVec S3x4x65536x128 32) (main_v102 : IVec S3x4x65536x128 32) (main_v103 : IVec S3x4x65536x128 32) : IVec S4x128 1 :=
  let main_v104 : IVec S3x4x65536x128 32 := addi main_v96 main_v103
  let main_v105 : IVec S3x4x65536x128 32 := broadcastInDim S3x4x65536x128 ![0, 1, 2, 3] bcast_S3x1x1x1_S3x4x65536x128_0_1_2_3 main_c_2
  let main_v106 : IVec S3x4x65536x128 32 := addi main_v102 main_v105
  let main_v107 : IVec S3x4x65536x128 32 := addi main_v104 main_v106
  let main_c_38 : IVec S_ 32 := constantI S_ 32 17#32
  let main_v108 : IVec S3x4x65536x128 32 := broadcastInDim S3x4x65536x128 ![] bcast_S_S3x4x65536x128 main_c_38
  let main_v109 : IVec S3x4x65536x128 32 := Host.shli main_v106 main_v108
  let main_c_39 : IVec S_ 32 := constantI S_ 32 15#32
  let main_v110 : IVec S3x4x65536x128 32 := broadcastInDim S3x4x65536x128 ![] bcast_S_S3x4x65536x128 main_c_39
  let main_v111 : IVec S3x4x65536x128 32 := Host.shrui main_v106 main_v110
  let main_v112 : IVec S3x4x65536x128 32 := ori main_v109 main_v111
  let main_v113 : IVec S3x4x65536x128 32 := xori main_v107 main_v112
  let main_v114 : IVec S3x4x65536x128 32 := addi main_v107 main_v113
  let main_c_40 : IVec S_ 32 := constantI S_ 32 29#32
  let main_v115 : IVec S3x4x65536x128 32 := broadcastInDim S3x4x65536x128 ![] bcast_S_S3x4x65536x128 main_c_40
  let main_v116 : IVec S3x4x65536x128 32 := Host.shli main_v113 main_v115
  let main_c_41 : IVec S_ 32 := constantI S_ 32 3#32
  let main_v117 : IVec S3x4x65536x128 32 := broadcastInDim S3x4x65536x128 ![] bcast_S_S3x4x65536x128 main_c_41
  let main_v118 : IVec S3x4x65536x128 32 := Host.shrui main_v113 main_v117
  let main_v119 : IVec S3x4x65536x128 32 := ori main_v116 main_v118
  let main_v120 : IVec S3x4x65536x128 32 := xori main_v114 main_v119
  let main_v121 : IVec S3x4x65536x128 32 := addi main_v114 main_v120
  let main_c_42 : IVec S_ 32 := constantI S_ 32 16#32
  let main_v122 : IVec S3x4x65536x128 32 := broadcastInDim S3x4x65536x128 ![] bcast_S_S3x4x65536x128 main_c_42
  fn_part7 (F := F) main_c_3 main_c_4 main_c_5 main_c_6 main_c_7 main_c_8 main_c_9 main_c_10 main_v18 main_v52 main_v62 main_v120 main_v121 main_v122

def fn_part5 {F : FTy → Type} [FloatOps F] (main_c_1 : IVec S3x1x1x1 32) (main_c_2 : IVec S3x1x1x1 32) (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v81 : IVec S3x4x65536x128 32) (main_v82 : IVec S3x4x65536x128 32) (main_v84 : IVec S3x4x65536x128 32) : IVec S4x128 1 :=
  let main_c_33 : IVec S_ 32 := constantI S_ 32 17#32
  let main_v85 : IVec S3x4x65536x128 32 := broadcastInDim S3x4x65536x128 ![] bcast_S_S3x4x65536x128 main_c_33
  let main_v86 : IVec S3x4x65536x128 32 := Host.shrui main_v81 main_v85
  let main_v87 : IVec S3x4x65536x128 32 := ori main_v84 main_v86
  let main_v88 : IVec S3x4x65536x128 32 := xori main_v82 main_v87
  let main_v89 : IVec S3x4x65536x128 32 := addi main_v82 main_v88
  let main_c_34 : IVec S_ 32 := constantI S_ 32 26#32
  let main_v90 : IVec S3x4x65536x128 32 := broadcastInDim S3x4x65536x128 ![] bcast_S_S3x4x65536x128 main_c_34
  let main_v91 : IVec S3x4x65536x128 32 := Host.shli main_v88 main_v90
  let main_c_35 : IVec S_ 32 := constantI S_ 32 6#32
  let main_v92 : IVec S3x4x65536x128 32 := broadcastInDim S3x4x65536x128 ![] bcast_S_S3x4x65536x128 main_c_35
  let main_v93 : IVec S3x4x65536x128 32 := Host.shrui main_v88 main_v92
  let main_v94 : IVec S3x4x65536x128 32 := ori main_v91 main_v93
  let main_v95 : IVec S3x4x65536x128 32 := xori main_v89 main_v94
  let main_v96 : IVec S3x4x65536x128 32 := addi main_v89 main_v95
  let main_c_36 : IVec S_ 32 := constantI S_ 32 6#32
  let main_v97 : IVec S3x4x65536x128 32 := broadcastInDim S3x4x65536x128 ![] bcast_S_S3x4x65536x128 main_c_36
  let main_v98 : IVec S3x4x65536x128 32 := Host.shli main_v95 main_v97
  let main_c_37 : IVec S_ 32 := constantI S_ 32 26#32
  let main_v99 : IVec S3x4x65536x128 32 := broadcastInDim S3x4x65536x128 ![] bcast_S_S3x4x65536x128 main_c_37
  let main_v100 : IVec S3x4x65536x128 32 := Host.shrui main_v95 main_v99
  let main_v101 : IVec S3x4x65536x128 32 := ori main_v98 main_v100
  let main_v102 : IVec S3x4x65536x128 32 := xori main_v96 main_v101
  let main_v103 : IVec S3x4x65536x128 32 := broadcastInDim S3x4x65536x128 ![0, 1, 2, 3] bcast_S3x1x1x1_S3x4x65536x128_0_1_2_3 main_c_1
  fn_part6 (F := F) main_c_2 main_c_3 main_c_4 main_c_5 main_c_6 main_c_7 main_c_8 main_c_9 main_c_10 main_v18 main_v52 main_v62 main_v96 main_v102 main_v103

def fn_part4 {F : FTy → Type} [FloatOps F] (main_c : IVec S3x1x1x1 32) (main_c_0 : IVec S3x1x1x1 32) (main_c_1 : IVec S3x1x1x1 32) (main_c_2 : IVec S3x1x1x1 32) (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v52 : FVec F S65536x128 .f32) (main_v62 : FVec F S65536x128 .f32) (main_v63 : IVec S3x4x65536x128 32) (main_v64 : IVec S3x4x65536x128 32) : IVec S4x128 1 :=
  let main_v65 : IVec S3x4x65536x128 32 := muli main_v63 main_v64
  let main_v66 : IVec S3x4x65536x128 32 := iotaInDim S3x4x65536x128 32 2
  let main_c_29 : IVec S_ 32 := constantI S_ 32 128#32
  let main_v67 : IVec S3x4x65536x128 32 := broadcastInDim S3x4x65536x128 ![] bcast_S_S3x4x65536x128 main_c_29
  let main_v68 : IVec S3x4x65536x128 32 := muli main_v66 main_v67
  let main_v69 : IVec S3x4x65536x128 32 := addi main_v65 main_v68
  let main_v70 : IVec S3x4x65536x128 32 := iotaInDim S3x4x65536x128 32 3
  let main_v71 : IVec S3x4x65536x128 32 := addi main_v69 main_v70
  let main_v72 : IVec S3x4x65536x128 32 := broadcastInDim S3x4x65536x128 ![0, 1, 2, 3] bcast_S3x1x1x1_S3x4x65536x128_0_1_2_3 main_c
  let main_v73 : IVec S3x4x65536x128 32 := broadcastInDim S3x4x65536x128 ![0, 1, 2, 3] bcast_S3x1x1x1_S3x4x65536x128_0_1_2_3 main_c_0
  let main_v74 : IVec S3x4x65536x128 32 := addi main_v71 main_v73
  let main_v75 : IVec S3x4x65536x128 32 := addi main_v72 main_v74
  let main_c_30 : IVec S_ 32 := constantI S_ 32 13#32
  let main_v76 : IVec S3x4x65536x128 32 := broadcastInDim S3x4x65536x128 ![] bcast_S_S3x4x65536x128 main_c_30
  let main_v77 : IVec S3x4x65536x128 32 := Host.shli main_v74 main_v76
  let main_c_31 : IVec S_ 32 := constantI S_ 32 19#32
  let main_v78 : IVec S3x4x65536x128 32 := broadcastInDim S3x4x65536x128 ![] bcast_S_S3x4x65536x128 main_c_31
  let main_v79 : IVec S3x4x65536x128 32 := Host.shrui main_v74 main_v78
  let main_v80 : IVec S3x4x65536x128 32 := ori main_v77 main_v79
  let main_v81 : IVec S3x4x65536x128 32 := xori main_v75 main_v80
  let main_v82 : IVec S3x4x65536x128 32 := addi main_v75 main_v81
  let main_c_32 : IVec S_ 32 := constantI S_ 32 15#32
  let main_v83 : IVec S3x4x65536x128 32 := broadcastInDim S3x4x65536x128 ![] bcast_S_S3x4x65536x128 main_c_32
  let main_v84 : IVec S3x4x65536x128 32 := Host.shli main_v81 main_v83
  fn_part5 (F := F) main_c_1 main_c_2 main_c_3 main_c_4 main_c_5 main_c_6 main_c_7 main_c_8 main_c_9 main_c_10 main_v18 main_v52 main_v62 main_v81 main_v82 main_v84

def fn_part3 {F : FTy → Type} [FloatOps F] (main_c : IVec S3x1x1x1 32) (main_c_0 : IVec S3x1x1x1 32) (main_c_1 : IVec S3x1x1x1 32) (main_c_2 : IVec S3x1x1x1 32) (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v26 : FVec F S65536x128 .f32) (main_v31 : FVec F S65536x128 .f32) (main_v42 : FVec F S16x16 .f32) (main_v45 : FVec F S65536x128 .f32) (main_v46 : FVec F S65536x128 .f32) : IVec S4x128 1 :=
  let main_v47 : FVec F S65536x128 .f32 := mulf main_v46 main_v45
  let main_cst_23 : FVec F S_ .f32 := constant S_ .f32 0x3E4CCCCD#32
  let main_v48 : FVec F S65536x128 .f32 := broadcastInDim S65536x128 ![] bcast_S_S65536x128 main_cst_23
  let main_v49 : FVec F S65536x128 .f32 := mulf main_v48 main_v26
  let main_v50 : FVec F S65536x128 .f32 := addf main_v47 main_v49
  let main_cst_24 : FVec F S_ .f32 := constant S_ .f32 0x3F7D73E9#32
  let main_v51 : FVec F S65536x128 .f32 := broadcastInDim S65536x128 ![] bcast_S_S65536x128 main_cst_24
  let main_v52 : FVec F S65536x128 .f32 := mulf main_v50 main_v51
  let main_v53 : FVec F S16x4096x128 .f32 := shapeCast S16x4096x128 main_v31 shapeCasts_S65536x128_S16x4096x128
  let main_v54 : FVec F S16x4096x128 .f32 := (fun l r => Host.dotGeneral dot_S16x16_S16x4096x128_S16x4096x128_1_0_0_12_n_n none l r) main_v42 main_v53
  let main_v55 : FVec F S65536x128 .f32 := shapeCast S65536x128 main_v54 shapeCasts_S16x4096x128_S65536x128
  let main_cst_25 : FVec F S_ .f32 := constant S_ .f32 0x3F4CCCCD#32
  let main_v56 : FVec F S65536x128 .f32 := broadcastInDim S65536x128 ![] bcast_S_S65536x128 main_cst_25
  let main_v57 : FVec F S65536x128 .f32 := mulf main_v56 main_v55
  let main_cst_26 : FVec F S_ .f32 := constant S_ .f32 0x3E4CCCCD#32
  let main_v58 : FVec F S65536x128 .f32 := broadcastInDim S65536x128 ![] bcast_S_S65536x128 main_cst_26
  let main_v59 : FVec F S65536x128 .f32 := mulf main_v58 main_v31
  let main_v60 : FVec F S65536x128 .f32 := addf main_v57 main_v59
  let main_cst_27 : FVec F S_ .f32 := constant S_ .f32 0x3F7D73E9#32
  let main_v61 : FVec F S65536x128 .f32 := broadcastInDim S65536x128 ![] bcast_S_S65536x128 main_cst_27
  let main_v62 : FVec F S65536x128 .f32 := mulf main_v60 main_v61
  let main_v63 : IVec S3x4x65536x128 32 := iotaInDim S3x4x65536x128 32 1
  let main_c_28 : IVec S_ 32 := constantI S_ 32 8388608#32
  let main_v64 : IVec S3x4x65536x128 32 := broadcastInDim S3x4x65536x128 ![] bcast_S_S3x4x65536x128 main_c_28
  fn_part4 (F := F) main_c main_c_0 main_c_1 main_c_2 main_c_3 main_c_4 main_c_5 main_c_6 main_c_7 main_c_8 main_c_9 main_c_10 main_v18 main_v52 main_v62 main_v63 main_v64

def fn_part2 {F : FTy → Type} [FloatOps F] (main_arg1 : FVec F S65536x128 .f32) (main_arg2 : FVec F S65536x128 .f32) (main_arg4 : FVec F S16x16 .f32) (main_c : IVec S3x1x1x1 32) (main_c_0 : IVec S3x1x1x1 32) (main_c_1 : IVec S3x1x1x1 32) (main_c_2 : IVec S3x1x1x1 32) (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v18 : IVec S_ 1) (main_v20 : FVec F S_ .f32) (main_v21 : FVec F S_ .f32) (main_v26 : FVec F S65536x128 .f32) : IVec S4x128 1 :=
  let main_v27 : FVec F S65536x128 .f32 := broadcastInDim S65536x128 ![] bcast_S_S65536x128 main_v21
  let main_v28 : FVec F S65536x128 .f32 := mulf main_arg1 main_v27
  let main_v29 : FVec F S65536x128 .f32 := broadcastInDim S65536x128 ![] bcast_S_S65536x128 main_v20
  let main_v30 : FVec F S65536x128 .f32 := mulf main_arg2 main_v29
  let main_v31 : FVec F S65536x128 .f32 := addf main_v28 main_v30
  let main_cst_19 : FVec F S_ .f32 := constant S_ .f32 0xFF800000#32
  let main_v32 : FVec F S16 .f32 := (fun x v => Host.reduce FloatOps.maximumf x v reducesTo_S16x16_S16_d1 h_S_) main_arg4 main_cst_19
  let main_cst_20 : FVec F S_ .f32 := constant S_ .f32 0xFF800000#32
  let main_v33 : FVec F S16 .f32 := broadcastInDim S16 ![] bcast_S_S16 main_cst_20
  let main_v34 : FVec F S16 .f32 := maximumf main_v33 main_v32
  let main_v35 : FVec F S16x1 .f32 := broadcastInDim S16x1 ![0] bcast_S16_S16x1_0 main_v34
  let main_v36 : FVec F S16x16 .f32 := broadcastInDim S16x16 ![0, 1] bcast_S16x1_S16x16_0_1 main_v35
  let main_v37 : FVec F S16x16 .f32 := subf main_arg4 main_v36
  let main_v38 : FVec F S16x16 .f32 := Host.exp main_v37
  let main_cst_21 : FVec F S_ .f32 := constant S_ .f32 0x00000000#32
  let main_v39 : FVec F S16 .f32 := (fun x v => Host.reduceAdd x v reducesTo_S16x16_S16_d1 h_S_) main_v38 main_cst_21
  let main_v40 : FVec F S16x1 .f32 := broadcastInDim S16x1 ![0] bcast_S16_S16x1_0 main_v39
  let main_v41 : FVec F S16x16 .f32 := broadcastInDim S16x16 ![0, 1] bcast_S16x1_S16x16_0_1 main_v40
  let main_v42 : FVec F S16x16 .f32 := Host.divf main_v38 main_v41
  let main_v43 : FVec F S16x4096x128 .f32 := shapeCast S16x4096x128 main_v26 shapeCasts_S65536x128_S16x4096x128
  let main_v44 : FVec F S16x4096x128 .f32 := (fun l r => Host.dotGeneral dot_S16x16_S16x4096x128_S16x4096x128_1_0_0_12_n_n none l r) main_v42 main_v43
  let main_v45 : FVec F S65536x128 .f32 := shapeCast S65536x128 main_v44 shapeCasts_S16x4096x128_S65536x128
  let main_cst_22 : FVec F S_ .f32 := constant S_ .f32 0x3F4CCCCD#32
  let main_v46 : FVec F S65536x128 .f32 := broadcastInDim S65536x128 ![] bcast_S_S65536x128 main_cst_22
  fn_part3 (F := F) main_c main_c_0 main_c_1 main_c_2 main_c_3 main_c_4 main_c_5 main_c_6 main_c_7 main_c_8 main_c_9 main_c_10 main_v18 main_v26 main_v31 main_v42 main_v45 main_v46

def fn_part1 {F : FTy → Type} [FloatOps F] (main_arg1 : FVec F S65536x128 .f32) (main_arg2 : FVec F S65536x128 .f32) (main_arg3 : FVec F S16x3 .f32) (main_arg4 : FVec F S16x16 .f32) (main_c : IVec S3x1x1x1 32) (main_c_0 : IVec S3x1x1x1 32) (main_c_1 : IVec S3x1x1x1 32) (main_c_2 : IVec S3x1x1x1 32) (main_c_3 : IVec S3x1x1x1 32) (main_c_4 : IVec S3x1x1x1 32) (main_c_5 : IVec S3x1x1x1 32) (main_c_6 : IVec S3x1x1x1 32) (main_c_7 : IVec S3x1x1x1 32) (main_c_8 : IVec S3x1x1x1 32) (main_c_9 : IVec S3x1x1x1 32) (main_c_10 : IVec S3x1x1x1 32) (main_v3 : IVec S_ 1) (main_v7 : IVec S_ 1) : IVec S4x128 1 :=
  let main_v8 : IVec S_ 1 := andi main_v3 main_v7
  let main_v9 : FVec F S16x3 .f32 := Host.absf main_arg3
  let main_cst_14 : FVec F S_ .f32 := constant S_ .f32 0x7F800000#32
  let main_v10 : FVec F S16x3 .f32 := broadcastInDim S16x3 ![] bcast_S_S16x3 main_cst_14
  let main_v11 : IVec S16x3 1 := cmpf .olt main_v9 main_v10
  let main_c_15 : IVec S_ 1 := constantI S_ 1 1#1
  let main_v12 : IVec S_ 1 := (fun x v => Host.reduce IntOp.andi x v reducesTo_S16x3_S_d0_1 h_S_) main_v11 main_c_15
  let main_v13 : IVec S_ 1 := andi main_v8 main_v12
  let main_v14 : FVec F S16x16 .f32 := Host.absf main_arg4
  let main_cst_16 : FVec F S_ .f32 := constant S_ .f32 0x7F800000#32
  let main_v15 : FVec F S16x16 .f32 := broadcastInDim S16x16 ![] bcast_S_S16x16 main_cst_16
  let main_v16 : IVec S16x16 1 := cmpf .olt main_v14 main_v15
  let main_c_17 : IVec S_ 1 := constantI S_ 1 1#1
  let main_v17 : IVec S_ 1 := (fun x v => Host.reduce IntOp.andi x v reducesTo_S16x16_S_d0_1 h_S_) main_v16 main_c_17
  let main_v18 : IVec S_ 1 := andi main_v13 main_v17
  let main_cst_18 : FVec F S_ .f32 := constant S_ .f32 0x00000000#32
  let main_v19 : FVec F S_ .f32 := (fun x v => Host.reduceAdd x v reducesTo_S16x3_S_d0_1 h_S_) main_arg3 main_cst_18
  let main_v20 : FVec F S_ .f32 := Host.cos main_v19
  let main_v21 : FVec F S_ .f32 := Host.sin main_v19
  let main_v22 : FVec F S65536x128 .f32 := broadcastInDim S65536x128 ![] bcast_S_S65536x128 main_v20
  let main_v23 : FVec F S65536x128 .f32 := mulf main_arg1 main_v22
  let main_v24 : FVec F S65536x128 .f32 := broadcastInDim S65536x128 ![] bcast_S_S65536x128 main_v21
  let main_v25 : FVec F S65536x128 .f32 := mulf main_arg2 main_v24
  let main_v26 : FVec F S65536x128 .f32 := subf main_v23 main_v25
  fn_part2 (F := F) main_arg1 main_arg2 main_arg4 main_c main_c_0 main_c_1 main_c_2 main_c_3 main_c_4 main_c_5 main_c_6 main_c_7 main_c_8 main_c_9 main_c_10 main_v18 main_v20 main_v21 main_v26

def fn {F : FTy → Type} [FloatOps F] (main_arg0 : FVec F S4x128 .f32) (main_arg1 : FVec F S65536x128 .f32) (main_arg2 : FVec F S65536x128 .f32) (main_arg3 : FVec F S16x3 .f32) (main_arg4 : FVec F S16x16 .f32) (main_arg5 : FVec F S16x128x128 .f32) (main_arg6 : FVec F S16x128 .f32) : IVec S4x128 1 :=
  let main_c : IVec S3x1x1x1 32 := fun i => lit0 (S3x1x1x1.rowMajor i)
  let main_c_0 : IVec S3x1x1x1 32 := fun i => lit1 (S3x1x1x1.rowMajor i)
  let main_c_1 : IVec S3x1x1x1 32 := fun i => lit2 (S3x1x1x1.rowMajor i)
  let main_c_2 : IVec S3x1x1x1 32 := fun i => lit3 (S3x1x1x1.rowMajor i)
  let main_c_3 : IVec S3x1x1x1 32 := fun i => lit4 (S3x1x1x1.rowMajor i)
  let main_c_4 : IVec S3x1x1x1 32 := fun i => lit5 (S3x1x1x1.rowMajor i)
  let main_c_5 : IVec S3x1x1x1 32 := fun i => lit6 (S3x1x1x1.rowMajor i)
  let main_c_6 : IVec S3x1x1x1 32 := fun i => lit7 (S3x1x1x1.rowMajor i)
  let main_c_7 : IVec S3x1x1x1 32 := fun i => lit8 (S3x1x1x1.rowMajor i)
  let main_c_8 : IVec S3x1x1x1 32 := fun i => lit9 (S3x1x1x1.rowMajor i)
  let main_c_9 : IVec S3x1x1x1 32 := fun i => lit10 (S3x1x1x1.rowMajor i)
  let main_c_10 : IVec S3x1x1x1 32 := fun i => lit11 (S3x1x1x1.rowMajor i)
  let main_v0 : FVec F S65536x128 .f32 := Host.absf main_arg1
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c_11 : IVec S_ 1 := constantI S_ 1 1#1
  let main_v3 : IVec S_ 1 := (fun x v => Host.reduce IntOp.andi x v reducesTo_S65536x128_S_d0_1 h_S_) main_v2 main_c_11
  let main_v4 : FVec F S65536x128 .f32 := Host.absf main_arg2
  let main_cst_12 : FVec F S_ .f32 := constant S_ .f32 0x7F800000#32
  let main_v5 : FVec F S65536x128 .f32 := broadcastInDim S65536x128 ![] bcast_S_S65536x128 main_cst_12
  let main_v6 : IVec S65536x128 1 := cmpf .olt main_v4 main_v5
  let main_c_13 : IVec S_ 1 := constantI S_ 1 1#1
  let main_v7 : IVec S_ 1 := (fun x v => Host.reduce IntOp.andi x v reducesTo_S65536x128_S_d0_1 h_S_) main_v6 main_c_13
  fn_part1 (F := F) main_arg1 main_arg2 main_arg3 main_arg4 main_c main_c_0 main_c_1 main_c_2 main_c_3 main_c_4 main_c_5 main_c_6 main_c_7 main_c_8 main_c_9 main_c_10 main_v3 main_v7
-- ==== Kernel.lean ====
abbrev S4x128 : Shape := ⟨2, ![4, 128]⟩
abbrev S65536x128 : Shape := ⟨2, ![65536, 128]⟩
abbrev S16x3 : Shape := ⟨2, ![16, 3]⟩
abbrev S16x16 : Shape := ⟨2, ![16, 16]⟩
abbrev S16x128x128 : Shape := ⟨3, ![16, 128, 128]⟩
abbrev S16x128 : Shape := ⟨2, ![16, 128]⟩
abbrev S_ : Shape := ⟨0, ![]⟩
abbrev S1 : Shape := ⟨1, ![1]⟩
abbrev S4 : Shape := ⟨1, ![4]⟩
abbrev S16 : Shape := ⟨1, ![16]⟩
abbrev S16x1 : Shape := ⟨2, ![16, 1]⟩
abbrev S16x4096x128 : Shape := ⟨3, ![16, 4096, 128]⟩
abbrev S3x4x128 : Shape := ⟨3, ![3, 4, 128]⟩
abbrev S16x8x128 : Shape := ⟨3, ![16, 8, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1x4x128 : Shape := ⟨3, ![1, 4, 128]⟩
abbrev S1x128x128 : Shape := ⟨3, ![1, 128, 128]⟩
abbrev S128x128 : Shape := ⟨2, ![128, 128]⟩

abbrev nBuf : Space → Nat
  | .hbm => 57
  | .vmem => 17
  | .smem => 1
  | _ => 0

abbrev bufTy : (tb : Table) → Fin (tcTables nBuf tb) → BufTy
  | .hbm, ⟨0, _⟩ => ⟨S4x128, .f32⟩
  | .hbm, ⟨1, _⟩ => ⟨S65536x128, .f32⟩
  | .hbm, ⟨2, _⟩ => ⟨S65536x128, .f32⟩
  | .hbm, ⟨3, _⟩ => ⟨S16x3, .f32⟩
  | .hbm, ⟨4, _⟩ => ⟨S16x16, .f32⟩
  | .hbm, ⟨5, _⟩ => ⟨S16x128x128, .f32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S4, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16x1, .f32⟩
  | .hbm, ⟨28, _⟩ => ⟨S16x16, .f32⟩
  | .hbm, ⟨29, _⟩ => ⟨S16x16, .f32⟩
  | .hbm, ⟨30, _⟩ => ⟨S16x16, .f32⟩
  | .hbm, ⟨31, _⟩ => ⟨S_, .f32⟩
  | .hbm, ⟨32, _⟩ => ⟨S16, .f32⟩
  | .hbm, ⟨33, _⟩ => ⟨S16x1, .f32⟩
  | .hbm, ⟨34, _⟩ => ⟨S16x16, .f32⟩
  | .hbm, ⟨35, _⟩ => ⟨S16x16, .f32⟩
  | .hbm, ⟨36, _⟩ => ⟨S_, .f32⟩
  | .hbm, ⟨37, _⟩ => ⟨S16x16, .f32⟩
  | .hbm, ⟨38, _⟩ => ⟨S16x16, .f32⟩
  | .hbm, ⟨39, _⟩ => ⟨S16x16, .i32⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i1⟩
  | .hbm, ⟨45, _⟩ => ⟨S16x16, .f32⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S16x16, .f32⟩
  | .hbm, ⟨50, _⟩ => ⟨S16x4096x128, .f32⟩
  | .hbm, ⟨51, _⟩ => ⟨S16x4096x128, .f32⟩
  | .hbm, ⟨52, _⟩ => ⟨S3x4x128, .f32⟩
  | .hbm, ⟨53, _⟩ => ⟨S3x4x128, .i32⟩
  | .hbm, ⟨54, _⟩ => ⟨S3x4x128, .f32⟩
  | .hbm, ⟨55, _⟩ => ⟨S3x4x128, .f32⟩
  | .hbm, ⟨56, _⟩ => ⟨S4x128, .f32⟩
  | .local _ .vmem, ⟨0, _⟩ => ⟨S16x8x128, .f32⟩
  | .local _ .vmem, ⟨1, _⟩ => ⟨S16x8x128, .f32⟩
  | .local _ .vmem, ⟨2, _⟩ => ⟨S16x8x128, .f32⟩
  | .local _ .vmem, ⟨3, _⟩ => ⟨S16x8x128, .f32⟩
  | .local _ .vmem, ⟨4, _⟩ => ⟨S16x16, .f32⟩
  | .local _ .vmem, ⟨5, _⟩ => ⟨S3x4x128, .f32⟩
  | .local _ .vmem, ⟨6, _⟩ => ⟨S3x4x128, .i32⟩
  | .local _ .vmem, ⟨7, _⟩ => ⟨S3x4x128, .f32⟩
  | .local _ .vmem, ⟨8, _⟩ => ⟨S3x4x128, .f32⟩
  | .local _ .vmem, ⟨9, _⟩ => ⟨S16x8x128, .i32⟩
  | .local _ .vmem, ⟨10, _⟩ => ⟨S3x4x128, .i32⟩
  | .local _ .vmem, ⟨11, _⟩ => ⟨S3x4x128, .f32⟩
  | .local _ .vmem, ⟨12, _⟩ => ⟨S3x4x128, .f32⟩
  | .local _ .vmem, ⟨13, _⟩ => ⟨S4, .f32⟩
  | .local _ .vmem, ⟨14, _⟩ => ⟨S16x128x128, .f32⟩
  | .local _ .vmem, ⟨15, _⟩ => ⟨S16x128, .f32⟩
  | .local _ .vmem, ⟨16, _⟩ => ⟨S4x128, .f32⟩
  | .local _ .smem, ⟨0, _⟩ => ⟨S4, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v34_3 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x4x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := .none

abbrev stage1_0 : Fin 1 → Memref sig .tc .vmem S3x4x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S3x4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S4x128 : Shape := ⟨2, ![4, 128]⟩
abbrev S65536x128 : Shape := ⟨2, ![65536, 128]⟩
abbrev S16x3 : Shape := ⟨2, ![16, 3]⟩
abbrev S16x16 : Shape := ⟨2, ![16, 16]⟩
abbrev S16x128x128 : Shape := ⟨3, ![16, 128, 128]⟩
abbrev S16x128 : Shape := ⟨2, ![16, 128]⟩
abbrev S3x1x1x1 : Shape := ⟨4, ![3, 1, 1, 1]⟩
abbrev S_ : Shape := ⟨0, ![]⟩
abbrev S16 : Shape := ⟨1, ![16]⟩
abbrev S16x1 : Shape := ⟨2, ![16, 1]⟩
abbrev S16x4096x128 : Shape := ⟨3, ![16, 4096, 128]⟩
abbrev S3x4x65536x128 : Shape := ⟨4, ![3, 4, 65536, 128]⟩
abbrev S1x65536x128 : Shape := ⟨3, ![1, 65536, 128]⟩
abbrev S1x4x65536x128 : Shape := ⟨4, ![1, 4, 65536, 128]⟩
abbrev S4x65536x128 : Shape := ⟨3, ![4, 65536, 128]⟩
abbrev S4x1x128 : Shape := ⟨3, ![4, 1, 128]⟩
abbrev S1x16x1 : Shape := ⟨3, ![1, 16, 1]⟩
abbrev S4x16x128 : Shape := ⟨3, ![4, 16, 128]⟩
abbrev S16x128x4 : Shape := ⟨3, ![16, 128, 4]⟩
abbrev S1x16x128 : Shape := ⟨3, ![1, 16, 128]⟩

abbrev nBuf : Space → Nat
  | .hbm => 550
  | .vmem => 0
  | .smem => 0
  | _ => 0

abbrev hbmTy0_0 (i : Nat) : BufTy := match i % 128 with
  | 0 => ⟨S4x128, .f32⟩
  | 1 => ⟨S65536x128, .f32⟩
  | 2 => ⟨S65536x128, .f32⟩
  | 3 => ⟨S16x3, .f32⟩
  | 4 => ⟨S16x16, .f32⟩
  | 5 => ⟨S16x128x128, .f32⟩
  | 6 => ⟨S16x128, .f32⟩
  | 7 => ⟨S3x1x1x1, .i32⟩
  | 8 => ⟨S3x1x1x1, .i32⟩
  | 9 => ⟨S3x1x1x1, .i32⟩
  | 10 => ⟨S3x1x1x1, .i32⟩
  | 11 => ⟨S3x1x1x1, .i32⟩
  | 12 => ⟨S3x1x1x1, .i32⟩
  | 13 => ⟨S3x1x1x1, .i32⟩
  | 14 => ⟨S3x1x1x1, .i32⟩
  | 15 => ⟨S3x1x1x1, .i32⟩
  | 16 => ⟨S3x1x1x1, .i32⟩
  | 17 => ⟨S3x1x1x1, .i32⟩
  | 18 => ⟨S3x1x1x1, .i32⟩
  | 19 => ⟨S_, .f32⟩
  | 20 => ⟨S_, .f32⟩
  | 21 => ⟨S_, .f32⟩
  | 22 => ⟨S_, .f32⟩
  | 23 => ⟨S65536x128, .f32⟩
  | 24 => ⟨S65536x128, .f32⟩
  | 25 => ⟨S65536x128, .f32⟩
  | 26 => ⟨S65536x128, .f32⟩
  | 27 => ⟨S65536x128, .f32⟩
  | 28 => ⟨S65536x128, .f32⟩
  | 29 => ⟨S65536x128, .f32⟩
  | 30 => ⟨S65536x128, .f32⟩
  | 31 => ⟨S65536x128, .f32⟩
  | 32 => ⟨S65536x128, .f32⟩
  | 33 => ⟨S_, .f32⟩
  | 34 => ⟨S16, .f32⟩
  | 35 => ⟨S_, .f32⟩
  | 36 => ⟨S16, .f32⟩
  | 37 => ⟨S16, .f32⟩
  | 38 => ⟨S16x1, .f32⟩
  | 39 => ⟨S16x16, .f32⟩
  | 40 => ⟨S16x16, .f32⟩
  | 41 => ⟨S16x16, .f32⟩
  | 42 => ⟨S_, .f32⟩
  | 43 => ⟨S16, .f32⟩
  | 44 => ⟨S16x1, .f32⟩
  | 45 => ⟨S16x16, .f32⟩
  | 46 => ⟨S16x16, .f32⟩
  | 47 => ⟨S16x4096x128, .f32⟩
  | 48 => ⟨S16x4096x128, .f32⟩
  | 49 => ⟨S65536x128, .f32⟩
  | 50 => ⟨S_, .f32⟩
  | 51 => ⟨S65536x128, .f32⟩
  | 52 => ⟨S65536x128, .f32⟩
  | 53 => ⟨S_, .f32⟩
  | 54 => ⟨S65536x128, .f32⟩
  | 55 => ⟨S65536x128, .f32⟩
  | 56 => ⟨S65536x128, .f32⟩
  | 57 => ⟨S_, .f32⟩
  | 58 => ⟨S65536x128, .f32⟩
  | 59 => ⟨S65536x128, .f32⟩
  | 60 => ⟨S16x4096x128, .f32⟩
  | 61 => ⟨S16x4096x128, .f32⟩
  | 62 => ⟨S65536x128, .f32⟩
  | 63 => ⟨S_, .f32⟩
  | 64 => ⟨S65536x128, .f32⟩
  | 65 => ⟨S65536x128, .f32⟩
  | 66 => ⟨S_, .f32⟩
  | 67 => ⟨S65536x128, .f32⟩
  | 68 => ⟨S65536x128, .f32⟩
  | 69 => ⟨S65536x128, .f32⟩
  | 70 => ⟨S_, .f32⟩
  | 71 => ⟨S65536x128, .f32⟩
  | 72 => ⟨S65536x128, .f32⟩
  | 73 => ⟨S3x4x65536x128, .i32⟩
  | 74 => ⟨S_, .i32⟩
  | 75 => ⟨S3x4x65536x128, .i32⟩
  | 76 => ⟨S3x4x65536x128, .i32⟩
  | 77 => ⟨S3x4x65536x128, .i32⟩
  | 78 => ⟨S_, .i32⟩
  | 79 => ⟨S3x4x65536x128, .i32⟩
  | 80 => ⟨S3x4x65536x128, .i32⟩
  | 81 => ⟨S3x4x65536x128, .i32⟩
  | 82 => ⟨S3x4x65536x128, .i32⟩
  | 83 => ⟨S3x4x65536x128, .i32⟩
  | 84 => ⟨S3x4x65536x128, .i32⟩
  | 85 => ⟨S3x4x65536x128, .i32⟩
  | 86 => ⟨S3x4x65536x128, .i32⟩
  | 87 => ⟨S3x4x65536x128, .i32⟩
  | 88 => ⟨S_, .i32⟩
  | 89 => ⟨S3x4x65536x128, .i32⟩
  | 90 => ⟨S3x4x65536x128, .i32⟩
  | 91 => ⟨S_, .i32⟩
  | 92 => ⟨S3x4x65536x128, .i32⟩
  | 93 => ⟨S3x4x65536x128, .i32⟩
  | 94 => ⟨S3x4x65536x128, .i32⟩
  | 95 => ⟨S3x4x65536x128, .i32⟩
  | 96 => ⟨S3x4x65536x128, .i32⟩
  | 97 => ⟨S_, .i32⟩
  | 98 => ⟨S3x4x65536x128, .i32⟩
  | 99 => ⟨S3x4x65536x128, .i32⟩
  | 100 => ⟨S_, .i32⟩
  | 101 => ⟨S3x4x65536x128, .i32⟩
  | 102 => ⟨S3x4x65536x128, .i32⟩
  | 103 => ⟨S3x4x65536x128, .i32⟩
  | 104 => ⟨S3x4x65536x128, .i32⟩
  | 105 => ⟨S3x4x65536x128, .i32⟩
  | 106 => ⟨S_, .i32⟩
  | 107 => ⟨S3x4x65536x128, .i32⟩
  | 108 => ⟨S3x4x65536x128, .i32⟩
  | 109 => ⟨S_, .i32⟩
  | 110 => ⟨S3x4x65536x128, .i32⟩
  | 111 => ⟨S3x4x65536x128, .i32⟩
  | 112 => ⟨S3x4x65536x128, .i32⟩
  | 113 => ⟨S3x4x65536x128, .i32⟩
  | 114 => ⟨S3x4x65536x128, .i32⟩
  | 115 => ⟨S_, .i32⟩
  | 116 => ⟨S3x4x65536x128, .i32⟩
  | 117 => ⟨S3x4x65536x128, .i32⟩
  | 118 => ⟨S_, .i32⟩
  | 119 => ⟨S3x4x65536x128, .i32⟩
  | 120 => ⟨S3x4x65536x128, .i32⟩
  | 121 => ⟨S3x4x65536x128, .i32⟩
  | 122 => ⟨S3x4x65536x128, .i32⟩
  | 123 => ⟨S3x4x65536x128, .i32⟩
  | 124 => ⟨S3x4x65536x128, .i32⟩
  | 125 => ⟨S3x4x65536x128, .i32⟩
  | 126 => ⟨S3x4x65536x128, .i32⟩
  | 127 => ⟨S3x4x65536x128, .i32⟩
  | _ => ⟨S4x128, .f32⟩

abbrev hbmTy0_1 (i : Nat) : BufTy := match i % 128 with
  | 0 => ⟨S_, .i32⟩
  | 1 => ⟨S3x4x65536x128, .i32⟩
  | 2 => ⟨S3x4x65536x128, .i32⟩
  | 3 => ⟨S_, .i32⟩
  | 4 => ⟨S3x4x65536x128, .i32⟩
  | 5 => ⟨S3x4x65536x128, .i32⟩
  | 6 => ⟨S3x4x65536x128, .i32⟩
  | 7 => ⟨S3x4x65536x128, .i32⟩
  | 8 => ⟨S3x4x65536x128, .i32⟩
  | 9 => ⟨S_, .i32⟩
  | 10 => ⟨S3x4x65536x128, .i32⟩
  | 11 => ⟨S3x4x65536x128, .i32⟩
  | 12 => ⟨S_, .i32⟩
  | 13 => ⟨S3x4x65536x128, .i32⟩
  | 14 => ⟨S3x4x65536x128, .i32⟩
  | 15 => ⟨S3x4x65536x128, .i32⟩
  | 16 => ⟨S3x4x65536x128, .i32⟩
  | 17 => ⟨S3x4x65536x128, .i32⟩
  | 18 => ⟨S_, .i32⟩
  | 19 => ⟨S3x4x65536x128, .i32⟩
  | 20 => ⟨S3x4x65536x128, .i32⟩
  | 21 => ⟨S_, .i32⟩
  | 22 => ⟨S3x4x65536x128, .i32⟩
  | 23 => ⟨S3x4x65536x128, .i32⟩
  | 24 => ⟨S3x4x65536x128, .i32⟩
  | 25 => ⟨S3x4x65536x128, .i32⟩
  | 26 => ⟨S3x4x65536x128, .i32⟩
  | 27 => ⟨S_, .i32⟩
  | 28 => ⟨S3x4x65536x128, .i32⟩
  | 29 => ⟨S3x4x65536x128, .i32⟩
  | 30 => ⟨S_, .i32⟩
  | 31 => ⟨S3x4x65536x128, .i32⟩
  | 32 => ⟨S3x4x65536x128, .i32⟩
  | 33 => ⟨S3x4x65536x128, .i32⟩
  | 34 => ⟨S3x4x65536x128, .i32⟩
  | 35 => ⟨S3x4x65536x128, .i32⟩
  | 36 => ⟨S3x4x65536x128, .i32⟩
  | 37 => ⟨S3x4x65536x128, .i32⟩
  | 38 => ⟨S3x4x65536x128, .i32⟩
  | 39 => ⟨S3x4x65536x128, .i32⟩
  | 40 => ⟨S_, .i32⟩
  | 41 => ⟨S3x4x65536x128, .i32⟩
  | 42 => ⟨S3x4x65536x128, .i32⟩
  | 43 => ⟨S_, .i32⟩
  | 44 => ⟨S3x4x65536x128, .i32⟩
  | 45 => ⟨S3x4x65536x128, .i32⟩
  | 46 => ⟨S3x4x65536x128, .i32⟩
  | 47 => ⟨S3x4x65536x128, .i32⟩
  | 48 => ⟨S3x4x65536x128, .i32⟩
  | 49 => ⟨S_, .i32⟩
  | 50 => ⟨S3x4x65536x128, .i32⟩
  | 51 => ⟨S3x4x65536x128, .i32⟩
  | 52 => ⟨S_, .i32⟩
  | 53 => ⟨S3x4x65536x128, .i32⟩
  | 54 => ⟨S3x4x65536x128, .i32⟩
  | 55 => ⟨S3x4x65536x128, .i32⟩
  | 56 => ⟨S3x4x65536x128, .i32⟩
  | 57 => ⟨S3x4x65536x128, .i32⟩
  | 58 => ⟨S_, .i32⟩
  | 59 => ⟨S3x4x65536x128, .i32⟩
  | 60 => ⟨S3x4x65536x128, .i32⟩
  | 61 => ⟨S_, .i32⟩
  | 62 => ⟨S3x4x65536x128, .i32⟩
  | 63 => ⟨S3x4x65536x128, .i32⟩
  | 64 => ⟨S3x4x65536x128, .i32⟩
  | 65 => ⟨S3x4x65536x128, .i32⟩
  | 66 => ⟨S3x4x65536x128, .i32⟩
  | 67 => ⟨S_, .i32⟩
  | 68 => ⟨S3x4x65536x128, .i32⟩
  | 69 => ⟨S3x4x65536x128, .i32⟩
  | 70 => ⟨S_, .i32⟩
  | 71 => ⟨S3x4x65536x128, .i32⟩
  | 72 => ⟨S3x4x65536x128, .i32⟩
  | 73 => ⟨S3x4x65536x128, .i32⟩
  | 74 => ⟨S3x4x65536x128, .i32⟩
  | 75 => ⟨S3x4x65536x128, .i32⟩
  | 76 => ⟨S3x4x65536x128, .i32⟩
  | 77 => ⟨S3x4x65536x128, .i32⟩
  | 78 => ⟨S3x4x65536x128, .i32⟩
  | 79 => ⟨S3x4x65536x128, .i32⟩
  | 80 => ⟨S_, .i32⟩
  | 81 => ⟨S3x4x65536x128, .i32⟩
  | 82 => ⟨S3x4x65536x128, .i32⟩
  | 83 => ⟨S_, .i32⟩
  | 84 => ⟨S3x4x65536x128, .i32⟩
  | 85 => ⟨S3x4x65536x128, .i32⟩
  | 86 => ⟨S3x4x65536x128, .i32⟩
  | 87 => ⟨S3x4x65536x128, .i32⟩
  | 88 => ⟨S3x4x65536x128, .i32⟩
  | 89 => ⟨S_, .i32⟩
  | 90 => ⟨S3x4x65536x128, .i32⟩
  | 91 => ⟨S3x4x65536x128, .i32⟩
  | 92 => ⟨S_, .i32⟩
  | 93 => ⟨S3x4x65536x128, .i32⟩
  | 94 => ⟨S3x4x65536x128, .i32⟩
  | 95 => ⟨S3x4x65536x128, .i32⟩
  | 96 => ⟨S3x4x65536x128, .i32⟩
  | 97 => ⟨S3x4x65536x128, .i32⟩
  | 98 => ⟨S_, .i32⟩
  | 99 => ⟨S3x4x65536x128, .i32⟩
  | 100 => ⟨S3x4x65536x128, .i32⟩
  | 101 => ⟨S_, .i32⟩
  | 102 => ⟨S3x4x65536x128, .i32⟩
  | 103 => ⟨S3x4x65536x128, .i32⟩
  | 104 => ⟨S3x4x65536x128, .i32⟩
  | 105 => ⟨S3x4x65536x128, .i32⟩
  | 106 => ⟨S3x4x65536x128, .i32⟩
  | 107 => ⟨S_, .i32⟩
  | 108 => ⟨S3x4x65536x128, .i32⟩
  | 109 => ⟨S3x4x65536x128, .i32⟩
  | 110 => ⟨S_, .i32⟩
  | 111 => ⟨S3x4x65536x128, .i32⟩
  | 112 => ⟨S3x4x65536x128, .i32⟩
  | 113 => ⟨S3x4x65536x128, .i32⟩
  | 114 => ⟨S3x4x65536x128, .i32⟩
  | 115 => ⟨S3x4x65536x128, .i32⟩
  | 116 => ⟨S3x4x65536x128, .i32⟩
  | 117 => ⟨S3x4x65536x128, .i32⟩
  | 118 => ⟨S3x4x65536x128, .i32⟩
  | 119 => ⟨S3x4x65536x128, .i32⟩
  | 120 => ⟨S_, .i32⟩
  | 121 => ⟨S3x4x65536x128, .i32⟩
  | 122 => ⟨S3x4x65536x128, .i32⟩
  | 123 => ⟨S_, .i32⟩
  | 124 => ⟨S3x4x65536x128, .i32⟩
  | 125 => ⟨S3x4x65536x128, .i32⟩
  | 126 => ⟨S3x4x65536x128, .i32⟩
  | 127 => ⟨S3x4x65536x128, .i32⟩
  | _ => ⟨S4x128, .f32⟩

abbrev hbmTy0_2 (i : Nat) : BufTy := match i % 128 with
  | 0 => ⟨S3x4x65536x128, .i32⟩
  | 1 => ⟨S_, .i32⟩
  | 2 => ⟨S3x4x65536x128, .i32⟩
  | 3 => ⟨S3x4x65536x128, .i32⟩
  | 4 => ⟨S_, .i32⟩
  | 5 => ⟨S3x4x65536x128, .i32⟩
  | 6 => ⟨S3x4x65536x128, .i32⟩
  | 7 => ⟨S3x4x65536x128, .i32⟩
  | 8 => ⟨S3x4x65536x128, .i32⟩
  | 9 => ⟨S3x4x65536x128, .i32⟩
  | 10 => ⟨S_, .i32⟩
  | 11 => ⟨S3x4x65536x128, .i32⟩
  | 12 => ⟨S3x4x65536x128, .i32⟩
  | 13 => ⟨S_, .i32⟩
  | 14 => ⟨S3x4x65536x128, .i32⟩
  | 15 => ⟨S3x4x65536x128, .i32⟩
  | 16 => ⟨S3x4x65536x128, .i32⟩
  | 17 => ⟨S3x4x65536x128, .i32⟩
  | 18 => ⟨S3x4x65536x128, .i32⟩
  | 19 => ⟨S_, .i32⟩
  | 20 => ⟨S3x4x65536x128, .i32⟩
  | 21 => ⟨S3x4x65536x128, .i32⟩
  | 22 => ⟨S_, .i32⟩
  | 23 => ⟨S3x4x65536x128, .i32⟩
  | 24 => ⟨S3x4x65536x128, .i32⟩
  | 25 => ⟨S3x4x65536x128, .i32⟩
  | 26 => ⟨S3x4x65536x128, .i32⟩
  | 27 => ⟨S3x4x65536x128, .i32⟩
  | 28 => ⟨S3x4x65536x128, .i32⟩
  | 29 => ⟨S3x4x65536x128, .i32⟩
  | 30 => ⟨S3x4x65536x128, .i32⟩
  | 31 => ⟨S3x4x65536x128, .i32⟩
  | 32 => ⟨S_, .i32⟩
  | 33 => ⟨S3x4x65536x128, .i32⟩
  | 34 => ⟨S3x4x65536x128, .i32⟩
  | 35 => ⟨S_, .i32⟩
  | 36 => ⟨S3x4x65536x128, .i32⟩
  | 37 => ⟨S3x4x65536x128, .i32⟩
  | 38 => ⟨S3x4x65536x128, .f32⟩
  | 39 => ⟨S_, .f32⟩
  | 40 => ⟨S3x4x65536x128, .f32⟩
  | 41 => ⟨S3x4x65536x128, .f32⟩
  | 42 => ⟨S1x65536x128, .f32⟩
  | 43 => ⟨S1x4x65536x128, .f32⟩
  | 44 => ⟨S4x65536x128, .f32⟩
  | 45 => ⟨S_, .f32⟩
  | 46 => ⟨S4x65536x128, .f32⟩
  | 47 => ⟨S4x65536x128, .f32⟩
  | 48 => ⟨S_, .f32⟩
  | 49 => ⟨S4x65536x128, .f32⟩
  | 50 => ⟨S4x65536x128, .f32⟩
  | 51 => ⟨S_, .f32⟩
  | 52 => ⟨S4x65536x128, .f32⟩
  | 53 => ⟨S4x65536x128, .f32⟩
  | 54 => ⟨S4x65536x128, .f32⟩
  | 55 => ⟨S4x65536x128, .f32⟩
  | 56 => ⟨S4x65536x128, .f32⟩
  | 57 => ⟨S4x65536x128, .f32⟩
  | 58 => ⟨S_, .f32⟩
  | 59 => ⟨S4x65536x128, .f32⟩
  | 60 => ⟨S4x65536x128, .f32⟩
  | 61 => ⟨S4x65536x128, .f32⟩
  | 62 => ⟨S_, .f32⟩
  | 63 => ⟨S4x65536x128, .f32⟩
  | 64 => ⟨S4x65536x128, .f32⟩
  | 65 => ⟨S_, .f32⟩
  | 66 => ⟨S4x65536x128, .f32⟩
  | 67 => ⟨S4x65536x128, .f32⟩
  | 68 => ⟨S_, .f32⟩
  | 69 => ⟨S4x65536x128, .f32⟩
  | 70 => ⟨S4x65536x128, .f32⟩
  | 71 => ⟨S_, .f32⟩
  | 72 => ⟨S4x65536x128, .f32⟩
  | 73 => ⟨S4x65536x128, .f32⟩
  | 74 => ⟨S_, .f32⟩
  | 75 => ⟨S4x65536x128, .f32⟩
  | 76 => ⟨S4x65536x128, .f32⟩
  | 77 => ⟨S4x65536x128, .f32⟩
  | 78 => ⟨S_, .f32⟩
  | 79 => ⟨S4x65536x128, .f32⟩
  | 80 => ⟨S4x65536x128, .f32⟩
  | 81 => ⟨S4x65536x128, .f32⟩
  | 82 => ⟨S_, .f32⟩
  | 83 => ⟨S4x65536x128, .f32⟩
  | 84 => ⟨S4x65536x128, .f32⟩
  | 85 => ⟨S4x65536x128, .f32⟩
  | 86 => ⟨S_, .f32⟩
  | 87 => ⟨S4x65536x128, .f32⟩
  | 88 => ⟨S4x65536x128, .f32⟩
  | 89 => ⟨S4x65536x128, .f32⟩
  | 90 => ⟨S_, .f32⟩
  | 91 => ⟨S4x65536x128, .f32⟩
  | 92 => ⟨S4x65536x128, .f32⟩
  | 93 => ⟨S4x65536x128, .f32⟩
  | 94 => ⟨S_, .f32⟩
  | 95 => ⟨S4x65536x128, .f32⟩
  | 96 => ⟨S4x65536x128, .f32⟩
  | 97 => ⟨S4x65536x128, .f32⟩
  | 98 => ⟨S_, .f32⟩
  | 99 => ⟨S4x65536x128, .f32⟩
  | 100 => ⟨S4x65536x128, .f32⟩
  | 101 => ⟨S4x65536x128, .f32⟩
  | 102 => ⟨S_, .f32⟩
  | 103 => ⟨S4x65536x128, .f32⟩
  | 104 => ⟨S4x65536x128, .f32⟩
  | 105 => ⟨S4x65536x128, .f32⟩
  | 106 => ⟨S_, .f32⟩
  | 107 => ⟨S4x65536x128, .f32⟩
  | 108 => ⟨S4x65536x128, .f32⟩
  | 109 => ⟨S4x65536x128, .f32⟩
  | 110 => ⟨S_, .f32⟩
  | 111 => ⟨S4x65536x128, .f32⟩
  | 112 => ⟨S4x65536x128, .f32⟩
  | 113 => ⟨S4x65536x128, .f32⟩
  | 114 => ⟨S_, .f32⟩
  | 115 => ⟨S4x65536x128, .f32⟩
  | 116 => ⟨S4x65536x128, .f32⟩
  | 117 => ⟨S4x65536x128, .f32⟩
  | 118 => ⟨S_, .f32⟩
  | 119 => ⟨S4x65536x128, .f32⟩
  | 120 => ⟨S4x65536x128, .f32⟩
  | 121 => ⟨S4x65536x128, .f32⟩
  | 122 => ⟨S_, .f32⟩
  | 123 => ⟨S4x65536x128, .f32⟩
  | 124 => ⟨S4x65536x128, .f32⟩
  | 125 => ⟨S4x65536x128, .f32⟩
  | 126 => ⟨S_, .f32⟩
  | 127 => ⟨S4x65536x128, .f32⟩
  | _ => ⟨S4x128, .f32⟩

abbrev hbmTy0_3 (i : Nat) : BufTy := match i % 128 with
  | 0 => ⟨S4x65536x128, .f32⟩
  | 1 => ⟨S4x65536x128, .f32⟩
  | 2 => ⟨S_, .f32⟩
  | 3 => ⟨S4x65536x128, .f32⟩
  | 4 => ⟨S4x65536x128, .f32⟩
  | 5 => ⟨S_, .f32⟩
  | 6 => ⟨S4x65536x128, .f32⟩
  | 7 => ⟨S4x65536x128, .i1⟩
  | 8 => ⟨S4x65536x128, .f32⟩
  | 9 => ⟨S4x65536x128, .f32⟩
  | 10 => ⟨S_, .f32⟩
  | 11 => ⟨S4x65536x128, .f32⟩
  | 12 => ⟨S4x65536x128, .f32⟩
  | 13 => ⟨S4x65536x128, .f32⟩
  | 14 => ⟨S4x65536x128, .f32⟩
  | 15 => ⟨S1x65536x128, .f32⟩
  | 16 => ⟨S1x4x65536x128, .f32⟩
  | 17 => ⟨S4x65536x128, .f32⟩
  | 18 => ⟨S_, .f32⟩
  | 19 => ⟨S4x65536x128, .f32⟩
  | 20 => ⟨S4x65536x128, .f32⟩
  | 21 => ⟨S_, .f32⟩
  | 22 => ⟨S4x65536x128, .f32⟩
  | 23 => ⟨S4x65536x128, .f32⟩
  | 24 => ⟨S_, .f32⟩
  | 25 => ⟨S4x65536x128, .f32⟩
  | 26 => ⟨S4x65536x128, .f32⟩
  | 27 => ⟨S4x65536x128, .f32⟩
  | 28 => ⟨S4x65536x128, .f32⟩
  | 29 => ⟨S4x65536x128, .f32⟩
  | 30 => ⟨S4x65536x128, .f32⟩
  | 31 => ⟨S_, .f32⟩
  | 32 => ⟨S4x65536x128, .f32⟩
  | 33 => ⟨S4x65536x128, .f32⟩
  | 34 => ⟨S4x65536x128, .f32⟩
  | 35 => ⟨S_, .f32⟩
  | 36 => ⟨S4x65536x128, .f32⟩
  | 37 => ⟨S4x65536x128, .f32⟩
  | 38 => ⟨S_, .f32⟩
  | 39 => ⟨S4x65536x128, .f32⟩
  | 40 => ⟨S4x65536x128, .f32⟩
  | 41 => ⟨S_, .f32⟩
  | 42 => ⟨S4x65536x128, .f32⟩
  | 43 => ⟨S4x65536x128, .f32⟩
  | 44 => ⟨S_, .f32⟩
  | 45 => ⟨S4x65536x128, .f32⟩
  | 46 => ⟨S4x65536x128, .f32⟩
  | 47 => ⟨S_, .f32⟩
  | 48 => ⟨S4x65536x128, .f32⟩
  | 49 => ⟨S4x65536x128, .f32⟩
  | 50 => ⟨S4x65536x128, .f32⟩
  | 51 => ⟨S_, .f32⟩
  | 52 => ⟨S4x65536x128, .f32⟩
  | 53 => ⟨S4x65536x128, .f32⟩
  | 54 => ⟨S4x65536x128, .f32⟩
  | 55 => ⟨S_, .f32⟩
  | 56 => ⟨S4x65536x128, .f32⟩
  | 57 => ⟨S4x65536x128, .f32⟩
  | 58 => ⟨S4x65536x128, .f32⟩
  | 59 => ⟨S_, .f32⟩
  | 60 => ⟨S4x65536x128, .f32⟩
  | 61 => ⟨S4x65536x128, .f32⟩
  | 62 => ⟨S4x65536x128, .f32⟩
  | 63 => ⟨S_, .f32⟩
  | 64 => ⟨S4x65536x128, .f32⟩
  | 65 => ⟨S4x65536x128, .f32⟩
  | 66 => ⟨S4x65536x128, .f32⟩
  | 67 => ⟨S_, .f32⟩
  | 68 => ⟨S4x65536x128, .f32⟩
  | 69 => ⟨S4x65536x128, .f32⟩
  | 70 => ⟨S4x65536x128, .f32⟩
  | 71 => ⟨S_, .f32⟩
  | 72 => ⟨S4x65536x128, .f32⟩
  | 73 => ⟨S4x65536x128, .f32⟩
  | 74 => ⟨S4x65536x128, .f32⟩
  | 75 => ⟨S_, .f32⟩
  | 76 => ⟨S4x65536x128, .f32⟩
  | 77 => ⟨S4x65536x128, .f32⟩
  | 78 => ⟨S4x65536x128, .f32⟩
  | 79 => ⟨S_, .f32⟩
  | 80 => ⟨S4x65536x128, .f32⟩
  | 81 => ⟨S4x65536x128, .f32⟩
  | 82 => ⟨S4x65536x128, .f32⟩
  | 83 => ⟨S_, .f32⟩
  | 84 => ⟨S4x65536x128, .f32⟩
  | 85 => ⟨S4x65536x128, .f32⟩
  | 86 => ⟨S4x65536x128, .f32⟩
  | 87 => ⟨S_, .f32⟩
  | 88 => ⟨S4x65536x128, .f32⟩
  | 89 => ⟨S4x65536x128, .f32⟩
  | 90 => ⟨S4x65536x128, .f32⟩
  | 91 => ⟨S_, .f32⟩
  | 92 => ⟨S4x65536x128, .f32⟩
  | 93 => ⟨S4x65536x128, .f32⟩
  | 94 => ⟨S4x65536x128, .f32⟩
  | 95 => ⟨S_, .f32⟩
  | 96 => ⟨S4x65536x128, .f32⟩
  | 97 => ⟨S4x65536x128, .f32⟩
  | 98 => ⟨S4x65536x128, .f32⟩
  | 99 => ⟨S_, .f32⟩
  | 100 => ⟨S4x65536x128, .f32⟩
  | 101 => ⟨S4x65536x128, .f32⟩
  | 102 => ⟨S4x65536x128, .f32⟩
  | 103 => ⟨S_, .f32⟩
  | 104 => ⟨S4x65536x128, .f32⟩
  | 105 => ⟨S4x65536x128, .f32⟩
  | 106 => ⟨S_, .f32⟩
  | 107 => ⟨S4x65536x128, .f32⟩
  | 108 => ⟨S4x65536x128, .i1⟩
  | 109 => ⟨S4x65536x128, .f32⟩
  | 110 => ⟨S4x65536x128, .f32⟩
  | 111 => ⟨S_, .f32⟩
  | 112 => ⟨S4x65536x128, .f32⟩
  | 113 => ⟨S4x65536x128, .f32⟩
  | 114 => ⟨S4x65536x128, .f32⟩
  | 115 => ⟨S4x65536x128, .f32⟩
  | 116 => ⟨S1x4x65536x128, .f32⟩
  | 117 => ⟨S4x65536x128, .f32⟩
  | 118 => ⟨S_, .f32⟩
  | 119 => ⟨S4x65536x128, .f32⟩
  | 120 => ⟨S4x65536x128, .f32⟩
  | 121 => ⟨S_, .f32⟩
  | 122 => ⟨S4x65536x128, .f32⟩
  | 123 => ⟨S4x65536x128, .f32⟩
  | 124 => ⟨S_, .f32⟩
  | 125 => ⟨S4x65536x128, .f32⟩
  | 126 => ⟨S4x65536x128, .f32⟩
  | 127 => ⟨S4x65536x128, .f32⟩
  | _ => ⟨S4x128, .f32⟩

abbrev hbmTy0_4 (i : Nat) : BufTy := match i % 128 with
  | 0 => ⟨S4x65536x128, .f32⟩
  | 1 => ⟨S4x65536x128, .f32⟩
  | 2 => ⟨S_, .f32⟩
  | 3 => ⟨S4x65536x128, .f32⟩
  | 4 => ⟨S4x65536x128, .f32⟩
  | 5 => ⟨S4x65536x128, .f32⟩
  | 6 => ⟨S4x65536x128, .f32⟩
  | 7 => ⟨S4x65536x128, .f32⟩
  | 8 => ⟨S4x65536x128, .f32⟩
  | 9 => ⟨S4x65536x128, .f32⟩
  | 10 => ⟨S4x65536x128, .i32⟩
  | 11 => ⟨S_, .f32⟩
  | 12 => ⟨S4x128, .f32⟩
  | 13 => ⟨S4x1x128, .f32⟩
  | 14 => ⟨S4x65536x128, .f32⟩
  | 15 => ⟨S4x65536x128, .i1⟩
  | 16 => ⟨S_, .i32⟩
  | 17 => ⟨S4x65536x128, .i32⟩
  | 18 => ⟨S4x65536x128, .i32⟩
  | 19 => ⟨S_, .i32⟩
  | 20 => ⟨S4x128, .i32⟩
  | 21 => ⟨S4x1x128, .i32⟩
  | 22 => ⟨S16, .i32⟩
  | 23 => ⟨S1x16x1, .i32⟩
  | 24 => ⟨S4x16x128, .i32⟩
  | 25 => ⟨S4x16x128, .i32⟩
  | 26 => ⟨S4x16x128, .i1⟩
  | 27 => ⟨S4x16x128, .f32⟩
  | 28 => ⟨S16x128x4, .f32⟩
  | 29 => ⟨S4x16x128, .f32⟩
  | 30 => ⟨S1x16x128, .f32⟩
  | 31 => ⟨S4x16x128, .f32⟩
  | 32 => ⟨S4x16x128, .f32⟩
  | 33 => ⟨S_, .f32⟩
  | 34 => ⟨S4x128, .f32⟩
  | 35 => ⟨S_, .f32⟩
  | 36 => ⟨S4x128, .f32⟩
  | 37 => ⟨S4x128, .f32⟩
  | _ => ⟨S4x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x128, .f32⟩

abbrev bufTy : (tb : Table) → Fin (tcTables nBuf tb) → BufTy
  | .hbm, ⟨i, _⟩ => hbmTy i
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_c_7 : Ref sig .tc := ⟨.hbm, 15, rfl⟩
abbrev main_c_8 : Ref sig .tc := ⟨.hbm, 16, rfl⟩
abbrev main_c_9 : Ref sig .tc := ⟨.hbm, 17, rfl⟩
abbrev main_c_10 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_11 : Ref sig .tc := ⟨.hbm, 33, rfl⟩
abbrev main_v13 : Ref sig .tc := ⟨.hbm, 34, rfl⟩
abbrev main_cst_12 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_13 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_14 : Ref sig .tc := ⟨.hbm, 50, rfl⟩
abbrev main_v27 : Ref sig .tc := ⟨.hbm, 51, rfl⟩
abbrev main_v28 : Ref sig .tc := ⟨.hbm, 52, rfl⟩
abbrev main_cst_15 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_16 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_17 : Ref sig .tc := ⟨.hbm, 63, rfl⟩
abbrev main_v37 : Ref sig .tc := ⟨.hbm, 64, rfl⟩
abbrev main_v38 : Ref sig .tc := ⟨.hbm, 65, rfl⟩
abbrev main_cst_18 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_19 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_20 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_21 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_22 : Ref sig .tc := ⟨.hbm, 88, rfl⟩
abbrev main_v57 : Ref sig .tc := ⟨.hbm, 89, rfl⟩
abbrev main_v58 : Ref sig .tc := ⟨.hbm, 90, rfl⟩
abbrev main_c_23 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_24 : Ref sig .tc := ⟨.hbm, 97, rfl⟩
abbrev main_v64 : Ref sig .tc := ⟨.hbm, 98, rfl⟩
abbrev main_v65 : Ref sig .tc := ⟨.hbm, 99, rfl⟩
abbrev main_c_25 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_26 : Ref sig .tc := ⟨.hbm, 106, rfl⟩
abbrev main_v71 : Ref sig .tc := ⟨.hbm, 107, rfl⟩
abbrev main_v72 : Ref sig .tc := ⟨.hbm, 108, rfl⟩
abbrev main_c_27 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_28 : Ref sig .tc := ⟨.hbm, 115, rfl⟩
abbrev main_v78 : Ref sig .tc := ⟨.hbm, 116, rfl⟩
abbrev main_v79 : Ref sig .tc := ⟨.hbm, 117, rfl⟩
abbrev main_c_29 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_30 : Ref sig .tc := ⟨.hbm, 128, rfl⟩
abbrev main_v89 : Ref sig .tc := ⟨.hbm, 129, rfl⟩
abbrev main_v90 : Ref sig .tc := ⟨.hbm, 130, rfl⟩
abbrev main_c_31 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_32 : Ref sig .tc := ⟨.hbm, 137, rfl⟩
abbrev main_v96 : Ref sig .tc := ⟨.hbm, 138, rfl⟩
abbrev main_v97 : Ref sig .tc := ⟨.hbm, 139, rfl⟩
abbrev main_c_33 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_34 : Ref sig .tc := ⟨.hbm, 146, rfl⟩
abbrev main_v103 : Ref sig .tc := ⟨.hbm, 147, rfl⟩
abbrev main_v104 : Ref sig .tc := ⟨.hbm, 148, rfl⟩
abbrev main_c_35 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_36 : Ref sig .tc := ⟨.hbm, 155, rfl⟩
abbrev main_v110 : Ref sig .tc := ⟨.hbm, 156, rfl⟩
abbrev main_v111 : Ref sig .tc := ⟨.hbm, 157, rfl⟩
abbrev main_c_37 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_38 : Ref sig .tc := ⟨.hbm, 168, rfl⟩
abbrev main_v121 : Ref sig .tc := ⟨.hbm, 169, rfl⟩
abbrev main_v122 : Ref sig .tc := ⟨.hbm, 170, rfl⟩
abbrev main_c_39 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_c_40 : Ref sig .tc := ⟨.hbm, 177, rfl⟩
abbrev main_v128 : Ref sig .tc := ⟨.hbm, 178, rfl⟩
abbrev main_v129 : Ref sig .tc := ⟨.hbm, 179, rfl⟩
abbrev main_c_41 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_42 : Ref sig .tc := ⟨.hbm, 186, rfl⟩
abbrev main_v135 : Ref sig .tc := ⟨.hbm, 187, rfl⟩
abbrev main_v136 : Ref sig .tc := ⟨.hbm, 188, rfl⟩
abbrev main_c_43 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_c_44 : Ref sig .tc := ⟨.hbm, 195, rfl⟩
abbrev main_v142 : Ref sig .tc := ⟨.hbm, 196, rfl⟩
abbrev main_v143 : Ref sig .tc := ⟨.hbm, 197, rfl⟩
abbrev main_c_45 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_46 : Ref sig .tc := ⟨.hbm, 208, rfl⟩
abbrev main_v153 : Ref sig .tc := ⟨.hbm, 209, rfl⟩
abbrev main_v154 : Ref sig .tc := ⟨.hbm, 210, rfl⟩
abbrev main_c_47 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_c_48 : Ref sig .tc := ⟨.hbm, 217, rfl⟩
abbrev main_v160 : Ref sig .tc := ⟨.hbm, 218, rfl⟩
abbrev main_v161 : Ref sig .tc := ⟨.hbm, 219, rfl⟩
abbrev main_c_49 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_c_50 : Ref sig .tc := ⟨.hbm, 226, rfl⟩
abbrev main_v167 : Ref sig .tc := ⟨.hbm, 227, rfl⟩
abbrev main_v168 : Ref sig .tc := ⟨.hbm, 228, rfl⟩
abbrev main_c_51 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_c_52 : Ref sig .tc := ⟨.hbm, 235, rfl⟩
abbrev main_v174 : Ref sig .tc := ⟨.hbm, 236, rfl⟩
abbrev main_v175 : Ref sig .tc := ⟨.hbm, 237, rfl⟩
abbrev main_c_53 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_c_54 : Ref sig .tc := ⟨.hbm, 248, rfl⟩
abbrev main_v185 : Ref sig .tc := ⟨.hbm, 249, rfl⟩
abbrev main_v186 : Ref sig .tc := ⟨.hbm, 250, rfl⟩
abbrev main_c_55 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_c_56 : Ref sig .tc := ⟨.hbm, 257, rfl⟩
abbrev main_v192 : Ref sig .tc := ⟨.hbm, 258, rfl⟩
abbrev main_v193 : Ref sig .tc := ⟨.hbm, 259, rfl⟩
abbrev main_c_57 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_c_58 : Ref sig .tc := ⟨.hbm, 266, rfl⟩
abbrev main_v199 : Ref sig .tc := ⟨.hbm, 267, rfl⟩
abbrev main_v200 : Ref sig .tc := ⟨.hbm, 268, rfl⟩
abbrev main_c_59 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_c_60 : Ref sig .tc := ⟨.hbm, 275, rfl⟩
abbrev main_v206 : Ref sig .tc := ⟨.hbm, 276, rfl⟩
abbrev main_v207 : Ref sig .tc := ⟨.hbm, 277, rfl⟩
abbrev main_c_61 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_c_62 : Ref sig .tc := ⟨.hbm, 288, rfl⟩
abbrev main_v217 : Ref sig .tc := ⟨.hbm, 289, rfl⟩
abbrev main_v218 : Ref sig .tc := ⟨.hbm, 290, rfl⟩
abbrev main_c_63 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_cst_64 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_cst_65 : Ref sig .tc := ⟨.hbm, 301, rfl⟩
abbrev main_v227 : Ref sig .tc := ⟨.hbm, 302, rfl⟩
abbrev main_v228 : Ref sig .tc := ⟨.hbm, 303, rfl⟩
abbrev main_cst_66 : Ref sig .tc := ⟨.hbm, 304, rfl⟩
abbrev main_v229 : Ref sig .tc := ⟨.hbm, 305, rfl⟩
abbrev main_v230 : Ref sig .tc := ⟨.hbm, 306, rfl⟩
abbrev main_cst_67 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_cst_68 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_cst_69 : Ref sig .tc := ⟨.hbm, 318, rfl⟩
abbrev main_v240 : Ref sig .tc := ⟨.hbm, 319, rfl⟩
abbrev main_v241 : Ref sig .tc := ⟨.hbm, 320, rfl⟩
abbrev main_cst_70 : Ref sig .tc := ⟨.hbm, 321, rfl⟩
abbrev main_v242 : Ref sig .tc := ⟨.hbm, 322, rfl⟩
abbrev main_v243 : Ref sig .tc := ⟨.hbm, 323, rfl⟩
abbrev main_cst_71 : Ref sig .tc := ⟨.hbm, 324, rfl⟩
abbrev main_v244 : Ref sig .tc := ⟨.hbm, 325, rfl⟩
abbrev main_v245 : Ref sig .tc := ⟨.hbm, 326, rfl⟩
abbrev main_cst_72 : Ref sig .tc := ⟨.hbm, 327, rfl⟩
abbrev main_v246 : Ref sig .tc := ⟨.hbm, 328, rfl⟩
abbrev main_v247 : Ref sig .tc := ⟨.hbm, 329, rfl⟩
abbrev main_cst_73 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_cst_74 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_cst_75 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_cst_76 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_cst_77 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_cst_78 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_cst_79 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_cst_80 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_cst_81 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_cst_82 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_cst_83 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_cst_84 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_cst_85 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_cst_86 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_cst_87 : Ref sig .tc := ⟨.hbm, 386, rfl⟩
abbrev main_v290 : Ref sig .tc := ⟨.hbm, 387, rfl⟩
abbrev main_v291 : Ref sig .tc := ⟨.hbm, 388, rfl⟩
abbrev main_cst_88 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_cst_89 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_v301 : Ref sig .tc := ⟨.hbm, 400, rfl⟩
abbrev main_v302 : Ref sig .tc := ⟨.hbm, 401, rfl⟩
abbrev main_cst_90 : Ref sig .tc := ⟨.hbm, 402, rfl⟩
abbrev main_v303 : Ref sig .tc := ⟨.hbm, 403, rfl⟩
abbrev main_v304 : Ref sig .tc := ⟨.hbm, 404, rfl⟩
abbrev main_cst_91 : Ref sig .tc := ⟨.hbm, 405, rfl⟩
abbrev main_v305 : Ref sig .tc := ⟨.hbm, 406, rfl⟩
abbrev main_v306 : Ref sig .tc := ⟨.hbm, 407, rfl⟩
abbrev main_cst_92 : Ref sig .tc := ⟨.hbm, 408, rfl⟩
abbrev main_v307 : Ref sig .tc := ⟨.hbm, 409, rfl⟩
abbrev main_v308 : Ref sig .tc := ⟨.hbm, 410, rfl⟩
abbrev main_v309 : Ref sig .tc := ⟨.hbm, 411, rfl⟩
abbrev main_v310 : Ref sig .tc := ⟨.hbm, 412, rfl⟩
abbrev main_v311 : Ref sig .tc := ⟨.hbm, 413, rfl⟩
abbrev main_v312 : Ref sig .tc := ⟨.hbm, 414, rfl⟩
abbrev main_cst_93 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_cst_94 : Ref sig .tc := ⟨.hbm, 419, rfl⟩
abbrev main_v316 : Ref sig .tc := ⟨.hbm, 420, rfl⟩
abbrev main_v317 : Ref sig .tc := ⟨.hbm, 421, rfl⟩
abbrev main_cst_95 : Ref sig .tc := ⟨.hbm, 422, rfl⟩
abbrev main_v318 : Ref sig .tc := ⟨.hbm, 423, rfl⟩
abbrev main_v319 : Ref sig .tc := ⟨.hbm, 424, rfl⟩
abbrev main_cst_96 : Ref sig .tc := ⟨.hbm, 425, rfl⟩
abbrev main_v320 : Ref sig .tc := ⟨.hbm, 426, rfl⟩
abbrev main_v321 : Ref sig .tc := ⟨.hbm, 427, rfl⟩
abbrev main_cst_97 : Ref sig .tc := ⟨.hbm, 428, rfl⟩
abbrev main_v322 : Ref sig .tc := ⟨.hbm, 429, rfl⟩
abbrev main_v323 : Ref sig .tc := ⟨.hbm, 430, rfl⟩
abbrev main_cst_98 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_cst_99 : Ref sig .tc := ⟨.hbm, 435, rfl⟩
abbrev main_v327 : Ref sig .tc := ⟨.hbm, 436, rfl⟩
abbrev main_v328 : Ref sig .tc := ⟨.hbm, 437, rfl⟩
abbrev main_v329 : Ref sig .tc := ⟨.hbm, 438, rfl⟩
abbrev main_cst_100 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_cst_101 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_cst_102 : Ref sig .tc := ⟨.hbm, 447, rfl⟩
abbrev main_v336 : Ref sig .tc := ⟨.hbm, 448, rfl⟩
abbrev main_v337 : Ref sig .tc := ⟨.hbm, 449, rfl⟩
abbrev main_v338 : Ref sig .tc := ⟨.hbm, 450, rfl⟩
abbrev main_cst_103 : Ref sig .tc := ⟨.hbm, 451, rfl⟩
abbrev main_v339 : Ref sig .tc := ⟨.hbm, 452, rfl⟩
abbrev main_v340 : Ref sig .tc := ⟨.hbm, 453, rfl⟩
abbrev main_v341 : Ref sig .tc := ⟨.hbm, 454, rfl⟩
abbrev main_cst_104 : Ref sig .tc := ⟨.hbm, 455, rfl⟩
abbrev main_v342 : Ref sig .tc := ⟨.hbm, 456, rfl⟩
abbrev main_v343 : Ref sig .tc := ⟨.hbm, 457, rfl⟩
abbrev main_v344 : Ref sig .tc := ⟨.hbm, 458, rfl⟩
abbrev main_cst_105 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_cst_106 : Ref sig .tc := ⟨.hbm, 463, rfl⟩
abbrev main_v348 : Ref sig .tc := ⟨.hbm, 464, rfl⟩
abbrev main_v349 : Ref sig .tc := ⟨.hbm, 465, rfl⟩
abbrev main_v350 : Ref sig .tc := ⟨.hbm, 466, rfl⟩
abbrev main_cst_107 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_cst_108 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_cst_109 : Ref sig .tc := ⟨.hbm, 475, rfl⟩
abbrev main_v357 : Ref sig .tc := ⟨.hbm, 476, rfl⟩
abbrev main_v358 : Ref sig .tc := ⟨.hbm, 477, rfl⟩
abbrev main_v359 : Ref sig .tc := ⟨.hbm, 478, rfl⟩
abbrev main_cst_110 : Ref sig .tc := ⟨.hbm, 479, rfl⟩
abbrev main_v360 : Ref sig .tc := ⟨.hbm, 480, rfl⟩
abbrev main_v361 : Ref sig .tc := ⟨.hbm, 481, rfl⟩
abbrev main_v362 : Ref sig .tc := ⟨.hbm, 482, rfl⟩
abbrev main_cst_111 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_cst_112 : Ref sig .tc := ⟨.hbm, 487, rfl⟩
abbrev main_v366 : Ref sig .tc := ⟨.hbm, 488, rfl⟩
abbrev main_v367 : Ref sig .tc := ⟨.hbm, 489, rfl⟩
abbrev main_cst_113 : Ref sig .tc := ⟨.hbm, 490, rfl⟩
abbrev main_v368 : Ref sig .tc := ⟨.hbm, 491, rfl⟩
abbrev main_v369 : Ref sig .tc := ⟨.hbm, 492, rfl⟩
abbrev main_v370 : Ref sig .tc := ⟨.hbm, 493, rfl⟩
abbrev main_v371 : Ref sig .tc := ⟨.hbm, 494, rfl⟩
abbrev main_cst_114 : Ref sig .tc := ⟨.hbm, 495, rfl⟩
abbrev main_v372 : Ref sig .tc := ⟨.hbm, 496, rfl⟩
abbrev main_v373 : Ref sig .tc := ⟨.hbm, 497, rfl⟩
abbrev main_v374 : Ref sig .tc := ⟨.hbm, 498, rfl⟩
abbrev main_v375 : Ref sig .tc := ⟨.hbm, 499, rfl⟩
abbrev main_v376 : Ref sig .tc := ⟨.hbm, 500, rfl⟩
abbrev main_v377 : Ref sig .tc := ⟨.hbm, 501, rfl⟩
abbrev main_cst_115 : Ref sig .tc := ⟨.hbm, 502, rfl⟩
abbrev main_v378 : Ref sig .tc := ⟨.hbm, 503, rfl⟩
abbrev main_v379 : Ref sig .tc := ⟨.hbm, 504, rfl⟩
abbrev main_cst_116 : Ref sig .tc := ⟨.hbm, 505, rfl⟩
abbrev main_v380 : Ref sig .tc := ⟨.hbm, 506, rfl⟩
abbrev main_v381 : Ref sig .tc := ⟨.hbm, 507, rfl⟩
abbrev main_cst_117 : Ref sig .tc := ⟨.hbm, 508, rfl⟩
abbrev main_v382 : Ref sig .tc := ⟨.hbm, 509, rfl⟩
abbrev main_v383 : Ref sig .tc := ⟨.hbm, 510, rfl⟩
abbrev main_v384 : Ref sig .tc := ⟨.hbm, 511, rfl⟩
abbrev main_v385 : Ref sig .tc := ⟨.hbm, 512, rfl⟩
abbrev main_v386 : Ref sig .tc := ⟨.hbm, 513, rfl⟩
abbrev main_cst_118 : Ref sig .tc := ⟨.hbm, 514, rfl⟩
abbrev main_v387 : Ref sig .tc := ⟨.hbm, 515, rfl⟩
abbrev main_v388 : Ref sig .tc := ⟨.hbm, 516, rfl⟩
abbrev main_v389 : Ref sig .tc := ⟨.hbm, 517, rfl⟩
abbrev main_v390 : Ref sig .tc := ⟨.hbm, 518, rfl⟩
abbrev main_v391 : Ref sig .tc := ⟨.hbm, 519, rfl⟩
abbrev main_v392 : Ref sig .tc := ⟨.hbm, 520, rfl⟩
abbrev main_v393 : Ref sig .tc := ⟨.hbm, 521, rfl⟩
abbrev main_v394 : Ref sig .tc := ⟨.hbm, 522, rfl⟩
abbrev main_cst_119 : Ref sig .tc := ⟨.hbm, 523, rfl⟩
abbrev main_v395 : Ref sig .tc := ⟨.hbm, 524, rfl⟩
abbrev main_v396 : Ref sig .tc := ⟨.hbm, 525, rfl⟩
abbrev main_v397 : Ref sig .tc := ⟨.hbm, 526, rfl⟩
abbrev main_v398 : Ref sig .tc := ⟨.hbm, 527, rfl⟩
abbrev main_c_120 : Ref sig .tc := ⟨.hbm, 528, rfl⟩
abbrev main_call2_v0 : Ref sig .tc := ⟨.hbm, 529, rfl⟩
abbrev main_v399 : Ref sig .tc := ⟨.hbm, 530, rfl⟩
abbrev main_c_121 : Ref sig .tc := ⟨.hbm, 531, rfl⟩
abbrev main_v400 : Ref sig .tc := ⟨.hbm, 532, rfl⟩
abbrev main_v401 : Ref sig .tc := ⟨.hbm, 533, rfl⟩
abbrev main_v402 : Ref sig .tc := ⟨.hbm, 534, rfl⟩
abbrev main_v403 : Ref sig .tc := ⟨.hbm, 535, rfl⟩
abbrev main_v404 : Ref sig .tc := ⟨.hbm, 536, rfl⟩
abbrev main_v405 : Ref sig .tc := ⟨.hbm, 537, rfl⟩
abbrev main_v406 : Ref sig .tc := ⟨.hbm, 538, rfl⟩
abbrev main_v407 : Ref sig .tc := ⟨.hbm, 539, rfl⟩
abbrev main_v408 : Ref sig .tc := ⟨.hbm, 540, rfl⟩
abbrev main_v409 : Ref sig .tc := ⟨.hbm, 541, rfl⟩
abbrev main_v410 : Ref sig .tc := ⟨.hbm, 542, rfl⟩
abbrev main_v411 : Ref sig .tc := ⟨.hbm, 543, rfl⟩
abbrev main_v412 : Ref sig .tc := ⟨.hbm, 544, rfl⟩
abbrev main_cst_122 : Ref sig .tc := ⟨.hbm, 545, rfl⟩
abbrev main_v413 : Ref sig .tc := ⟨.hbm, 546, rfl⟩
abbrev main_cst_123 : Ref sig .tc := ⟨.hbm, 547, rfl⟩
abbrev main_v414 : Ref sig .tc := ⟨.hbm, 548, rfl⟩
abbrev main_v415 : Ref sig .tc := ⟨.hbm, 549, rfl⟩

abbrev nD : Nat := 1
abbrev τ : Topo := Topo.v7x

variable {F : FTy → Type} [FloatOps F]
-- ==== Proof.KernelIdeal.MainCall.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the buffers' contents where the call starts
variable (V : (c : Dev nD) → (b : Ref sig .tc) → Buf (Elt F) ((c : Thread nD τ).loc b))

/-! # The main call -/

/-! ## The windows' blocks -/

/-- Window `w`'s block at point `t`, read from its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the block is fetched there or not: where it is
    not, the block's place has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether the block is fetched there or not: where it is
    not, the block's place has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether the block is fetched there or not: where it is
    not, the block's place has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether the block is fetched there or not: where it is
    not, the block's place has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition under which the body fills its buffers afresh, from the grid's coordinates. -/
abbrev cond0_0 (i : grid0.Coords) : Prop := (Scalar.cmpi .ne (Scalar.extui (Scalar.cmpi .eq (BitVec.ofNat 32 (i 0).val) 0#32)) 0#32) = 1#1
/-- That condition holds at the first point only. -/
theorem hcond0_0 : ∀ t : Fin cfg0.N, cond0_0 (grid0.coords t) ↔ t.val % 512 = 0 :=
  (fun t => by
    have ht : t.val < 512 := Nat.lt_of_lt_of_eq t.isLt N_0
    have e0 : (grid0.coords t 0).val = t.val / 1 % 512 := Pipeline.Grid.coords_val t 0 (by decide) rfl
    simp only [cond0_0, e0]
    word_cmp
   : ∀ t : Fin grid0.N, cond0_0 (grid0.coords t) ↔ t.val % 512 = 0)

/-! ## The body on any staging buffers -/

/-- One staging buffer of output window 4, through which its contents are stated; which one does not matter. -/
abbrev VO0_4 : View sig .tc .vmem S3x4x128 .f32 := (Memref.whole cc0_stg4_0 : Memref sig .tc .vmem S3x4x128 .f32).view
/-- One staging buffer of output window 5, through which its contents are stated; which one does not matter. -/
abbrev VO0_5 : View sig .tc .vmem S3x4x128 .i32 := (Memref.whole cc0_stg5_0 : Memref sig .tc .vmem S3x4x128 .i32).view
/-- One staging buffer of output window 6, through which its contents are stated; which one does not matter. -/
abbrev VO0_6 : View sig .tc .vmem S3x4x128 .f32 := (Memref.whole cc0_stg6_0 : Memref sig .tc .vmem S3x4x128 .f32).view
/-- One staging buffer of output window 7, through which its contents are stated; which one does not matter. -/
abbrev VO0_7 : View sig .tc .vmem S3x4x128 .f32 := (Memref.whole cc0_stg7_0 : Memref sig .tc .vmem S3x4x128 .f32).view
/-- Each window's staging buffer at point `t`, and that it is a whole buffer. -/
abbrev ms0_0 (t : Fin cfg0.N) : Memref sig .tc .vmem S16x8x128 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer. -/
abbrev ms0_1 (t : Fin cfg0.N) : Memref sig .tc .vmem S16x8x128 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer. -/
abbrev ms0_2 (t : Fin cfg0.N) : Memref sig .tc .vmem S16x16 .f32 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer. -/
abbrev ms0_3 (t : Fin cfg0.N) : Memref sig .tc .smem S4 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer. -/
abbrev ms0_4 (t : Fin cfg0.N) : Memref sig .tc .vmem S3x4x128 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer. -/
abbrev ms0_5 (t : Fin cfg0.N) : Memref sig .tc .vmem S3x4x128 .i32 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer. -/
abbrev ms0_6 (t : Fin cfg0.N) : Memref sig .tc .vmem S3x4x128 .f32 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer. -/
abbrev ms0_7 (t : Fin cfg0.N) : Memref sig .tc .vmem S3x4x128 .f32 := win0_7.stage (cfg0.slots t 7)
/-- Window 7's staging buffer is whole. -/
abbrev hs0_7 (t : Fin cfg0.N) : (ms0_7 t).IsWhole := hstage0_7 ((cfg0.slots t 7).cast nbuf0_7)
/-- The scratch: whole buffers of the kernel's own, passed beside the windows. -/
abbrev scM0_0 : Memref sig .tc .vmem S16x8x128 .i32 := Memref.whole cc0_scratch0
/-- The scratch that the kernel carries between points; what it holds is stated through it. -/
abbrev VS0_0 : View sig .tc .vmem S16x8x128 .i32 := scM0_0.view

/-- The buffers the second call stages its windows in, at any contents: the first call does not touch them. -/
def otherStages (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- What the first call holds beside its windows: its scratch, the second call's staging buffers, the random register. -/
theorem PhiA0_eq (c : Dev nD) :
    (Pipeline.ΦA spec0 c : sProp 𝕄)
      = iprop(iprop((∃ d, owns (c : Thread nD τ) scM0_0 fullShare d) ∗ otherStages c) ∗ (∃ r, prngReg c r)) := by
  unfold Pipeline.ΦA otherStages; rw [scopedRest0_eq]; simp only [scM0_0, owns_whole]; try rfl

set_option maxHeartbeats 1000000 in
/-- The body at the first point, where it fills the outputs and the scratch afresh: from whole staging buffers, the inputs' at
    their blocks and the others' at anything, it ends with the inputs' as they were and the listed pieces written to each output
    and to the scratch, the last piece first. -/
noncomputable def kernelRun0_A (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) :
    Σ' (L4 : List (View.Piece (Elt F) S3x4x128 .f32)), Σ' (L5 : List (View.Piece (Elt F) S3x4x128 .i32)), Σ' (L6 : List (View.Piece (Elt F) S3x4x128 .f32)), Σ' (L7 : List (View.Piece (Elt F) S3x4x128 .f32)), { LS0 : List (View.Piece (Elt F) S16x8x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS0

set_option maxHeartbeats 1000000 in
/-- The body at a later point: from whole staging buffers, the inputs' at their blocks, the outputs' and the scratch at what the
    point before left, it ends with the inputs' and the scratch as they were and the listed pieces written to each output, the
    last piece first. -/
noncomputable def kernelRun0_B (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) :
    Σ' (L4 : List (View.Piece (Elt F) S3x4x128 .f32)), Σ' (L5 : List (View.Piece (Elt F) S3x4x128 .i32)), Σ' (L6 : List (View.Piece (Elt F) S3x4x128 .f32)), Σ' (L7 : List (View.Piece (Elt F) S3x4x128 .f32)), { LS0 : List (View.Piece (Elt F) S16x8x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4 ∗ owns (c : Thread nD τ) arg6 fullShare xo5 ∗ owns (c : Thread nD τ) arg7 fullShare xo6 ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9) K } := by
  refine ⟨?_, ?_, ?_, ?_, [], fun E K => ?run⟩
  case run =>
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; isplitr; · ipureintro; exact harg9.read_unread _
    iexact HS0

/-- The first point's pieces for output 4, one of the whole buffer and three of one entry each, cover the buffer. -/
theorem cover0_A_4 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) (y : S3x4x128.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3).1 ![1, 4, 128] (by sl_kernel_rfl) y

/-- What the first point leaves in output 4's buffer: its pieces, read back. -/
def out0_A_4 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) : Vec F S3x4x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- The first point's pieces for output 5, one of the whole buffer and three of one entry each, cover the buffer. -/
theorem cover0_A_5 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) (y : S3x4x128.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3).2.1 ![1, 4, 128] (by sl_kernel_rfl) y

/-- What the first point leaves in output 5's buffer: its pieces, read back. -/
def out0_A_5 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) : Vec F S3x4x128 .i32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- The first point's pieces for output 6, one of the whole buffer and three of one entry each, cover the buffer. -/
theorem cover0_A_6 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) (y : S3x4x128.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3).2.2.1 ![1, 4, 128] (by sl_kernel_rfl) y

/-- What the first point leaves in output 6's buffer: its pieces, read back. -/
def out0_A_6 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) : Vec F S3x4x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- The first point's pieces for output 7, one of the whole buffer and three of one entry each, cover the buffer. -/
theorem cover0_A_7 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) (y : S3x4x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3).2.2.2.1 ![1, 4, 128] (by sl_kernel_rfl) y

/-- What the first point leaves in output 7's buffer: its pieces, read back. -/
def out0_A_7 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) : Vec F S3x4x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3).2.2.2.1)

/-- The first point's one piece for the scratch covers it. -/
theorem scover0_A_0 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) (y : S16x8x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.2.1 S16x8x128.size (by sl_kernel_rfl) y

/-- What the first point leaves in the scratch: its piece, read back. -/
def sout0_A_0 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : cond0_0 i)
    (x0 : Vec F S16x8x128 .f32) (x1 : Vec F S16x8x128 .f32) (x2 : Vec F S16x16 .f32) (x3 : Vec F S4 .f32) : Vec F S16x8x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3).2.2.2.2.1)

/-- A later point's pieces for output 4, three of one entry each, cover the buffer. -/
theorem cover0_B_4 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) (y : S3x4x128.Idx) :
    ∃ pc ∈ (kernelRun0_B c i arg1 harg1 arg2 harg2 arg3 harg3 arg4 harg4 arg5 harg5 arg6 harg6 arg7 harg7 arg8 harg8 arg9 harg9 hc0 x0 x1 x2 x3 xo4 xo5 xo6 xo7 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo4 xo5 xo6 xo7 xs0).1 S1x4x128.size (by sl_kernel_rfl) y

/-- What a later point leaves in output 4's buffer: its pieces, read back. -/
def out0_B_4 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) : Vec F S3x4x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xo4 xo5 xo6 xo7 xs0).1)

/-- A later point's pieces for output 5, three of one entry each, cover the buffer. -/
theorem cover0_B_5 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) (y : S3x4x128.Idx) :
    ∃ pc ∈ (kernelRun0_B c i arg1 harg1 arg2 harg2 arg3 harg3 arg4 harg4 arg5 harg5 arg6 harg6 arg7 harg7 arg8 harg8 arg9 harg9 hc0 x0 x1 x2 x3 xo4 xo5 xo6 xo7 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo4 xo5 xo6 xo7 xs0).2.1 S1x4x128.size (by sl_kernel_rfl) y

/-- What a later point leaves in output 5's buffer: its pieces, read back. -/
def out0_B_5 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) : Vec F S3x4x128 .i32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 xo4 xo5 xo6 xo7 xs0).2.1)

/-- A later point's pieces for output 6, three of one entry each, cover the buffer. -/
theorem cover0_B_6 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) (y : S3x4x128.Idx) :
    ∃ pc ∈ (kernelRun0_B c i arg1 harg1 arg2 harg2 arg3 harg3 arg4 harg4 arg5 harg5 arg6 harg6 arg7 harg7 arg8 harg8 arg9 harg9 hc0 x0 x1 x2 x3 xo4 xo5 xo6 xo7 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo4 xo5 xo6 xo7 xs0).2.2.1 S1x4x128.size (by sl_kernel_rfl) y

/-- What a later point leaves in output 6's buffer: its pieces, read back. -/
def out0_B_6 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) : Vec F S3x4x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 xo4 xo5 xo6 xo7 xs0).2.2.1)

/-- A later point's pieces for output 7, three of one entry each, cover the buffer. -/
theorem cover0_B_7 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) (y : S3x4x128.Idx) :
    ∃ pc ∈ (kernelRun0_B c i arg1 harg1 arg2 harg2 arg3 harg3 arg4 harg4 arg5 harg5 arg6 harg6 arg7 harg7 arg8 harg8 arg9 harg9 hc0 x0 x1 x2 x3 xo4 xo5 xo6 xo7 xs0).2.2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo4 xo5 xo6 xo7 xs0).2.2.2.1 S1x4x128.size (by sl_kernel_rfl) y

/-- What a later point leaves in output 7's buffer: its pieces, read back. -/
def out0_B_7 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) : Vec F S3x4x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 xo4 xo5 xo6 xo7 xs0).2.2.2.1)

/-- A later point stores nothing into the scratch: it holds what the point before left. -/
def sout0_B_0 (c : Dev nD) (i : grid0.Coords) (arg1 : Memref sig .tc .vmem S16x8x128 .f32) (harg1 : arg1.IsWhole) (arg2 : Memref sig .tc .vmem S16x8x128 .f32) (harg2 : arg2.IsWhole) (arg3 : Memref sig .tc .vmem S16x16 .f32) (harg3 : arg3.IsWhole) (arg4 : Memref sig .tc .smem S4 .f32) (harg4 : arg4.IsWhole) (arg5 : Memref sig .tc .vmem S3x4x128 .f32) (harg5 : arg5.IsWhole) (arg6 : Memref sig .tc .vmem S3x4x128 .i32) (harg6 : arg6.IsWhole) (arg7 : Memref sig .tc .vmem S3x4x128 .f32) (harg7 : arg7.IsWhole) (arg8 : Memref sig .tc .vmem S3x4x128 .f32) (harg8 : arg8.IsWhole) (arg9 : Memref sig .tc .vmem S16x8x128 .i32) (harg9 : arg9.IsWhole) (hc0 : ¬cond0_0 i)
    (x0 : Vec F S16x8x128 .f32) (x1 : Vec F S16x8x128 .f32) (x2 : Vec F S16x16 .f32) (x3 : Vec F S4 .f32) (xo4 : Vec F S3x4x128 .f32) (xo5 : Vec F S3x4x128 .i32) (xo6 : Vec F S3x4x128 .f32) (xo7 : Vec F S3x4x128 .f32) (xs0 : Vec F S16x8x128 .i32) : Vec F S16x8x128 .i32 := xs0

/-! ## What the outputs hold after each point -/

/-- What the outputs' buffers and the scratch hold after the body at position `n`, the outputs in order and then the scratch:
    at the first point what that point leaves, at a later one what it leaves from the contents after `n - 1`. -/
def outsAt0 (c : Dev nD) : (n : ℕ) → n < cfg0.N → Vec F S3x4x128 .f32 × Vec F S3x4x128 .i32 × Vec F S3x4x128 .f32 × Vec F S3x4x128 .f32 × Vec F S16x8x128 .i32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 512 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- The contents after the first point. -/
theorem outsAt0_A (c : Dev nD) (t : Fin cfg0.N) (h0 : t.val % 512 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- The contents after a later point, from those after the point before. -/
theorem outsAt0_B (c : Dev nD) (t : Fin cfg0.N) (h0 : ¬t.val % 512 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- What the core holds beside the windows before position `n`: before the first point every scratch at anything; afterwards the
    carried scratch at what the point before left, the other buffers at anything, and the random register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ otherStages c) ∗ (∃ r, prngReg c r))

/-- Before the first point the invariant is the launch's share. -/
theorem PhiS_zero (c : Dev nD) (n : ℕ) (h : n ≤ cfg0.N) (hz : n = 0) : PhiS V c n h = Pipeline.ΦA spec0 c := by
  subst hz; rfl

/-- After point `n` the scratch holds that point's contents. -/
theorem PhiS_succ (c : Dev nD) (n : ℕ) (hn : n < cfg0.N) :
    PhiS V c (n + 1) hn = iprop(iprop(owns (c : Thread nD τ) scM0_0 fullShare ((outsAt0 V c n hn).2.2.2.2) ∗ otherStages c) ∗ (∃ r, prngReg c r)) := rfl

/-- Before a point that is not the first the scratch holds what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ otherStages c) ∗ (∃ r, prngReg c r)) := by
  cases n with
  | zero => exact absurd rfl hz
  | succ n => rfl

/-! ## The pipeline's proof data -/

/-- The main call's run on core `c`: the arrays as the call finds them; after the body at point `t` each input's buffer at its
    block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
  Φ t := PhiS V c t.val (Nat.le_of_lt_succ t.isLt)
  q _ := fullShare
  owed _ := 0

/-- The call's arrays are the contents at its entry. -/
theorem A_eq0 (c : Dev nD) (w : Fin cfg0.W) : (dat0 V c).A w = V c (Pipeline.arrRef spec0 w) := by
  dsimp only [dat0]

/-- The invariant at a point's start. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window. -/
theorem after0_0 (c : Dev nD) (t : Fin cfg0.N) : (dat0 V c).after 0 t = iblk0 V c 0 t := by dsimp only [dat0]
/-- What the body leaves in window 1. -/
theorem after0_1 (c : Dev nD) (t : Fin cfg0.N) : (dat0 V c).after 1 t = iblk0 V c 1 t := by dsimp only [dat0]
/-- What the body leaves in window 2. -/
theorem after0_2 (c : Dev nD) (t : Fin cfg0.N) : (dat0 V c).after 2 t = iblk0 V c 2 t := by dsimp only [dat0]
/-- What the body leaves in window 3. -/
theorem after0_3 (c : Dev nD) (t : Fin cfg0.N) : (dat0 V c).after 3 t = iblk0 V c 3 t := by dsimp only [dat0]
/-- What the body leaves in window 4. -/
theorem after0_4 (c : Dev nD) (t : Fin cfg0.N) : (dat0 V c).after 4 t = (outsAt0 V c t.val t.isLt).1 := by dsimp only [dat0]
/-- What the body leaves in window 5. -/
theorem after0_5 (c : Dev nD) (t : Fin cfg0.N) : (dat0 V c).after 5 t = (outsAt0 V c t.val t.isLt).2.1 := by dsimp only [dat0]
/-- What the body leaves in window 6. -/
theorem after0_6 (c : Dev nD) (t : Fin cfg0.N) : (dat0 V c).after 6 t = (outsAt0 V c t.val t.isLt).2.2.1 := by dsimp only [dat0]
/-- What the body leaves in window 7. -/
theorem after0_7 (c : Dev nD) (t : Fin cfg0.N) : (dat0 V c).after 7 t = (outsAt0 V c t.val t.isLt).2.2.2.1 := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
/-- Input window 1 holds its block at every point. -/
theorem before0_1 (c : Dev nD) (t : Fin cfg0.N) (d) : (dat0 V c).before 1 t d = iblk0 V c 1 t :=
  before0_1_of V (dat0 V c) (A_eq0 V c 1) (after0_1 V c) t d
/-- Input window 2 holds its block at every point. -/
theorem before0_2 (c : Dev nD) (t : Fin cfg0.N) (d) : (dat0 V c).before 2 t d = iblk0 V c 2 t :=
  before0_2_of V (dat0 V c) (A_eq0 V c 2) (after0_2 V c) t d
/-- Input window 3 holds its block at every point. -/
theorem before0_3 (c : Dev nD) (t : Fin cfg0.N) (d) : (dat0 V c).before 3 t d = iblk0 V c 3 t :=
  before0_3_of V (dat0 V c) (A_eq0 V c 3) (after0_3 V c) t d
/-- At a later point output 4's buffer holds what the body left at the point before: it was not written back between. -/
theorem before0_4_B (c : Dev nD) (t : Fin cfg0.N) (h0 : ¬t.val % 512 = 0) (d) :
    (dat0 V c).before 4 t d = (outsAt0 V c (t.val - 1) (Nat.lt_of_le_of_lt (Nat.sub_le _ _) t.isLt)).1 := by
  have hN : t.val < 512 := lt_of_lt_of_eq t.isLt (show cfg0.N = 512 from N_0)
  rw [Dat.before_out_kept _ 4 rfl t (by omega) (Bool.eq_false_iff.mpr fun h => by have := (flush0_4 _).mp h; dsimp only at this; omega)
    (fun _ => rfl) (fun _ _ => rfl)]
  dsimp only [dat0]
/-- At a later point output 5's buffer holds what the body left at the point before: it was not written back between. -/
theorem before0_5_B (c : Dev nD) (t : Fin cfg0.N) (h0 : ¬t.val % 512 = 0) (d) :
    (dat0 V c).before 5 t d = (outsAt0 V c (t.val - 1) (Nat.lt_of_le_of_lt (Nat.sub_le _ _) t.isLt)).2.1 := by
  have hN : t.val < 512 := lt_of_lt_of_eq t.isLt (show cfg0.N = 512 from N_0)
  rw [Dat.before_out_kept _ 5 rfl t (by omega) (Bool.eq_false_iff.mpr fun h => by have := (flush0_5 _).mp h; dsimp only at this; omega)
    (fun _ => rfl) (fun _ _ => rfl)]
  dsimp only [dat0]
/-- At a later point output 6's buffer holds what the body left at the point before: it was not written back between. -/
theorem before0_6_B (c : Dev nD) (t : Fin cfg0.N) (h0 : ¬t.val % 512 = 0) (d) :
    (dat0 V c).before 6 t d = (outsAt0 V c (t.val - 1) (Nat.lt_of_le_of_lt (Nat.sub_le _ _) t.isLt)).2.2.1 := by
  have hN : t.val < 512 := lt_of_lt_of_eq t.isLt (show cfg0.N = 512 from N_0)
  rw [Dat.before_out_kept _ 6 rfl t (by omega) (Bool.eq_false_iff.mpr fun h => by have := (flush0_6 _).mp h; dsimp only at this; omega)
    (fun _ => rfl) (fun _ _ => rfl)]
  dsimp only [dat0]
/-- At a later point output 7's buffer holds what the body left at the point before: it was not written back between. -/
theorem before0_7_B (c : Dev nD) (t : Fin cfg0.N) (h0 : ¬t.val % 512 = 0) (d) :
    (dat0 V c).before 7 t d = (outsAt0 V c (t.val - 1) (Nat.lt_of_le_of_lt (Nat.sub_le _ _) t.isLt)).2.2.2.1 := by
  have hN : t.val < 512 := lt_of_lt_of_eq t.isLt (show cfg0.N = 512 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body at any point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- The body at any point: the inputs' buffers hold their blocks; at the first point the body fills the outputs and the scratch,
    at a later one it finds there what the point before left; in both it leaves them at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, after0_6, after0_7]
  rw [show (dat0 V c).Φ t.succ = PhiS V c (t.val + 1) t.isLt from rfl, PhiS_succ]
  have hN : t.val < 512 := lt_of_lt_of_eq t.isLt (show cfg0.N = 512 from N_0)
  by_cases h0 : t.val % 512 = 0
  · by_cases hz : t.val = 0
    · rw [PhiS_castSucc V c t, PhiS_zero V c _ _ hz, PhiA0_eq]
      rw [outsAt0_A V c t h0]
      unfold out0_A_4 out0_A_5 out0_A_6 out0_A_7 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      iintro ⟨H0, H1, H2, H3, ⟨%e4, H4⟩, ⟨%e5, H5⟩, ⟨%e6, H6⟩, ⟨%e7, H7⟩, ⟨%es0, HS0⟩⟩
      isplitl [HS0 HR Hg]
      · isplitl [HS0 HR]
        · isplitl [HS0]; swap; · iexact HR
          unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _)
    · exfalso; have hN : t.val < 512 := lt_of_lt_of_eq t.isLt (show cfg0.N = 512 from N_0); omega
  · by_cases hz : t.val = 0
    · exfalso; have hN : t.val < 512 := lt_of_lt_of_eq t.isLt (show cfg0.N = 512 from N_0); omega
    · rw [PhiS_castSucc V c t, PhiS_pos V c _ _ hz]
      rw [outsAt0_B V c t h0]
      simp only [before0_4_B V c t h0, before0_5_B V c t h0, before0_6_B V c t h0, before0_7_B V c t h0]
      unfold out0_B_4 out0_B_5 out0_B_6 out0_B_7 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) _ _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, ⟨%e4, H4⟩, ⟨%e5, H5⟩, ⟨%e6, H6⟩, ⟨%e7, H7⟩, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)

/-- The body run at point `t`, with its buffers named. -/
theorem defs₀_row0 (t : Fin cfg0.N) :
    defs₀ (F := F) .tc cfg0.body (cfg0.bodyArgs t (cfg0.slots t)) = bodyAt0 t := by
  unfold defs₀; rw [Defs.onTc_tc]

/-- The body keeps the call's invariant at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the call is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's share back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]; · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 512 := N_0; omega)

end Regions

end Cert.KernelIdeal.Whole

end
-- ==== Proof.KernelIdeal.Whole.lean ====
module

public import proofs.«01_k».proof.Proof.KernelIdeal.MainCall
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the buffers' contents where the call starts
variable (V : (c : Dev nD) → (b : Ref sig .tc) → Buf (Elt F) ((c : Thread nD τ).loc b))

/-! # The second call, which draws among the three -/

/-! ## The windows' blocks -/

/-- Window `w`'s block at point `t`, read from its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the block is fetched there or not: where it is
    not, the block's place has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether the block is fetched there or not: where it is
    not, the block's place has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether the block is fetched there or not: where it is
    not, the block's place has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether the block is fetched there or not: where it is
    not, the block's place has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether the block is fetched there or not: where it is
    not, the block's place has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether the block is fetched there or not: where it is
    not, the block's place has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S3x4x128 := Rect.unit (s := S3x4x128) ![0, 0, 0] S3x4x128.size inb_S3x4x128_S3x4x128_0_0_0
abbrev r1_1 : Rect S4 := Rect.unit (s := S4) ![2] S1.size inb_S4_S1_2
abbrev r1_2 : Rect S16x128 := Rect.unit (s := S16x128) ![0, 0] S16x128.size inb_S16x128_S16x128_0_0
abbrev r1_3 : Rect S16x128x128 := Rect.unit (s := S16x128x128) ![0, 0, 0] S1x128x128.size inb_S16x128x128_S1x128x128_0_0_0
abbrev r1_4 : Rect S16x128x128 := Rect.unit (s := S16x128x128) ![1, 0, 0] S1x128x128.size inb_S16x128x128_S1x128x128_1_0_0
abbrev r1_5 : Rect S16x128x128 := Rect.unit (s := S16x128x128) ![2, 0, 0] S1x128x128.size inb_S16x128x128_S1x128x128_2_0_0
abbrev r1_6 : Rect S16x128x128 := Rect.unit (s := S16x128x128) ![3, 0, 0] S1x128x128.size inb_S16x128x128_S1x128x128_3_0_0
abbrev r1_7 : Rect S16x128x128 := Rect.unit (s := S16x128x128) ![4, 0, 0] S1x128x128.size inb_S16x128x128_S1x128x128_4_0_0
abbrev r1_8 : Rect S16x128x128 := Rect.unit (s := S16x128x128) ![5, 0, 0] S1x128x128.size inb_S16x128x128_S1x128x128_5_0_0
abbrev r1_9 : Rect S16x128x128 := Rect.unit (s := S16x128x128) ![6, 0, 0] S1x128x128.size inb_S16x128x128_S1x128x128_6_0_0
abbrev r1_10 : Rect S16x128x128 := Rect.unit (s := S16x128x128) ![7, 0, 0] S1x128x128.size inb_S16x128x128_S1x128x128_7_0_0
abbrev r1_11 : Rect S16x128x128 := Rect.unit (s := S16x128x128) ![8, 0, 0] S1x128x128.size inb_S16x128x128_S1x128x128_8_0_0
abbrev r1_12 : Rect S16x128x128 := Rect.unit (s := S16x128x128) ![9, 0, 0] S1x128x128.size inb_S16x128x128_S1x128x128_9_0_0
abbrev r1_13 : Rect S16x128x128 := Rect.unit (s := S16x128x128) ![10, 0, 0] S1x128x128.size inb_S16x128x128_S1x128x128_10_0_0
abbrev r1_14 : Rect S16x128x128 := Rect.unit (s := S16x128x128) ![11, 0, 0] S1x128x128.size inb_S16x128x128_S1x128x128_11_0_0
abbrev r1_15 : Rect S16x128x128 := Rect.unit (s := S16x128x128) ![12, 0, 0] S1x128x128.size inb_S16x128x128_S1x128x128_12_0_0
abbrev r1_16 : Rect S16x128x128 := Rect.unit (s := S16x128x128) ![13, 0, 0] S1x128x128.size inb_S16x128x128_S1x128x128_13_0_0
abbrev r1_17 : Rect S16x128x128 := Rect.unit (s := S16x128x128) ![14, 0, 0] S1x128x128.size inb_S16x128x128_S1x128x128_14_0_0
abbrev r1_18 : Rect S16x128x128 := Rect.unit (s := S16x128x128) ![15, 0, 0] S1x128x128.size inb_S16x128x128_S1x128x128_15_0_0
abbrev r1_19 : Rect S4x128 := Rect.unit (s := S4x128) ![0, 0] S4x128.size inb_S4x128_S4x128_0_0

/-! ## What the body leaves in each output window's buffer -/

/-! ### Values of the body that its stores use more than once

    Each is a vector the body binds, as a function of the input windows' blocks. -/

def k1_pay145 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay6 (View.ld x0 r1_0)
def k1_pay146 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay12 (View.ld x0 r1_0)
def k1_pay147 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay13 (View.ld x0 r1_0)
def k1_pay148 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay23 (k1_pay146 x0 x1 x2 x3 x4 x5) (k1_pay147 x0 x1 x2 x3 x4 x5)
def k1_pay149 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay24 (k1_pay146 x0 x1 x2 x3 x4 x5) (k1_pay147 x0 x1 x2 x3 x4 x5)
def k1_pay150 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay25
def k1_pay151 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay36 (k1_pay148 x0 x1 x2 x3 x4 x5) (k1_pay149 x0 x1 x2 x3 x4 x5) (k1_pay150 x0 x1 x2 x3 x4 x5)
def k1_pay152 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay37 (k1_pay148 x0 x1 x2 x3 x4 x5) (k1_pay149 x0 x1 x2 x3 x4 x5) (k1_pay150 x0 x1 x2 x3 x4 x5)
def k1_pay153 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay38
def k1_pay154 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay49 (k1_pay151 x0 x1 x2 x3 x4 x5) (k1_pay152 x0 x1 x2 x3 x4 x5) (k1_pay153 x0 x1 x2 x3 x4 x5)
def k1_pay155 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay50 (k1_pay151 x0 x1 x2 x3 x4 x5) (k1_pay152 x0 x1 x2 x3 x4 x5) (k1_pay153 x0 x1 x2 x3 x4 x5)
def k1_pay156 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay57 (k1_pay145 x0 x1 x2 x3 x4 x5)
def k1_pay157 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay58 (k1_pay145 x0 x1 x2 x3 x4 x5)
def k1_pay158 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay69 (k1_pay156 x0 x1 x2 x3 x4 x5) (k1_pay157 x0 x1 x2 x3 x4 x5)
def k1_pay159 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay70 (k1_pay156 x0 x1 x2 x3 x4 x5) (k1_pay157 x0 x1 x2 x3 x4 x5)
def k1_pay160 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay80 (k1_pay158 x0 x1 x2 x3 x4 x5) (k1_pay159 x0 x1 x2 x3 x4 x5)
def k1_pay161 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay81 (k1_pay158 x0 x1 x2 x3 x4 x5) (k1_pay159 x0 x1 x2 x3 x4 x5)
def k1_pay162 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay92 (k1_pay160 x0 x1 x2 x3 x4 x5) (k1_pay161 x0 x1 x2 x3 x4 x5) 1948878966#32
def k1_pay163 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay93 (k1_pay160 x0 x1 x2 x3 x4 x5) (k1_pay161 x0 x1 x2 x3 x4 x5) 1948878966#32
def k1_pay164 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay94 (k1_pay160 x0 x1 x2 x3 x4 x5) (k1_pay161 x0 x1 x2 x3 x4 x5) 1948878966#32
def k1_pay165 (x0 : Vec F S3x4x128 .i32) (x1 : Vec F S3x4x128 .f32) (x2 : Vec F S3x4x128 .f32) (x3 : Vec F S4 .f32) (x4 : Vec F S16x128x128 .f32) (x5 : Vec F S16x128 .f32) : FVec F S3x4x128 .f32 :=
  k1_pay96 (F := F) (k1_pay162 x0 x1 x2 x3 x4 x5) (k1_pay163 x0 x1 x2 x3 x4 x5) (k1_pay164 x0 x1 x2 x3 x4 x5)
def k1_pay166 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay109 (k1_pay145 x0 x1 x2 x3 x4 x5)
def k1_pay167 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay110 (k1_pay145 x0 x1 x2 x3 x4 x5)
def k1_pay168 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay121 (k1_pay166 x0 x1 x2 x3 x4 x5) (k1_pay167 x0 x1 x2 x3 x4 x5)
def k1_pay169 (x0 : Vec F S3x4x128 .i32) (x1 : Vec F S3x4x128 .f32) (x2 : Vec F S3x4x128 .f32) (x3 : Vec F S4 .f32) (x4 : Vec F S16x128x128 .f32) (x5 : Vec F S16x128 .f32) : IVec S3x4x128 32 :=
  k1_pay122 (k1_pay166 x0 x1 x2 x3 x4 x5) (k1_pay167 x0 x1 x2 x3 x4 x5)
def k1_pay170 (x0 : Vec F S3x4x128 .i32) (x1 : Vec F S3x4x128 .f32) (x2 : Vec F S3x4x128 .f32) (x3 : Vec F S4 .f32) (x4 : Vec F S16x128x128 .f32) (x5 : Vec F S16x128 .f32) : IVec S4x128 32 :=
  k1_pay136 (k1_pay2 (View.ld x0 r1_0)) (k1_pay56 (k1_pay3 (View.ld x1 r1_0)) (k1_pay5 (View.ld x3 r1_1)) (k1_pay51 (F := F) (k1_pay154 x0 x1 x2 x3 x4 x5) (k1_pay155 x0 x1 x2 x3 x4 x5)) (k1_pay52 (F := F) (k1_pay154 x0 x1 x2 x3 x4 x5) (k1_pay155 x0 x1 x2 x3 x4 x5)) (k1_pay53 (F := F) (k1_pay154 x0 x1 x2 x3 x4 x5) (k1_pay155 x0 x1 x2 x3 x4 x5)) (k1_pay54 (F := F) (k1_pay154 x0 x1 x2 x3 x4 x5) (k1_pay155 x0 x1 x2 x3 x4 x5)) (k1_pay55 (F := F) (k1_pay154 x0 x1 x2 x3 x4 x5) (k1_pay155 x0 x1 x2 x3 x4 x5))) (k1_pay101 (k1_pay4 (View.ld x2 r1_0)) (k1_pay5 (View.ld x3 r1_1)) (k1_pay95 (F := F) (k1_pay162 x0 x1 x2 x3 x4 x5) (k1_pay163 x0 x1 x2 x3 x4 x5) (k1_pay164 x0 x1 x2 x3 x4 x5)) (k1_pay165 x0 x1 x2 x3 x4 x5) (k1_pay98 (k1_pay165 x0 x1 x2 x3 x4 x5)) (k1_pay99 (k1_pay97 (F := F) (k1_pay162 x0 x1 x2 x3 x4 x5) (k1_pay163 x0 x1 x2 x3 x4 x5) (k1_pay164 x0 x1 x2 x3 x4 x5))) (k1_pay100 (k1_pay165 x0 x1 x2 x3 x4 x5))) (k1_pay135 (k1_pay133 (k1_pay168 x0 x1 x2 x3 x4 x5) (k1_pay169 x0 x1 x2 x3 x4 x5) 15#32) (k1_pay134 (k1_pay168 x0 x1 x2 x3 x4 x5) (k1_pay169 x0 x1 x2 x3 x4 x5) 15#32) 24#32) 1065353216#32

/-- Window 6's staging buffer after the body, from the input windows' blocks: its one store. -/
def out1_6 (x0 : Vec F S3x4x128 .i32) (x1 : Vec F S3x4x128 .f32) (x2 : Vec F S3x4x128 .f32) (x3 : Vec F S4 .f32) (x4 : Vec F S16x128x128 .f32) (x5 : Vec F S16x128 .f32) : Vec F S4x128 .f32 :=
  View.canon [⟨r1_19, k1_pay1 (k1_pay170 x0 x1 x2 x3 x4 x5) (k1_pay142 (k1_pay170 x0 x1 x2 x3 x4 x5) (k1_pay140 (k1_pay170 x0 x1 x2 x3 x4 x5) (k1_pay138 (k1_pay170 x0 x1 x2 x3 x4 x5) (k1_pay137 (View.ld x5 r1_2)) (View.ld x4 r1_3) (View.ld x4 r1_4) (View.ld x4 r1_5) (View.ld x4 r1_6)) (k1_pay139 (F := F) (k1_pay170 x0 x1 x2 x3 x4 x5)) (View.ld x4 r1_7) (View.ld x4 r1_8) (View.ld x4 r1_9) (View.ld x4 r1_10) (View.ld x4 r1_11)) k1_pay141 (View.ld x4 r1_12) (View.ld x4 r1_13) (View.ld x4 r1_14) (View.ld x4 r1_15)) (k1_pay143 (F := F) (k1_pay170 x0 x1 x2 x3 x4 x5)) (k1_pay144 (View.ld x4 r1_16)) (View.ld x4 r1_17) (View.ld x4 r1_18)⟩]

/-- That store covers the buffer. -/
theorem cover1_6 (p0 : Vec F S4x128 .f32) (y : S4x128.Idx) :
    ∃ pc ∈ ([⟨r1_19, p0⟩] : List (View.Piece (Elt F) S4x128 .f32)), y ∈ pc.1.set :=
  View.cover_of_tiled [⟨r1_19, p0⟩] S4x128.size (by rfl) y

/-! ## The body's triple -/

set_option maxHeartbeats 3096800 in
/-- The body on whole staging buffers, the inputs' at given contents and the output's at anything, ends with the inputs' as they
    were and the output's at `out1_6` of the inputs'. -/
theorem sound_kernel1 (c : Dev nD) (E : Set ℕ) (arg0 : Memref sig .tc .vmem S3x4x128 .i32) (harg0 : arg0.IsWhole) (arg1 : Memref sig .tc .vmem S3x4x128 .f32) (harg1 : arg1.IsWhole) (arg2 : Memref sig .tc .vmem S3x4x128 .f32) (harg2 : arg2.IsWhole) (arg3 : Memref sig .tc .vmem S4 .f32) (harg3 : arg3.IsWhole) (arg4 : Memref sig .tc .vmem S16x128x128 .f32) (harg4 : arg4.IsWhole) (arg5 : Memref sig .tc .vmem S16x128 .f32) (harg5 : arg5.IsWhole) (arg6 : Memref sig .tc .vmem S4x128 .f32) (harg6 : arg6.IsWhole)
    (x0 : Vec F S3x4x128 .i32) (x1 : Vec F S3x4x128 .f32) (x2 : Vec F S3x4x128 .f32) (x3 : Vec F S4 .f32) (x4 : Vec F S16x128x128 .f32) (x5 : Vec F S16x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__final_body arg0 harg0 arg1 harg1 arg2 harg2 arg3 harg3 arg4 harg4 arg5 harg5 arg6 harg6) K := by
  simp only [cc1__final_body_eq_skeleton]; unfold cc1__final_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  rfl

/-! ## The pipeline's proof data -/

/-- The second call's run on core `c`: the arrays as the call finds them; after the body each input's buffer at its block and the
    output's at `out1_6` of the input blocks; the buffers outside the call and the random register untouched; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The call's arrays are the contents at its entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
/-- Input window 1 holds its block at every point. -/
theorem before1_1 (c : Dev nD) (t : Fin cfg1.N) (d) : (dat1 V c).before 1 t d = iblk1 V c 1 t :=
  before1_1_of V (dat1 V c) (A_eq1 V c 1) (after1_1 V c) t d
/-- Input window 2 holds its block at every point. -/
theorem before1_2 (c : Dev nD) (t : Fin cfg1.N) (d) : (dat1 V c).before 2 t d = iblk1 V c 2 t :=
  before1_2_of V (dat1 V c) (A_eq1 V c 2) (after1_2 V c) t d
/-- Input window 3 holds its block at every point. -/
theorem before1_3 (c : Dev nD) (t : Fin cfg1.N) (d) : (dat1 V c).before 3 t d = iblk1 V c 3 t :=
  before1_3_of V (dat1 V c) (A_eq1 V c 3) (after1_3 V c) t d
/-- Input window 4 holds its block at every point. -/
theorem before1_4 (c : Dev nD) (t : Fin cfg1.N) (d) : (dat1 V c).before 4 t d = iblk1 V c 4 t :=
  before1_4_of V (dat1 V c) (A_eq1 V c 4) (after1_4 V c) t d
/-- Input window 5 holds its block at every point. -/
theorem before1_5 (c : Dev nD) (t : Fin cfg1.N) (d) : (dat1 V c).before 5 t d = iblk1 V c 5 t :=
  before1_5_of V (dat1 V c) (A_eq1 V c 5) (after1_5 V c) t d

/-! ## The body at any point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, and the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body run at point `t`, with its buffers named. -/
theorem defs₀_row1 (t : Fin cfg1.N) :
    defs₀ (F := F) .tc cfg1.body (cfg1.bodyArgs t (cfg1.slots t)) = bodyAt1 t := by
  unfold defs₀; rw [Defs.onTc_tc]

/-- The body keeps the call's invariant at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # The run, from the launch to the return -/

/-- The argument arrays, which the frame reads back. -/
abbrev argRefs : List (Ref sig .tc) := [main_arg0, main_arg1, main_arg2, main_arg3, main_arg4, main_arg5, main_arg6]

/-! ## The host operations: each writes one array, and an array that none writes keeps its contents -/

/-- No host operation allocates a buffer. -/
theorem hostOps0_fresh : (hostOps0 : List (HloOp τ sig (Elt F))).Forall fun op => op.fresh = ∅ := by
  simp only [List.Forall]; repeat' constructor
/-- The buffer that each host operation writes, in order. -/
abbrev hostOps0_W : List (Ref sig .tc) := [main_cst, main_v0, main_v1, main_cst_0, main_v2, main_v3, main_cst_1, main_v4, main_cst_2, main_cst_3, main_v5, main_v6, main_v7, main_v8, main_v9, main_cst_4, main_v10, main_cst_5, main_v11, main_v12, main_v13, main_v14, main_v15, main_v16, main_cst_6, main_v17, main_v18, main_v19, main_v20, main_cst_7, main_v21, main_v22, main_v23, main_v24, main_c, main_v25, main_v26, main_v27, main_v28, main_cst_8, main_v29, main_v30, main_v31, main_v32, main_v33]
/-- Each host operation writes its own buffer of that list. -/
theorem hostOps0_writes : (hostOps0 : List (HloOp τ sig (Elt F))).Forall fun op => op.writes ⊆ (hostOps0_W.map (Proc.devRef (τ := τ) .tc)).toFinset :=
  StableHlo.forall_writes_sub_of_map rfl
/-- The host operations write none of the arguments. -/
theorem hostOps0_args : ∀ a ∈ argRefs, a ∉ hostOps0_W := ListAll.forall_mem_of_all_decide (by decide +kernel)

/-! ## The buffers' contents between the calls, and what each call leaves unchanged -/

/-- Core `c`'s buffers at launch. -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- After the first host operations, where the main call starts. -/
abbrev W1 : Dev nD → Valuation τ sig (Elt F) := fun c => StableHlo.after hostOps0 (W0 m ρ c)
/-- A buffer that those operations do not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments where the main call starts are those at launch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, read buffer by buffer, as the main call takes them. -/
abbrev V1 : (c : Dev nD) → (b : Ref sig .tc) → Buf (Elt F) ((c : Thread nD τ).loc b) := fun c b => W1 m ρ c b
/-- At the end of call 0: its arrays at what the call leaves (the inputs as entered, each output's blocks written back), every
    other buffer as entered. -/
def W2 (c : Dev nD) : Valuation τ sig (Elt F) :=
  Pipeline.withArrays spec0 c (W1 m ρ c) fun w => (dat0 (V1 m ρ) c).arrAt w cfg0.N
/-- The main call's arrays at its end. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the main call's arrays is as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of call 0's outputs keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among call 0's arrays is one of its inputs. -/
theorem argsIn0 : ∀ a ∈ argRefs, ∀ w : Fin cfg0.W, Pipeline.arrRef spec0 w = a → (cfg0.win w).isOut = false :=
  ListAll.forall_mem_of_all_decide (by decide +kernel)
/-- The arguments at the end of the main call are those at launch. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, read buffer by buffer. -/
abbrev V2 : (c : Dev nD) → (b : Ref sig .tc) → Buf (Elt F) ((c : Thread nD τ).loc b) := fun c b => W2 m ρ c b
/-- At the end of call 0 each of its arrays holds what the call leaves, and every other buffer what it held before. -/
theorem hF0 (c : Dev nD) (w : Fin cfg0.W) : (dat0 (V1 m ρ) c).arrAt w cfg0.N = V2 m ρ c (Pipeline.arrRef spec0 w) :=
  (W2_arr m ρ c w).symm
/-- Every buffer that is none of the main call's arrays is as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the end of call 1: its arrays at what the call leaves (the inputs as entered, each output's blocks written back), every
    other buffer as entered. -/
def W3 (c : Dev nD) : Valuation τ sig (Elt F) :=
  Pipeline.withArrays spec1 c (W2 m ρ c) fun w => (dat1 (V2 m ρ) c).arrAt w cfg1.N
/-- The second call's arrays at its end. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is none of the second call's arrays is as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is none of call 1's outputs keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among call 1's arrays is one of its inputs. -/
theorem argsIn1 : ∀ a ∈ argRefs, ∀ w : Fin cfg1.W, Pipeline.arrRef spec1 w = a → (cfg1.win w).isOut = false :=
  ListAll.forall_mem_of_all_decide (by decide +kernel)
/-- The arguments at the end of the second call are those at launch. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, read buffer by buffer. -/
abbrev V3 : (c : Dev nD) → (b : Ref sig .tc) → Buf (Elt F) ((c : Thread nD τ).loc b) := fun c b => W3 m ρ c b
/-- At the end of call 1 each of its arrays holds what the call leaves, and every other buffer what it held before. -/
theorem hF1 (c : Dev nD) (w : Fin cfg1.W) : (dat1 (V2 m ρ) c).arrAt w cfg1.N = V3 m ρ c (Pipeline.arrRef spec1 w) :=
  (W3_arr m ρ c w).symm
/-- Every buffer that is none of the second call's arrays is as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation writes one, and a call only reads them -/

/-- Argument 0 ends as launched. -/
theorem W3_main_arg0 (c : Dev nD) : W3 m ρ c (Proc.devRef .tc main_arg0) = m ((c : Thread nD τ).loc main_arg0) :=
  W3_args m ρ c main_arg0 (by decide)
/-- Argument 1 ends as launched. -/
theorem W3_main_arg1 (c : Dev nD) : W3 m ρ c (Proc.devRef .tc main_arg1) = m ((c : Thread nD τ).loc main_arg1) :=
  W3_args m ρ c main_arg1 (by decide)
/-- Argument 2 ends as launched. -/
theorem W3_main_arg2 (c : Dev nD) : W3 m ρ c (Proc.devRef .tc main_arg2) = m ((c : Thread nD τ).loc main_arg2) :=
  W3_args m ρ c main_arg2 (by decide)
/-- Argument 3 ends as launched. -/
theorem W3_main_arg3 (c : Dev nD) : W3 m ρ c (Proc.devRef .tc main_arg3) = m ((c : Thread nD τ).loc main_arg3) :=
  W3_args m ρ c main_arg3 (by decide)
/-- Argument 4 ends as launched. -/
theorem W3_main_arg4 (c : Dev nD) : W3 m ρ c (Proc.devRef .tc main_arg4) = m ((c : Thread nD τ).loc main_arg4) :=
  W3_args m ρ c main_arg4 (by decide)
/-- Argument 5 ends as launched. -/
theorem W3_main_arg5 (c : Dev nD) : W3 m ρ c (Proc.devRef .tc main_arg5) = m ((c : Thread nD τ).loc main_arg5) :=
  W3_args m ρ c main_arg5 (by decide)
/-- Argument 6 ends as launched. -/
theorem W3_main_arg6 (c : Dev nD) : W3 m ρ c (Proc.devRef .tc main_arg6) = m ((c : Thread nD τ).loc main_arg6) :=
  W3_args m ρ c main_arg6 (by decide)

/-! ## What a thread holds -/

/-- No call has a table read ahead. -/
abbrev adm : (p : Fin 2) → (pcfgs (F := F) p).Adm := fun p => (cfgs p).toPCfg_adm
/-- Each call's run, at the contents where it starts. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop's variant is needed. -/
abbrev 𝒱₀ : Variants := Variants.none
/-- No core owes another anything: no level is assigned. -/
abbrev L : GSem nD τ sig → Finset Unit := fun _ => ∅
/-- No level is assigned. -/
abbrev lv : GSem nD τ sig → Unit → ℕ := fun _ _ => 0
/-- What goes along beside the buffers: the core's random register at some state, and nothing owed. -/
abbrev R (c : Dev nD) : sProp 𝕄 := iprop((∃ r, prngReg c r) ∗ ∃ W, owes (c : Thread nD τ) (0 : CellTallies nD τ sig Unit) W)
/-- A list of host operations as a part of the run, from the contents `W` to the contents after the list. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that lives through the whole run is among those the thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the thread holds at the end: every buffer at the last contents `W3`, the random register at some state. -/
abbrev Tₙ (c : Dev nD) : sProp 𝕄 := iprop(StableHlo.held (c : Thread nD τ) (Pipeline.ucRefs τ sig) (W3 m ρ c) ∗ ∃ r, prngReg c r)

/-! ## The calls as parts of the run -/

set_option backward.isDefEq.respectTransparency.types false in
/-- The main call as a part of the run: it starts from every buffer at `W1` and ends at `W2`. Its arrays are taken out of the
    buffers and put back as the call leaves them; the random register goes in and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    iintro H
    ihave H := hout0 (V1 m ρ) c $$ H
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a part of the run: it starts from every buffer at `W2` and ends at `W3`. Its arrays are taken out of the
    buffers and put back as the call leaves them; the random register goes in and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its parts, and the launch -/

/-- The three parts of the program: the host operations, the main call, the second call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of its parts. -/
theorem main_run (c : Dev nD) : main (F := F) c = Pipeline.Seg.run (segs m ρ) := (main_chain c).trans (by chain_rfl)

/-- The core has no semaphore that outlives the calls. -/
theorem no_unscoped : ∀ sm : SemLoc sig, sm.isScoped .tc = true := by decide

set_option backward.isDefEq.respectTransparency.types false in
/-- The whole run: from any memory with zero counters the program ends without a fault, every buffer holds its last contents and
    every semaphore counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: the program ends, faults nowhere, leaves every argument as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨(fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c)⟩), h.2⟩) (run_all m ρ)

end Cert.KernelIdeal.Whole

end
-- ==== Proof.PreFacts.lean ====
module

public import proofs.«01_k».proof.Pre_draw_is_shortlisted
public import Idealize.ShloMosaic.Lib.Decide

@[expose] public section

/-! # The precondition's shape relations -/

namespace Cert.Draw

open Idealize.ShloMosaic

/-- The shape relations that the precondition's operations state all hold. -/
instance preFacts : Cert.Pre_draw_is_shortlisted.Facts := by
  constructor <;> decide

end Cert.Draw
-- ==== Proof.RefPre.lean ====
module

public import proofs.«01_k».proof.Proof.Gen.ReferenceIdeal.Run
public import proofs.«01_k».proof.Proof.PreFacts
public import Idealize.ShloMosaic.Lib.Tactic

@[expose] public section

/-! # The precondition over the reference's own arrays

The precondition asks about the same arrays that the reference computes: the mixed fields, the random numbers
of the unit interval, and the drawn states.  It is restated here over those arrays. -/

noncomputable section

namespace Cert.Draw

open Idealize.ShloMosaic Cert.ReferenceIdeal Cert.ReferenceIdeal.Gen Cert.ReferenceIdeal.Value

variable {F : FTy → Type} [FloatOps F]

/-- One part of the mixed field: the mixing of the sites, the site itself, and the coherence factor. -/
def mixOf (w : FVec F S16x16 .f32) (x : FVec F S65536x128 .f32) : FVec F S65536x128 .f32 :=
  mulf (addf (mulf (broadcastInDim S65536x128 ![] bcast_S_S65536x128 (constant S_ .f32 0x3F4CCCCD#32))
      (shapeCast S65536x128 (Host.dotGeneral dot_S16x16_S16x4096x128_S16x4096x128_1_0_0_12_n_n none w (shapeCast S16x4096x128 x shapeCasts_S65536x128_S16x4096x128)) shapeCasts_S16x4096x128_S65536x128))
      (mulf (broadcastInDim S65536x128 ![] bcast_S_S65536x128 (constant S_ .f32 0x3E4CCCCD#32)) x))
    (broadcastInDim S65536x128 ![] bcast_S_S65536x128 (constant S_ .f32 0x3F7D73E9#32))

/-- The real part of the mixed field. -/
def reV (V0 : Valuation τ sig (Elt F)) : FVec F S65536x128 .f32 := mixOf (res_main_v23 V0) (res_main_v7 V0)

/-- The imaginary part of the mixed field. -/
def imV (V0 : Valuation τ sig (Elt F)) : FVec F S65536x128 .f32 := mixOf (res_main_v23 V0) (res_main_v12 V0)

/-- The drawn states: the least number of a state whose score is the greatest. -/
def idxV (V0 : Valuation τ sig (Elt F)) : IVec S4x128 32 :=
  Host.reduce IntOp.minsi (select (cmpf .oeq (res_main_v393 V0) (broadcastInDim S4x65536x128 ![0, 1, 2] bcast_S4x1x128_S4x65536x128_0_1_2 (broadcastInDim S4x1x128 ![0, 2] bcast_S4x128_S4x1x128_0_2 (Host.reduce FloatOps.maximumf (res_main_v393 V0) (constant S_ .f32 0xFF800000#32) reducesTo_S4x65536x128_S4x128_d1 h_S_)))) (iotaInDim S4x65536x128 32 1) (broadcastInDim S4x65536x128 ![] bcast_S_S4x65536x128 (constantI S_ 32 65536#32))) (constantI S_ 32 2147483647#32) reducesTo_S4x65536x128_S4x128_d1 h_S_

/-- Whether all entries of an array are below the infinity. -/
def allFinite {s : Shape} (b : S_.BroadcastsInDim s ![]) {dims : List (Fin s.rank)} (r : s.ReducesTo dims S_) (x : FVec F s .f32) : IVec S_ 1 :=
  Host.reduce IntOp.andi (cmpf .olt (Host.absf x) (broadcastInDim s ![] b (constant S_ .f32 0x7F800000#32))) (constantI S_ 1 1#1) r h_S_

/-- Whether the amplitudes, the phases and the mixing logits are all finite. -/
def finV (V0 : Valuation τ sig (Elt F)) : IVec S_ 1 :=
  andi (andi (andi (allFinite Cert.Pre_draw_is_shortlisted.Facts.bcast_S_S65536x128 Cert.Pre_draw_is_shortlisted.Facts.reducesTo_S65536x128_S_d0_1 (V0 (Proc.devRef .tc main_arg1)))
      (allFinite Cert.Pre_draw_is_shortlisted.Facts.bcast_S_S65536x128 Cert.Pre_draw_is_shortlisted.Facts.reducesTo_S65536x128_S_d0_1 (V0 (Proc.devRef .tc main_arg2))))
      (allFinite Cert.Pre_draw_is_shortlisted.Facts.bcast_S_S16x3 Cert.Pre_draw_is_shortlisted.Facts.reducesTo_S16x3_S_d0_1 (V0 (Proc.devRef .tc main_arg3))))
      (allFinite Cert.Pre_draw_is_shortlisted.Facts.bcast_S_S16x16 Cert.Pre_draw_is_shortlisted.Facts.reducesTo_S16x16_S_d0_1 (V0 (Proc.devRef .tc main_arg4)))

/-- The precondition, over the reference's arrays. -/
theorem pre_eq (V0 : Valuation τ sig (Elt F)) :
    Cert.Pre_draw_is_shortlisted.fn (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
      = Cert.Pre_draw_is_shortlisted.fn_part23 (F := F) (finV V0) (reV V0) (imV V0) (res_main_v223 V0) (idxV V0) := by
  sl_kernel_rfl

end Cert.Draw
-- ==== Proof.Arrays.lean ====
module

public import proofs.«01_k».proof.Proof.KernelIdeal.Whole
public import Idealize.ShloMosaic.Lib.Pipeline.ValueKit
public import Idealize.ShloMosaic.Lib.Tactic

@[expose] public section

set_option maxRecDepth 16384

/-! # The arrays between the calls -/

noncomputable section

namespace Cert.Draw

open Idealize.ShloMosaic Idealize.ShloMosaic.TcCoe Cert.KernelIdeal Cert.KernelIdeal.Gen Cert.KernelIdeal.Whole
open Idealize.SL.Sem

variable {F : FTy → Type} [FloatOps F] [Named F]

/-- The last point of the first call's grid. -/
def lastPoint : Fin cfg0.N := ⟨511, by decide⟩

section
variable (V : (c : Dev nD) → (b : Ref sig .tc) → Buf (Elt F) ((c : Thread nD τ).loc b)) (c : Dev nD)

/-- An output array of the first call ends at what the last point leaves in its buffer. -/
theorem final4 : (dat0 V c).arrAt 4 cfg0.N = (outsAt0 V c lastPoint.val lastPoint.isLt).1 :=
  have key : ∀ G : Vec F S3x4x128 .f32, (dat0 V c).after 4 lastPoint = G → (dat0 V c).arrAt 4 cfg0.N = G := fun G h => by
    refine (dat0 V c).arrAt_eq_of_after_last 4 lastPoint (by decide +kernel) _ fun j => ?_
    rw [h]; blk_simp; rfl
  key _ (after0_4 V c lastPoint)

/-- The second output array. -/
theorem final5 : (dat0 V c).arrAt 5 cfg0.N = (outsAt0 V c lastPoint.val lastPoint.isLt).2.1 :=
  have key : ∀ G : Vec F S3x4x128 .i32, (dat0 V c).after 5 lastPoint = G → (dat0 V c).arrAt 5 cfg0.N = G := fun G h => by
    refine (dat0 V c).arrAt_eq_of_after_last 5 lastPoint (by decide +kernel) _ fun j => ?_
    rw [h]; blk_simp; rfl
  key _ (after0_5 V c lastPoint)

/-- The third output array. -/
theorem final6 : (dat0 V c).arrAt 6 cfg0.N = (outsAt0 V c lastPoint.val lastPoint.isLt).2.2.1 :=
  have key : ∀ G : Vec F S3x4x128 .f32, (dat0 V c).after 6 lastPoint = G → (dat0 V c).arrAt 6 cfg0.N = G := fun G h => by
    refine (dat0 V c).arrAt_eq_of_after_last 6 lastPoint (by decide +kernel) _ fun j => ?_
    rw [h]; blk_simp; rfl
  key _ (after0_6 V c lastPoint)

/-- The fourth output array. -/
theorem final7 : (dat0 V c).arrAt 7 cfg0.N = (outsAt0 V c lastPoint.val lastPoint.isLt).2.2.2.1 :=
  have key : ∀ G : Vec F S3x4x128 .f32, (dat0 V c).after 7 lastPoint = G → (dat0 V c).arrAt 7 cfg0.N = G := fun G h => by
    refine (dat0 V c).arrAt_eq_of_after_last 7 lastPoint (by decide +kernel) _ fun j => ?_
    rw [h]; blk_simp; rfl
  key _ (after0_7 V c lastPoint)

/-- Point `t`'s block of the two big inputs starts at row `8 t` of each group. -/
theorem index_facts : ∀ t : Fin cfg0.N, win0_0.index t = ![0, t.val, 0] ∧ win0_1.index t = ![0, t.val, 0]
    ∧ win0_2.index t = ![0, 0] ∧ win0_3.index t = ![0] :=
  (by decide +kernel : ∀ t : Fin grid0.N, _)

/-- A row of point `t`'s block, as a row of its group. -/
def rowAt (t : Fin cfg0.N) (k : Fin 8) : Fin 4096 :=
  ⟨8 * t.val + k.val, by have : t.val < 512 := t.isLt; have := k.isLt; omega⟩

/-- Point `t`'s block of the first input. -/
theorem block0 (t : Fin cfg0.N) (q : Fin 16) (k : Fin 8) (d : Fin 128) :
    iblk0 V c 0 t (ix3 q k d) = V c main_v32 (ix3 q (rowAt t k) d) := by
  unfold iblk0; blk_simp
  refine congrArg _ (funext fun a => Fin.ext ?_)
  have h := (index_facts t).1
  match a with
  | ⟨0, _⟩ => exact (congrArg (fun z => z * 16 + 1 * q.val) (congrFun h 0)).trans (by show 0 * 16 + 1 * q.val = q.val; omega)
  | ⟨1, _⟩ => exact (congrArg (fun z => z * 8 + 1 * k.val) (congrFun h 1)).trans (by show t.val * 8 + 1 * k.val = 8 * t.val + k.val; omega)
  | ⟨2, _⟩ => exact (congrArg (fun z => z * 128 + 1 * d.val) (congrFun h 2)).trans (by show 0 * 128 + 1 * d.val = d.val; omega)

/-- Point `t`'s block of the second input. -/
theorem block1 (t : Fin cfg0.N) (q : Fin 16) (k : Fin 8) (d : Fin 128) :
    iblk0 V c 1 t (ix3 q k d) = V c main_v33 (ix3 q (rowAt t k) d) := by
  unfold iblk0; blk_simp
  refine congrArg _ (funext fun a => Fin.ext ?_)
  have h := (index_facts t).2.1
  match a with
  | ⟨0, _⟩ => exact (congrArg (fun z => z * 16 + 1 * q.val) (congrFun h 0)).trans (by show 0 * 16 + 1 * q.val = q.val; omega)
  | ⟨1, _⟩ => exact (congrArg (fun z => z * 8 + 1 * k.val) (congrFun h 1)).trans (by show t.val * 8 + 1 * k.val = 8 * t.val + k.val; omega)
  | ⟨2, _⟩ => exact (congrArg (fun z => z * 128 + 1 * d.val) (congrFun h 2)).trans (by show 0 * 128 + 1 * d.val = d.val; omega)

/-- Every point reads the whole weight matrix. -/
theorem block2 (t : Fin cfg0.N) : iblk0 V c 2 t = V c main_v31 := by
  funext y; unfold iblk0; blk_simp
  refine congrArg _ (funext fun a => Fin.ext ?_)
  have h := (index_facts t).2.2.1
  match a with
  | ⟨0, _⟩ => exact (congrArg (fun z => z * 16 + 1 * (y 0).val) (congrFun h 0)).trans (by show 0 * 16 + 1 * (y 0).val = (y 0).val; omega)
  | ⟨1, _⟩ => exact (congrArg (fun z => z * 16 + 1 * (y 1).val) (congrFun h 1)).trans (by show 0 * 16 + 1 * (y 1).val = (y 1).val; omega)

/-- Every point reads the four constants. -/
theorem block3 (t : Fin cfg0.N) : iblk0 V c 3 t = V c main_v9 := by
  funext y; unfold iblk0; blk_simp
  refine congrArg _ (funext fun a => Fin.ext ?_)
  have h := (index_facts t).2.2.2
  match a with
  | ⟨0, _⟩ => exact (congrArg (fun z => z * 4 + 1 * (y 0).val) (congrFun h 0)).trans (by show 0 * 4 + 1 * (y 0).val = (y 0).val; omega)

/-- The second call's one point reads its arrays whole. -/
theorem index_facts1 : win1_0.index t1_0 = ![0, 0, 0] ∧ win1_1.index t1_0 = ![0, 0, 0] ∧ win1_2.index t1_0 = ![0, 0, 0]
    ∧ win1_3.index t1_0 = ![0] ∧ win1_4.index t1_0 = ![0, 0, 0] ∧ win1_5.index t1_0 = ![0, 0] := by
  decide +kernel

/-- The first input of the second call. -/
theorem input0 : iblk1 V c 0 t1_0 = V c main_v34_1 := by
  funext y; unfold iblk1; blk_simp
  refine congrArg _ (funext fun a => Fin.ext ?_)
  have h := index_facts1.1
  match a with
  | ⟨0, _⟩ => exact (congrArg (fun z => z * 3 + 1 * (y 0).val) (congrFun h 0)).trans (by show 0 * 3 + 1 * (y 0).val = (y 0).val; omega)
  | ⟨1, _⟩ => exact (congrArg (fun z => z * 4 + 1 * (y 1).val) (congrFun h 1)).trans (by show 0 * 4 + 1 * (y 1).val = (y 1).val; omega)
  | ⟨2, _⟩ => exact (congrArg (fun z => z * 128 + 1 * (y 2).val) (congrFun h 2)).trans (by show 0 * 128 + 1 * (y 2).val = (y 2).val; omega)

/-- The second input of the second call. -/
theorem input1 : iblk1 V c 1 t1_0 = V c main_v34_2 := by
  funext y; unfold iblk1; blk_simp
  refine congrArg _ (funext fun a => Fin.ext ?_)
  have h := index_facts1.2.1
  match a with
  | ⟨0, _⟩ => exact (congrArg (fun z => z * 3 + 1 * (y 0).val) (congrFun h 0)).trans (by show 0 * 3 + 1 * (y 0).val = (y 0).val; omega)
  | ⟨1, _⟩ => exact (congrArg (fun z => z * 4 + 1 * (y 1).val) (congrFun h 1)).trans (by show 0 * 4 + 1 * (y 1).val = (y 1).val; omega)
  | ⟨2, _⟩ => exact (congrArg (fun z => z * 128 + 1 * (y 2).val) (congrFun h 2)).trans (by show 0 * 128 + 1 * (y 2).val = (y 2).val; omega)

/-- The third input of the second call. -/
theorem input2 : iblk1 V c 2 t1_0 = V c main_v34_3 := by
  funext y; unfold iblk1; blk_simp
  refine congrArg _ (funext fun a => Fin.ext ?_)
  have h := index_facts1.2.2.1
  match a with
  | ⟨0, _⟩ => exact (congrArg (fun z => z * 3 + 1 * (y 0).val) (congrFun h 0)).trans (by show 0 * 3 + 1 * (y 0).val = (y 0).val; omega)
  | ⟨1, _⟩ => exact (congrArg (fun z => z * 4 + 1 * (y 1).val) (congrFun h 1)).trans (by show 0 * 4 + 1 * (y 1).val = (y 1).val; omega)
  | ⟨2, _⟩ => exact (congrArg (fun z => z * 128 + 1 * (y 2).val) (congrFun h 2)).trans (by show 0 * 128 + 1 * (y 2).val = (y 2).val; omega)

/-- The fourth input of the second call. -/
theorem input3 : iblk1 V c 3 t1_0 = V c main_v9 := by
  funext y; unfold iblk1; blk_simp
  refine congrArg _ (funext fun a => Fin.ext ?_)
  have h := index_facts1.2.2.2.1
  match a with
  | ⟨0, _⟩ => exact (congrArg (fun z => z * 4 + 1 * (y 0).val) (congrFun h 0)).trans (by show 0 * 4 + 1 * (y 0).val = (y 0).val; omega)

/-- The fifth input of the second call. -/
theorem input4 : iblk1 V c 4 t1_0 = V c main_arg5 := by
  funext y; unfold iblk1; blk_simp
  refine congrArg _ (funext fun a => Fin.ext ?_)
  have h := index_facts1.2.2.2.2.1
  match a with
  | ⟨0, _⟩ => exact (congrArg (fun z => z * 16 + 1 * (y 0).val) (congrFun h 0)).trans (by show 0 * 16 + 1 * (y 0).val = (y 0).val; omega)
  | ⟨1, _⟩ => exact (congrArg (fun z => z * 128 + 1 * (y 1).val) (congrFun h 1)).trans (by show 0 * 128 + 1 * (y 1).val = (y 1).val; omega)
  | ⟨2, _⟩ => exact (congrArg (fun z => z * 128 + 1 * (y 2).val) (congrFun h 2)).trans (by show 0 * 128 + 1 * (y 2).val = (y 2).val; omega)

/-- The sixth input of the second call. -/
theorem input5 : iblk1 V c 5 t1_0 = V c main_arg6 := by
  funext y; unfold iblk1; blk_simp
  refine congrArg _ (funext fun a => Fin.ext ?_)
  have h := index_facts1.2.2.2.2.2
  match a with
  | ⟨0, _⟩ => exact (congrArg (fun z => z * 16 + 1 * (y 0).val) (congrFun h 0)).trans (by show 0 * 16 + 1 * (y 0).val = (y 0).val; omega)
  | ⟨1, _⟩ => exact (congrArg (fun z => z * 128 + 1 * (y 1).val) (congrFun h 1)).trans (by show 0 * 128 + 1 * (y 1).val = (y 1).val; omega)

/-- The result array ends at what the second call's one point computes from its input arrays. -/
theorem final1 : (dat1 V c).arrAt 6 cfg1.N = out1_6 (iblk1 V c 0 t1_0) (iblk1 V c 1 t1_0) (iblk1 V c 2 t1_0) (iblk1 V c 3 t1_0) (iblk1 V c 4 t1_0) (iblk1 V c 5 t1_0) :=
  have key : ∀ G : Vec F S4x128 .f32, (dat1 V c).after 6 t1_0 = G → (dat1 V c).arrAt 6 cfg1.N = G := fun G h => by
    refine (dat1 V c).arrAt_eq_of_after_last 6 t1_0 (by decide +kernel) _ fun j => ?_
    rw [h]; blk_simp
  key _ (after1_6 V c t1_0)
end

variable (m : (ℓ : Loc nD τ sig) → Buf (Elt F) ℓ) (ρ : Dev nD → PrngReg) (c : Dev nD)

/-- The sum of all phases. -/
def angle (a3 : FVec F S16x3 .f32) : FVec F S_ .f32 :=
  Host.reduceAdd a3 (constant S_ .f32 0x00000000#32) reducesTo_S16x3_S_d0_1 h_S_

/-- The four constants the calls read: the damped cosine and sine of the phase sum, the size of the noise, zero. -/
def consts (a3 : FVec F S16x3 .f32) : FVec F S4 .f32 :=
  concatenate S4 0 [⟨S1, broadcastInDim S1 ![] bcast_S_S1 (mulf (constant S_ .f32 0x3F7D73E9#32) (Host.cos (angle a3)))⟩,
    ⟨S1, broadcastInDim S1 ![] bcast_S_S1 (mulf (constant S_ .f32 0x3F7D73E9#32) (Host.sin (angle a3)))⟩,
    ⟨S1, broadcastInDim S1 ![] bcast_S_S1 (constant S_ .f32 0x3A826B00#32)⟩,
    ⟨S1, broadcastInDim S1 ![] bcast_S_S1 (constant S_ .f32 0x00000000#32)⟩] concatenates_S1_S1_S1_S1_S4_d0

/-- The constants the first call reads. -/
theorem v9_eq : V1 m ρ c main_v9 = consts (m ((c : Thread nD τ).loc main_arg3)) := by
  sl_kernel_rfl

/-- The exponentials of the weights less their row's largest. -/
def expw (a4 : FVec F S16x16 .f32) : FVec F S16x16 .f32 :=
  Host.exp (subf a4 (broadcastInDim S16x16 ![0, 1] bcast_S16x1_S16x16_0_1 (broadcastInDim S16x1 ![0] bcast_S16_S16x1_0
    (maximumf (broadcastInDim S16 ![] bcast_S_S16 (constant S_ .f32 0xFF800000#32))
      (Host.reduce FloatOps.maximumf a4 (constant S_ .f32 0xFF800000#32) reducesTo_S16x16_S16_d1 h_S_)))))

/-- The softmax of the weights, row by row. -/
def soft (a4 : FVec F S16x16 .f32) : FVec F S16x16 .f32 :=
  Host.divf (expw a4) (broadcastInDim S16x16 ![0, 1] bcast_S16x1_S16x16_0_1 (broadcastInDim S16x1 ![0] bcast_S16_S16x1_0
    (Host.reduceAdd (expw a4) (constant S_ .f32 0x00000000#32) reducesTo_S16x16_S16_d1 h_S_)))

/-- The mixing matrix: four fifths of the softmax and one fifth of the identity. -/
def mixing (a4 : FVec F S16x16 .f32) : FVec F S16x16 .f32 :=
  addf (mulf (broadcastInDim S16x16 ![] bcast_S_S16x16 (constant S_ .f32 0x3F4CCCCD#32)) (soft a4))
    (mulf (broadcastInDim S16x16 ![] bcast_S_S16x16 (constant S_ .f32 0x3E4CCCCD#32))
      (uitofp .f32 (cmpi .eq (addi (iotaInDim S16x16 32 0) (broadcastInDim S16x16 ![] bcast_S_S16x16 (constantI S_ 32 0#32)))
        (iotaInDim S16x16 32 1))))

/-- The first call's weights. -/
theorem v31_eq : V1 m ρ c main_v31 = mixing (m ((c : Thread nD τ).loc main_arg4)) := by
  sl_kernel_rfl

/-- The first call's real parts. -/
theorem v32_eq : V1 m ρ c main_v32 = shapeCast S16x4096x128 (m ((c : Thread nD τ).loc main_arg1) : Vec F S65536x128 .f32) shapeCasts_S65536x128_S16x4096x128 := by
  sl_kernel_rfl

/-- The first call's imaginary parts. -/
theorem v33_eq : V1 m ρ c main_v33 = shapeCast S16x4096x128 (m ((c : Thread nD τ).loc main_arg2) : Vec F S65536x128 .f32) shapeCasts_S65536x128_S16x4096x128 := by
  sl_kernel_rfl

/-- The result array after the run. -/
theorem result_eq : W3 m ρ c (Proc.devRef .tc main_v35) =
    out1_6 (outsAt0 (V1 m ρ) c lastPoint.val lastPoint.isLt).2.1 (outsAt0 (V1 m ρ) c lastPoint.val lastPoint.isLt).2.2.1
      (outsAt0 (V1 m ρ) c lastPoint.val lastPoint.isLt).2.2.2.1 (consts (m ((c : Thread nD τ).loc main_arg3)))
      (m ((c : Thread nD τ).loc main_arg5)) (m ((c : Thread nD τ).loc main_arg6)) := by
  refine (W3_arr m ρ c 6).trans ((final1 (V2 m ρ) c).trans ?_)
  rw [input0, input1, input2, input3, input4, input5]
  have h5 : V2 m ρ c main_v34_1 = _ := (hF0 m ρ c 5).symm.trans (final5 (V1 m ρ) c)
  have h6 : V2 m ρ c main_v34_2 = _ := (hF0 m ρ c 6).symm.trans (final6 (V1 m ρ) c)
  have h7 : V2 m ρ c main_v34_3 = _ := (hF0 m ρ c 7).symm.trans (final7 (V1 m ρ) c)
  have h9 : V2 m ρ c main_v9 = _ := (W2_of m ρ c main_v9 (by decide)).trans (v9_eq m ρ c)
  have ha : V2 m ρ c main_arg5 = _ := (W2_args m ρ c main_arg5 (by decide))
  have hb : V2 m ρ c main_arg6 = _ := (W2_args m ρ c main_arg6 (by decide))
  rw [h5, h6, h7, h9, ha, hb]

end Cert.Draw
-- ==== Proof.Draw.lean ====
module

public import Idealize.ShloMosaic.Lib.Pointwise.ElementwiseCore

@[expose] public section

/-! # The random words

Both programs draw their random numbers from the same counter-based generator: the word of a state is a
function of the state's number alone.  It is written here once, on one number. -/

noncomputable section

namespace Cert.Draw

open Idealize.ShloMosaic

variable {F : FTy → Type} [FloatOps F]

/-- A 32-bit word. -/
abbrev W := BitVec 32

/-- A word turned to the left by `r`, `l` being the complement of `r`. -/
def rot (r l x : W) : W := IntOp.ori (IntOp.shli .vector x r) (IntOp.shrui .vector x l)

/-- One round of the generator on the pair of words. -/
def turn (r l : W) (p : W × W) : W × W :=
  (IntOp.addi p.1 p.2, IntOp.xori (rot r l p.2) (IntOp.addi p.1 p.2))

/-- The four rounds of the first kind. -/
def even (p : W × W) : W × W := turn 6#32 26#32 (turn 26#32 6#32 (turn 15#32 17#32 (turn 13#32 19#32 p)))

/-- The four rounds of the second kind. -/
def odd (p : W × W) : W × W := turn 24#32 8#32 (turn 16#32 16#32 (turn 29#32 3#32 (turn 17#32 15#32 p)))

/-- Two key words are added to the pair. -/
def key (a b : W) (p : W × W) : W × W := (IntOp.addi p.1 a, IntOp.addi p.2 b)

/-- The generator's word at number `n`, under the twelve words of a key schedule. -/
def word (k0 k1 k2 k3 k4 k5 k6 k7 k8 k9 k10 k11 n : W) : W :=
  let p := key k10 k11 (even (key k8 k9 (odd (key k6 k7 (even (key k4 k5 (odd (key k2 k3 (even (k0, IntOp.addi n k1))))))))))
  IntOp.xori p.1 p.2

/-- The first stream. -/
def word0 : W → W := word 507451445#32 1853169794#32 1853169794#32 1805329262#32 1805329261#32 507451447#32 507451445#32 1853169797#32 1853169794#32 1805329265#32 1805329261#32 507451450#32

/-- The second stream. -/
def word1 : W → W := word 1948878966#32 4237131848#32 4237131848#32 2473923557#32 2473923556#32 1948878968#32 1948878966#32 4237131851#32 4237131848#32 2473923560#32 2473923556#32 1948878971#32

/-- The third stream. -/
def word2 : W → W := word 2441914641#32 3819641963#32 3819641963#32 1777774241#32 1777774240#32 2441914643#32 2441914641#32 3819641966#32 3819641963#32 1777774244#32 1777774240#32 2441914646#32

/-- A word's leading bits as a number of the unit interval, before the division by its range. -/
def unitOf (w : W) : F .f32 :=
  FloatOps.subf (FloatOps.ofBits .f32 (IntOp.ori (IntOp.shrui .vector w 9#32) 1065353216#32)) (Scalar.ofBits .f32 0x3F800000#32)

end Cert.Draw

end
-- ==== Proof.Step.lean ====
module

public import proofs.«01_k».proof.Proof.KernelIdeal.MainCall
public import proofs.«01_k».proof.Proof.Draw
public import Idealize.ShloMosaic.Lib.Pointwise.Reshape
public import Idealize.ShloMosaic.Lib.Tactic
public import Idealize.ShloMosaic.Lib.WholeRead
public import Idealize.ShloMosaic.Lib.WritesUnit
public import Idealize.ShloMosaic.Lib.Pipeline.ReadBack

@[expose] public section

set_option maxRecDepth 16384

/-! # What one grid point of the first call writes

One grid point looks at 128 consecutive lanes of eight rows of each of the sixteen groups.  For every
batch and lane it takes the largest noisy power of the block, the number of the state that reached it
and that state's two values, and inserts this row into a list of three rows. -/

noncomputable section

namespace Cert.Draw

open Idealize.ShloMosaic Cert.KernelIdeal Cert.KernelIdeal.Gen Cert.KernelIdeal.Whole

variable {F : FTy → Type} [FloatOps F] [Named F]

/-- A state's noisy power: its power over minus the base-two logarithm of a random number. -/
def rateOf (p : F .f32) (n : W) : F .f32 :=
  FloatOps.divf p (FloatOps.subf (Scalar.ofBits .f32 0x00000000#32)
    (FloatOps.mulf (FloatOps.log (unitOf (word2 n))) (Named.named κ "inv_ln2" 0x3FB8AA3B#32)))

/-- Where a batch's numbers start. -/
def offs : Fin 4 → W := ![0#32, 8388608#32, 16777216#32, 25165824#32]

/-- The noisy powers of a block for one batch. -/
def rate (i : grid0.Coords) (b : Fin 4) (ev : FVec F S16x8x128 .f32) (lo : IVec S16x8x128 32) : FVec F S16x8x128 .f32 := fun j =>
  rateOf (ev j) (IntOp.addi (lo j) (Scalar.addi (Scalar.muli (BitVec.ofNat 32 (i 0).val) 1024#32) (offs b)))

/-- The largest value of each lane. -/
def topV (r : FVec F S16x8x128 .f32) : FVec F S1x128 .f32 :=
  shapeCast S1x128 (multiReduction .maximumf [0] S128
    (multiReduction .maximumf [0] S8x128 r 0xFF800000#32 reduces_S16x8x128_S8x128 (.inl rfl) rfl)
    0xFF800000#32 reduces_S8x128_S128 (.inl rfl) rfl) shapeCasts_S128_S1x128

/-- The least state number of each lane among those with the largest value. -/
def candV (r : FVec F S16x8x128 .f32) (s : IVec S16x8x128 32) : IVec S1x128 32 :=
  shapeCast S1x128 (multiReductionI .minsi [0] S128
    (multiReductionI .minsi [0] S8x128
      (select (cmpf .oeq r (broadcastTo S16x8x128 (shapeCast S1x1x128 (topV r) shapeCasts_S1x128_S1x1x128) broadcasts_S1x1x128_S16x8x128))
        s (broadcast S16x8x128 2147483647#32)) 2147483647#32 reduces_S16x8x128_S8x128 rfl)
    2147483647#32 reduces_S8x128_S128 rfl) shapeCasts_S128_S1x128

/-- The value of `x` at that state. -/
def pickV (r : FVec F S16x8x128 .f32) (s : IVec S16x8x128 32) (x : FVec F S16x8x128 .f32) : FVec F S1x128 .f32 :=
  topV (select (cmpi .eq s (broadcastTo S16x8x128 (shapeCast S1x1x128 (candV r s) shapeCasts_S1x128_S1x1x128) broadcasts_S1x1x128_S16x8x128))
    x (broadcast S16x8x128 (Scalar.ofBits .f32 0xFF800000#32)))

/-- Four lanes' rows one under the other. -/
def stack {e : EltTy} (f : Fin 4 → S1x128.Idx → Elt F e) : S4x128.Idx → Elt F e :=
  concatenate S4x128 0 [⟨S1x128, f 0⟩, ⟨S1x128, f 1⟩, ⟨S1x128, f 2⟩, ⟨S1x128, f 3⟩] concatenates_S1x128_S1x128_S1x128_S1x128_S4x128_d0

/-- A row of a list: noisy power, state number, and the state's two values. -/
abbrev Row (F : FTy → Type) := F .f32 × W × F .f32 × F .f32

/-- Whether row `n` goes before row `o`. -/
def beats (n o : Row F) : BitVec 1 :=
  IntOp.ori (FloatOps.cmpf .ogt n.1 o.1) (IntOp.andi (FloatOps.cmpf .oeq n.1 o.1) (IntOp.cmpi .slt n.2.1 o.2.1))

/-- The row that stays when `n` meets `o`. -/
def keepRow (n o : Row F) : Row F :=
  (Scalar.select (beats n o) n.1 o.1, Scalar.select (beats n o) n.2.1 o.2.1,
    Scalar.select (beats n o) n.2.2.1 o.2.2.1, Scalar.select (beats n o) n.2.2.2 o.2.2.2)

/-- The row that goes on when `n` meets `o`. -/
def passRow (n o : Row F) : Row F :=
  (Scalar.select (beats n o) o.1 n.1, Scalar.select (beats n o) o.2.1 n.2.1,
    Scalar.select (beats n o) o.2.2.1 n.2.2.1, Scalar.select (beats n o) o.2.2.2 n.2.2.2)

/-- The list of three rows after `n` was inserted into `o`. -/
def slot (n : Row F) (o : Fin 3 → Row F) : Fin 3 → Row F :=
  ![keepRow n (o 0), keepRow (passRow n (o 0)) (o 1), keepRow (passRow (passRow n (o 0)) (o 1)) (o 2)]

/-- The rows a block yields, from the blocks of the two values, of the powers and of the numbers. -/
def newRow (i : grid0.Coords) (xr xi ev : FVec F S16x8x128 .f32) (s lo : IVec S16x8x128 32) (y : S4x128.Idx) : Row F :=
  (stack (e := .f32) (fun b => topV (rate i b ev lo)) y, stack (F := F) (e := .i32) (fun b => candV (rate i b ev lo) s) y,
    stack (e := .f32) (fun b => pickV (rate i b ev lo) s xr) y, stack (e := .f32) (fun b => pickV (rate i b ev lo) s xi) y)

/-- The rows of a block, from what the call loads. -/
def blockRow (i : grid0.Coords) (x0 x1 : Vec F S16x8x128 .f32) (x2 : Vec F S16x16 .f32) (c0 c1 : F .f32) (lo : Vec F S16x8x128 .i32) :
    S4x128.Idx → Row F :=
  newRow i (k0_pay11 x0 x1 x2 c0 c1) (k0_pay12 x0 x1 x2 c0 c1) (k0_pay13 x0 x1 x2 c0 c1) (k0_pay14 i lo) lo

/-- Three loaded slabs as a list of rows. -/
def oldRow (a : Fin 3 → Vec F S1x4x128 .f32) (b : Fin 3 → Vec F S1x4x128 .i32) (p q : Fin 3 → Vec F S1x4x128 .f32) (y : S4x128.Idx) (k : Fin 3) : Row F :=
  (shapeCast S4x128 (a k) shapeCasts_S1x4x128_S4x128 y, shapeCast S4x128 (b k) shapeCasts_S1x4x128_S4x128 y,
    shapeCast S4x128 (p k) shapeCasts_S1x4x128_S4x128 y, shapeCast S4x128 (q k) shapeCasts_S1x4x128_S4x128 y)

/-- Three slabs written one after the other are read back slab by slab. -/
theorem read_slabs {Val : EltTy → Type} {sp : Space} {e : EltTy} (v : View sig .tc sp S3x4x128 e) (f : v.ty.Contents Val)
    (w2 w1 w0 : S1x4x128.Idx → Val e) (L : List (View.Piece Val S3x4x128 e)) (k : Fin 3) (b : Fin 4) (d : Fin 128) :
    v.read Val (v.writes Val f ((⟨Rect.unit ![2, 0, 0] S1x4x128.size inb_S3x4x128_S1x4x128_2_0_0, w2⟩ : View.Piece Val S3x4x128 e)
      :: ⟨Rect.unit ![1, 0, 0] S1x4x128.size inb_S3x4x128_S1x4x128_1_0_0, w1⟩
      :: ⟨Rect.unit ![0, 0, 0] S1x4x128.size inb_S3x4x128_S1x4x128_0_0_0, w0⟩ :: L)) (ix3 k b d)
      = (![w0, w1, w2] : Fin 3 → S1x4x128.Idx → Val e) k (ix3 0 b d) := by
  fin_cases k
  · refine (View.read_writes_cons_unit_of_not_mem v f _ w2 _ _ rfl (0 : Fin 3) (Or.inl (by show 0 < 2; omega))).trans ?_
    refine (View.read_writes_cons_unit_of_not_mem v f _ w1 _ _ rfl (0 : Fin 3) (Or.inl (by show 0 < 1; omega))).trans ?_
    exact View.read_writes_cons_unit_of_mem v f _ w0 L _ (ix3 0 b d) rfl (fun a => by fin_cases a <;> simp [ix3])
  · refine (View.read_writes_cons_unit_of_not_mem v f _ w2 _ _ rfl (0 : Fin 3) (Or.inl (by show 1 < 2; omega))).trans ?_
    exact View.read_writes_cons_unit_of_mem v f _ w1 _ _ (ix3 0 b d) rfl (fun a => by fin_cases a <;> simp [ix3])
  · exact View.read_writes_cons_unit_of_mem v f _ w2 _ _ (ix3 0 b d) rfl (fun a => by fin_cases a <;> simp [ix3])

/-- The slabs that the grid point leaves in output 0, the list being carried over, from the loads. -/
theorem raw_B_0 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : ¬cond0_0 i) (x0 x1 : Vec F S16x8x128 .f32) (x2 : Vec F S16x16 .f32) (x3 : Vec F S4 .f32)
    (o4 : Vec F S3x4x128 .f32) (o5 : Vec F S3x4x128 .i32) (o6 o7 : Vec F S3x4x128 .f32) (s0 : Vec F S16x8x128 .i32) (k : Fin 3) (b : Fin 4) (d : Fin 128) :
    out0_B_4 c i a1 h1 a2 h2 a3 h3 a4 h4 a5 h5 a6 h6 a7 h7 a8 h8 a9 h9 hc x0 x1 x2 x3 o4 o5 o6 o7 s0 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_B.sl.r c a4 h4 x3) (kernelRun0_B.sl.r_1 c a4 h4 x3)
          (View.readAt (Elt F) a9.view (Rect.unit (s := S16x8x128) ![0, 0, 0] S16x8x128.size inb_S16x8x128_S16x8x128_0_0_0).toLoadRect (h9.unread s0))  z)
          ((oldRow ![View.readAt (Elt F) a5.view (Rect.unit (s := S3x4x128) ![0, 0, 0] S1x4x128.size inb_S3x4x128_S1x4x128_0_0_0).toLoadRect (h5.unread o4), View.readAt (Elt F) a5.view (Rect.unit (s := S3x4x128) ![1, 0, 0] S1x4x128.size inb_S3x4x128_S1x4x128_1_0_0).toLoadRect (h5.unread o4), View.readAt (Elt F) a5.view (Rect.unit (s := S3x4x128) ![2, 0, 0] S1x4x128.size inb_S3x4x128_S1x4x128_2_0_0).toLoadRect (h5.unread o4)] ![View.readAt (Elt F) a6.view (Rect.unit (s := S3x4x128) ![0, 0, 0] S1x4x128.size inb_S3x4x128_S1x4x128_0_0_0).toLoadRect (h6.unread o5), View.readAt (Elt F) a6.view (Rect.unit (s := S3x4x128) ![1, 0, 0] S1x4x128.size inb_S3x4x128_S1x4x128_1_0_0).toLoadRect (h6.unread o5), View.readAt (Elt F) a6.view (Rect.unit (s := S3x4x128) ![2, 0, 0] S1x4x128.size inb_S3x4x128_S1x4x128_2_0_0).toLoadRect (h6.unread o5)] ![View.readAt (Elt F) a7.view (Rect.unit (s := S3x4x128) ![0, 0, 0] S1x4x128.size inb_S3x4x128_S1x4x128_0_0_0).toLoadRect (h7.unread o6), View.readAt (Elt F) a7.view (Rect.unit (s := S3x4x128) ![1, 0, 0] S1x4x128.size inb_S3x4x128_S1x4x128_1_0_0).toLoadRect (h7.unread o6), View.readAt (Elt F) a7.view (Rect.unit (s := S3x4x128) ![2, 0, 0] S1x4x128.size inb_S3x4x128_S1x4x128_2_0_0).toLoadRect (h7.unread o6)] ![View.readAt (Elt F) a8.view (Rect.unit (s := S3x4x128) ![0, 0, 0] S1x4x128.size inb_S3x4x128_S1x4x128_0_0_0).toLoadRect (h8.unread o7), View.readAt (Elt F) a8.view (Rect.unit (s := S3x4x128) ![1, 0, 0] S1x4x128.size inb_S3x4x128_S1x4x128_1_0_0).toLoadRect (h8.unread o7), View.readAt (Elt F) a8.view (Rect.unit (s := S3x4x128) ![2, 0, 0] S1x4x128.size inb_S3x4x128_S1x4x128_2_0_0).toLoadRect (h8.unread o7)]) z) k).1) shapeCasts_S4x128_S1x4x128 (ix3 0 b d) := by
  refine (read_slabs VO0_4 _ _ _ _ _ k b d).trans ?_
  fin_cases k <;> sl_kernel_rfl

/-- The slabs that the grid point leaves in output 1, the list being carried over, from the loads. -/
theorem raw_B_1 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : ¬cond0_0 i) (x0 x1 : Vec F S16x8x128 .f32) (x2 : Vec F S16x16 .f32) (x3 : Vec F S4 .f32)
    (o4 : Vec F S3x4x128 .f32) (o5 : Vec F S3x4x128 .i32) (o6 o7 : Vec F S3x4x128 .f32) (s0 : Vec F S16x8x128 .i32) (k : Fin 3) (b : Fin 4) (d : Fin 128) :
    out0_B_5 c i a1 h1 a2 h2 a3 h3 a4 h4 a5 h5 a6 h6 a7 h7 a8 h8 a9 h9 hc x0 x1 x2 x3 o4 o5 o6 o7 s0 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_B.sl.r c a4 h4 x3) (kernelRun0_B.sl.r_1 c a4 h4 x3)
          (View.readAt (Elt F) a9.view (Rect.unit (s := S16x8x128) ![0, 0, 0] S16x8x128.size inb_S16x8x128_S16x8x128_0_0_0).toLoadRect (h9.unread s0))  z)
          ((oldRow ![View.readAt (Elt F) a5.view (Rect.unit (s := S3x4x128) ![0, 0, 0] S1x4x128.size inb_S3x4x128_S1x4x128_0_0_0).toLoadRect (h5.unread o4), View.readAt (Elt F) a5.view (Rect.unit (s := S3x4x128) ![1, 0, 0] S1x4x128.size inb_S3x4x128_S1x4x128_1_0_0).toLoadRect (h5.unread o4), View.readAt (Elt F) a5.view (Rect.unit (s := S3x4x128) ![2, 0, 0] S1x4x128.size inb_S3x4x128_S1x4x128_2_0_0).toLoadRect (h5.unread o4)] ![View.readAt (Elt F) a6.view (Rect.unit (s := S3x4x128) ![0, 0, 0] S1x4x128.size inb_S3x4x128_S1x4x128_0_0_0).toLoadRect (h6.unread o5), View.readAt (Elt F) a6.view (Rect.unit (s := S3x4x128) ![1, 0, 0] S1x4x128.size inb_S3x4x128_S1x4x128_1_0_0).toLoadRect (h6.unread o5), View.readAt (Elt F) a6.view (Rect.unit (s := S3x4x128) ![2, 0, 0] S1x4x128.size inb_S3x4x128_S1x4x128_2_0_0).toLoadRect (h6.unread o5)] ![View.readAt (Elt F) a7.view (Rect.unit (s := S3x4x128) ![0, 0, 0] S1x4x128.size inb_S3x4x128_S1x4x128_0_0_0).toLoadRect (h7.unread o6), View.readAt (Elt F) a7.view (Rect.unit (s := S3x4x128) ![1, 0, 0] S1x4x128.size inb_S3x4x128_S1x4x128_1_0_0).toLoadRect (h7.unread o6), View.readAt (Elt F) a7.view (Rect.unit (s := S3x4x128) ![2, 0, 0] S1x4x128.size inb_S3x4x128_S1x4x128_2_0_0).toLoadRect (h7.unread o6)] ![View.readAt (Elt F) a8.view (Rect.unit (s := S3x4x128) ![0, 0, 0] S1x4x128.size inb_S3x4x128_S1x4x128_0_0_0).toLoadRect (h8.unread o7), View.readAt (Elt F) a8.view (Rect.unit (s := S3x4x128) ![1, 0, 0] S1x4x128.size inb_S3x4x128_S1x4x128_1_0_0).toLoadRect (h8.unread o7), View.readAt (Elt F) a8.view (Rect.unit (s := S3x4x128) ![2, 0, 0] S1x4x128.size inb_S3x4x128_S1x4x128_2_0_0).toLoadRect (h8.unread o7)]) z) k).2.1) shapeCasts_S4x128_S1x4x128 (ix3 0 b d) := by
  refine (read_slabs VO0_5 _ _ _ _ _ k b d).trans ?_
  fin_cases k <;> sl_kernel_rfl

/-- The slabs that the grid point leaves in output 2, the list being carried over, from the loads. -/
theorem raw_B_2 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : ¬cond0_0 i) (x0 x1 : Vec F S16x8x128 .f32) (x2 : Vec F S16x16 .f32) (x3 : Vec F S4 .f32)
    (o4 : Vec F S3x4x128 .f32) (o5 : Vec F S3x4x128 .i32) (o6 o7 : Vec F S3x4x128 .f32) (s0 : Vec F S16x8x128 .i32) (k : Fin 3) (b : Fin 4) (d : Fin 128) :
    out0_B_6 c i a1 h1 a2 h2 a3 h3 a4 h4 a5 h5 a6 h6 a7 h7 a8 h8 a9 h9 hc x0 x1 x2 x3 o4 o5 o6 o7 s0 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_B.sl.r c a4 h4 x3) (kernelRun0_B.sl.r_1 c a4 h4 x3)
          (View.readAt (Elt F) a9.view (Rect.unit (s := S16x8x128) ![0, 0, 0] S16x8x128.size inb_S16x8x128_S16x8x128_0_0_0).toLoadRect (h9.unread s0))  z)
          ((oldRow ![View.readAt (Elt F) a5.view (Rect.unit (s := S3x4x128) ![0, 0, 0] S1x4x128.size inb_S3x4x128_S1x4x128_0_0_0).toLoadRect (h5.unread o4), View.readAt (Elt F) a5.view (Rect.unit (s := S3x4x128) ![1, 0, 0] S1x4x128.size inb_S3x4x128_S1x4x128_1_0_0).toLoadRect (h5.unread o4), View.readAt (Elt F) a5.view (Rect.unit (s := S3x4x128) ![2, 0, 0] S1x4x128.size inb_S3x4x128_S1x4x128_2_0_0).toLoadRect (h5.unread o4)] ![View.readAt (Elt F) a6.view (Rect.unit (s := S3x4x128) ![0, 0, 0] S1x4x128.size inb_S3x4x128_S1x4x128_0_0_0).toLoadRect (h6.unread o5), View.readAt (Elt F) a6.view (Rect.unit (s := S3x4x128) ![1, 0, 0] S1x4x128.size inb_S3x4x128_S1x4x128_1_0_0).toLoadRect (h6.unread o5), View.readAt (Elt F) a6.view (Rect.unit (s := S3x4x128) ![2, 0, 0] S1x4x128.size inb_S3x4x128_S1x4x128_2_0_0).toLoadRect (h6.unread o5)] ![View.readAt (Elt F) a7.view (Rect.unit (s := S3x4x128) ![0, 0, 0] S1x4x128.size inb_S3x4x128_S1x4x128_0_0_0).toLoadRect (h7.unread o6), View.readAt (Elt F) a7.view (Rect.unit (s := S3x4x128) ![1, 0, 0] S1x4x128.size inb_S3x4x128_S1x4x128_1_0_0).toLoadRect (h7.unread o6), View.readAt (Elt F) a7.view (Rect.unit (s := S3x4x128) ![2, 0, 0] S1x4x128.size inb_S3x4x128_S1x4x128_2_0_0).toLoadRect (h7.unread o6)] ![View.readAt (Elt F) a8.view (Rect.unit (s := S3x4x128) ![0, 0, 0] S1x4x128.size inb_S3x4x128_S1x4x128_0_0_0).toLoadRect (h8.unread o7), View.readAt (Elt F) a8.view (Rect.unit (s := S3x4x128) ![1, 0, 0] S1x4x128.size inb_S3x4x128_S1x4x128_1_0_0).toLoadRect (h8.unread o7), View.readAt (Elt F) a8.view (Rect.unit (s := S3x4x128) ![2, 0, 0] S1x4x128.size inb_S3x4x128_S1x4x128_2_0_0).toLoadRect (h8.unread o7)]) z) k).2.2.1) shapeCasts_S4x128_S1x4x128 (ix3 0 b d) := by
  refine (read_slabs VO0_6 _ _ _ _ _ k b d).trans ?_
  fin_cases k <;> sl_kernel_rfl

/-- The slabs that the grid point leaves in output 3, the list being carried over, from the loads. -/
theorem raw_B_3 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : ¬cond0_0 i) (x0 x1 : Vec F S16x8x128 .f32) (x2 : Vec F S16x16 .f32) (x3 : Vec F S4 .f32)
    (o4 : Vec F S3x4x128 .f32) (o5 : Vec F S3x4x128 .i32) (o6 o7 : Vec F S3x4x128 .f32) (s0 : Vec F S16x8x128 .i32) (k : Fin 3) (b : Fin 4) (d : Fin 128) :
    out0_B_7 c i a1 h1 a2 h2 a3 h3 a4 h4 a5 h5 a6 h6 a7 h7 a8 h8 a9 h9 hc x0 x1 x2 x3 o4 o5 o6 o7 s0 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_B.sl.r c a4 h4 x3) (kernelRun0_B.sl.r_1 c a4 h4 x3)
          (View.readAt (Elt F) a9.view (Rect.unit (s := S16x8x128) ![0, 0, 0] S16x8x128.size inb_S16x8x128_S16x8x128_0_0_0).toLoadRect (h9.unread s0))  z)
          ((oldRow ![View.readAt (Elt F) a5.view (Rect.unit (s := S3x4x128) ![0, 0, 0] S1x4x128.size inb_S3x4x128_S1x4x128_0_0_0).toLoadRect (h5.unread o4), View.readAt (Elt F) a5.view (Rect.unit (s := S3x4x128) ![1, 0, 0] S1x4x128.size inb_S3x4x128_S1x4x128_1_0_0).toLoadRect (h5.unread o4), View.readAt (Elt F) a5.view (Rect.unit (s := S3x4x128) ![2, 0, 0] S1x4x128.size inb_S3x4x128_S1x4x128_2_0_0).toLoadRect (h5.unread o4)] ![View.readAt (Elt F) a6.view (Rect.unit (s := S3x4x128) ![0, 0, 0] S1x4x128.size inb_S3x4x128_S1x4x128_0_0_0).toLoadRect (h6.unread o5), View.readAt (Elt F) a6.view (Rect.unit (s := S3x4x128) ![1, 0, 0] S1x4x128.size inb_S3x4x128_S1x4x128_1_0_0).toLoadRect (h6.unread o5), View.readAt (Elt F) a6.view (Rect.unit (s := S3x4x128) ![2, 0, 0] S1x4x128.size inb_S3x4x128_S1x4x128_2_0_0).toLoadRect (h6.unread o5)] ![View.readAt (Elt F) a7.view (Rect.unit (s := S3x4x128) ![0, 0, 0] S1x4x128.size inb_S3x4x128_S1x4x128_0_0_0).toLoadRect (h7.unread o6), View.readAt (Elt F) a7.view (Rect.unit (s := S3x4x128) ![1, 0, 0] S1x4x128.size inb_S3x4x128_S1x4x128_1_0_0).toLoadRect (h7.unread o6), View.readAt (Elt F) a7.view (Rect.unit (s := S3x4x128) ![2, 0, 0] S1x4x128.size inb_S3x4x128_S1x4x128_2_0_0).toLoadRect (h7.unread o6)] ![View.readAt (Elt F) a8.view (Rect.unit (s := S3x4x128) ![0, 0, 0] S1x4x128.size inb_S3x4x128_S1x4x128_0_0_0).toLoadRect (h8.unread o7), View.readAt (Elt F) a8.view (Rect.unit (s := S3x4x128) ![1, 0, 0] S1x4x128.size inb_S3x4x128_S1x4x128_1_0_0).toLoadRect (h8.unread o7), View.readAt (Elt F) a8.view (Rect.unit (s := S3x4x128) ![2, 0, 0] S1x4x128.size inb_S3x4x128_S1x4x128_2_0_0).toLoadRect (h8.unread o7)]) z) k).2.2.2) shapeCasts_S4x128_S1x4x128 (ix3 0 b d) := by
  refine (read_slabs VO0_7 _ _ _ _ _ k b d).trans ?_
  fin_cases k <;> sl_kernel_rfl

/-- The slabs that the grid point leaves in output 0, the list being filled first, from the loads. -/
theorem raw_A_0 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : cond0_0 i) (x0 x1 : Vec F S16x8x128 .f32) (x2 : Vec F S16x16 .f32) (x3 : Vec F S4 .f32) (k : Fin 3) (b : Fin 4) (d : Fin 128) :
    out0_A_4 c i a1 h1 a2 h2 a3 h3 a4 h4 a5 h5 a6 h6 a7 h7 a8 h8 a9 h9 hc x0 x1 x2 x3 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_A.sl.r c a4 h4 x3) (kernelRun0_A.sl.r_1 c a4 h4 x3)
          (kernelRun0_A.sl.v29 c a9)  z)
          ((oldRow ![kernelRun0_A.sl.v854 c a5, kernelRun0_A.sl.v887 c i a1 h1 a2 h2 a3 h3 a4 h4 a5 a6 a9 x0 x1 x2 x3, kernelRun0_A.sl.v920 c i a1 h1 a2 h2 a3 h3 a4 h4 a5 a6 a9 x0 x1 x2 x3] ![kernelRun0_A.sl.v856 c a6, kernelRun0_A.sl.v889 c i a1 h1 a2 h2 a3 h3 a4 h4 a5 a6 a9 x0 x1 x2 x3, kernelRun0_A.sl.v922 c i a1 h1 a2 h2 a3 h3 a4 h4 a5 a6 a9 x0 x1 x2 x3] ![kernelRun0_A.sl.v858 c a7, kernelRun0_A.sl.v891 c i a1 h1 a2 h2 a3 h3 a4 h4 a5 a6 a7 a9 x0 x1 x2 x3, kernelRun0_A.sl.v924 c i a1 h1 a2 h2 a3 h3 a4 h4 a5 a6 a7 a9 x0 x1 x2 x3] ![kernelRun0_A.sl.v860 c a8, kernelRun0_A.sl.v893 c i a1 h1 a2 h2 a3 h3 a4 h4 a5 a6 a8 a9 x0 x1 x2 x3, kernelRun0_A.sl.v926 c i a1 h1 a2 h2 a3 h3 a4 h4 a5 a6 a8 a9 x0 x1 x2 x3]) z) k).1) shapeCasts_S4x128_S1x4x128 (ix3 0 b d) := by
  refine (read_slabs VO0_4 _ _ _ _ _ k b d).trans ?_
  fin_cases k <;> sl_kernel_rfl

/-- The slabs that the grid point leaves in output 1, the list being filled first, from the loads. -/
theorem raw_A_1 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : cond0_0 i) (x0 x1 : Vec F S16x8x128 .f32) (x2 : Vec F S16x16 .f32) (x3 : Vec F S4 .f32) (k : Fin 3) (b : Fin 4) (d : Fin 128) :
    out0_A_5 c i a1 h1 a2 h2 a3 h3 a4 h4 a5 h5 a6 h6 a7 h7 a8 h8 a9 h9 hc x0 x1 x2 x3 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_A.sl.r c a4 h4 x3) (kernelRun0_A.sl.r_1 c a4 h4 x3)
          (kernelRun0_A.sl.v29 c a9)  z)
          ((oldRow ![kernelRun0_A.sl.v854 c a5, kernelRun0_A.sl.v887 c i a1 h1 a2 h2 a3 h3 a4 h4 a5 a6 a9 x0 x1 x2 x3, kernelRun0_A.sl.v920 c i a1 h1 a2 h2 a3 h3 a4 h4 a5 a6 a9 x0 x1 x2 x3] ![kernelRun0_A.sl.v856 c a6, kernelRun0_A.sl.v889 c i a1 h1 a2 h2 a3 h3 a4 h4 a5 a6 a9 x0 x1 x2 x3, kernelRun0_A.sl.v922 c i a1 h1 a2 h2 a3 h3 a4 h4 a5 a6 a9 x0 x1 x2 x3] ![kernelRun0_A.sl.v858 c a7, kernelRun0_A.sl.v891 c i a1 h1 a2 h2 a3 h3 a4 h4 a5 a6 a7 a9 x0 x1 x2 x3, kernelRun0_A.sl.v924 c i a1 h1 a2 h2 a3 h3 a4 h4 a5 a6 a7 a9 x0 x1 x2 x3] ![kernelRun0_A.sl.v860 c a8, kernelRun0_A.sl.v893 c i a1 h1 a2 h2 a3 h3 a4 h4 a5 a6 a8 a9 x0 x1 x2 x3, kernelRun0_A.sl.v926 c i a1 h1 a2 h2 a3 h3 a4 h4 a5 a6 a8 a9 x0 x1 x2 x3]) z) k).2.1) shapeCasts_S4x128_S1x4x128 (ix3 0 b d) := by
  refine (read_slabs VO0_5 _ _ _ _ _ k b d).trans ?_
  fin_cases k <;> sl_kernel_rfl

/-- The slabs that the grid point leaves in output 2, the list being filled first, from the loads. -/
theorem raw_A_2 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : cond0_0 i) (x0 x1 : Vec F S16x8x128 .f32) (x2 : Vec F S16x16 .f32) (x3 : Vec F S4 .f32) (k : Fin 3) (b : Fin 4) (d : Fin 128) :
    out0_A_6 c i a1 h1 a2 h2 a3 h3 a4 h4 a5 h5 a6 h6 a7 h7 a8 h8 a9 h9 hc x0 x1 x2 x3 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_A.sl.r c a4 h4 x3) (kernelRun0_A.sl.r_1 c a4 h4 x3)
          (kernelRun0_A.sl.v29 c a9)  z)
          ((oldRow ![kernelRun0_A.sl.v854 c a5, kernelRun0_A.sl.v887 c i a1 h1 a2 h2 a3 h3 a4 h4 a5 a6 a9 x0 x1 x2 x3, kernelRun0_A.sl.v920 c i a1 h1 a2 h2 a3 h3 a4 h4 a5 a6 a9 x0 x1 x2 x3] ![kernelRun0_A.sl.v856 c a6, kernelRun0_A.sl.v889 c i a1 h1 a2 h2 a3 h3 a4 h4 a5 a6 a9 x0 x1 x2 x3, kernelRun0_A.sl.v922 c i a1 h1 a2 h2 a3 h3 a4 h4 a5 a6 a9 x0 x1 x2 x3] ![kernelRun0_A.sl.v858 c a7, kernelRun0_A.sl.v891 c i a1 h1 a2 h2 a3 h3 a4 h4 a5 a6 a7 a9 x0 x1 x2 x3, kernelRun0_A.sl.v924 c i a1 h1 a2 h2 a3 h3 a4 h4 a5 a6 a7 a9 x0 x1 x2 x3] ![kernelRun0_A.sl.v860 c a8, kernelRun0_A.sl.v893 c i a1 h1 a2 h2 a3 h3 a4 h4 a5 a6 a8 a9 x0 x1 x2 x3, kernelRun0_A.sl.v926 c i a1 h1 a2 h2 a3 h3 a4 h4 a5 a6 a8 a9 x0 x1 x2 x3]) z) k).2.2.1) shapeCasts_S4x128_S1x4x128 (ix3 0 b d) := by
  refine (read_slabs VO0_6 _ _ _ _ _ k b d).trans ?_
  fin_cases k <;> sl_kernel_rfl

/-- The slabs that the grid point leaves in output 3, the list being filled first, from the loads. -/
theorem raw_A_3 (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : cond0_0 i) (x0 x1 : Vec F S16x8x128 .f32) (x2 : Vec F S16x16 .f32) (x3 : Vec F S4 .f32) (k : Fin 3) (b : Fin 4) (d : Fin 128) :
    out0_A_7 c i a1 h1 a2 h2 a3 h3 a4 h4 a5 h5 a6 h6 a7 h7 a8 h8 a9 h9 hc x0 x1 x2 x3 (ix3 k b d)
      = shapeCast S1x4x128 (fun z => (slot (blockRow i (View.readAt (Elt F) a1.view (Rect.unit (s := S16x8x128) ![0, 0, 0] S16x8x128.size inb_S16x8x128_S16x8x128_0_0_0).toLoadRect (h1.unread x0)) (View.readAt (Elt F) a2.view (Rect.unit (s := S16x8x128) ![0, 0, 0] S16x8x128.size inb_S16x8x128_S16x8x128_0_0_0).toLoadRect (h2.unread x1)) (View.readAt (Elt F) a3.view (Rect.unit (s := S16x16) ![0, 0] S16x16.size inb_S16x16_S16x16_0_0).toLoadRect (h3.unread x2)) (kernelRun0_A.sl.r c a4 h4 x3) (kernelRun0_A.sl.r_1 c a4 h4 x3)
          (kernelRun0_A.sl.v29 c a9)  z)
          ((oldRow ![kernelRun0_A.sl.v854 c a5, kernelRun0_A.sl.v887 c i a1 h1 a2 h2 a3 h3 a4 h4 a5 a6 a9 x0 x1 x2 x3, kernelRun0_A.sl.v920 c i a1 h1 a2 h2 a3 h3 a4 h4 a5 a6 a9 x0 x1 x2 x3] ![kernelRun0_A.sl.v856 c a6, kernelRun0_A.sl.v889 c i a1 h1 a2 h2 a3 h3 a4 h4 a5 a6 a9 x0 x1 x2 x3, kernelRun0_A.sl.v922 c i a1 h1 a2 h2 a3 h3 a4 h4 a5 a6 a9 x0 x1 x2 x3] ![kernelRun0_A.sl.v858 c a7, kernelRun0_A.sl.v891 c i a1 h1 a2 h2 a3 h3 a4 h4 a5 a6 a7 a9 x0 x1 x2 x3, kernelRun0_A.sl.v924 c i a1 h1 a2 h2 a3 h3 a4 h4 a5 a6 a7 a9 x0 x1 x2 x3] ![kernelRun0_A.sl.v860 c a8, kernelRun0_A.sl.v893 c i a1 h1 a2 h2 a3 h3 a4 h4 a5 a6 a8 a9 x0 x1 x2 x3, kernelRun0_A.sl.v926 c i a1 h1 a2 h2 a3 h3 a4 h4 a5 a6 a8 a9 x0 x1 x2 x3]) z) k).2.2.2) shapeCasts_S4x128_S1x4x128 (ix3 0 b d) := by
  refine (read_slabs VO0_7 _ _ _ _ _ k b d).trans ?_
  fin_cases k <;> sl_kernel_rfl

end Cert.Draw

end
-- ==== Proof.Unit.lean ====
module

public import proofs.«01_k».proof.Proof.Step
public import Idealize.ShloMosaic.PureOps.Ideal.Laws
public import Mathlib.Analysis.SpecialFunctions.Log.Basic

@[expose] public section

/-! # The race over the real numbers

The random numbers lie in the unit interval, so a state's noisy power is a real number that is not negative, and
the kernel's power, whose logarithm is to the base two, is the reference's times the logarithm of two. -/

noncomputable section

namespace Cert.Draw

open Idealize.ShloMosaic

/-- A sum of real numbers among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of one. -/
theorem ofBits_one : (Scalar.ofBits .f32 0x3F800000#32 : Ideal .f32) = ((1 : ℝ) : EReal) := by
  show Ideal.ofBits .f32 0x3F800000#32 = _
  simp [Ideal.ofBits, Ideal.ieee, -EReal.coe_mul]; norm_num

/-- A word's random number is real and in the unit interval. -/
theorem unit_real (w : W) : ∃ u : ℝ, 0 ≤ u ∧ u < 1 ∧ (unitOf w : Ideal .f32) = (u : EReal) := by
  have hs : (IntOp.shrui .vector w 9#32).toNat < 2 ^ 23 := by
    show (if (9#32 : W).toNat < 32 then w >>> (9#32 : W) else _).toNat < _
    rw [if_pos (by decide)]
    show (w >>> 9).toNat < _
    rw [BitVec.toNat_ushiftRight, Nat.shiftRight_eq_div_pow]
    have := w.isLt
    omega
  unfold unitOf
  generalize IntOp.shrui .vector w 9#32 = a at hs
  have ho : (IntOp.ori a 1065353216#32).toNat = 2 ^ 23 * 127 + a.toNat := by
    show (a ||| 1065353216#32).toNat = _
    rw [BitVec.toNat_or, Nat.two_pow_add_eq_or_of_lt hs, Nat.or_comm]
    rfl
  generalize IntOp.ori a 1065353216#32 = o at ho
  have e1 : (o.extractLsb' (8 + 23) 1 == 1#1) = false := by
    rw [beq_eq_false_iff_ne]
    intro h
    have := congrArg BitVec.toNat h
    rw [BitVec.extractLsb'_toNat, ho, Nat.shiftRight_eq_div_pow] at this
    have h2 : (1#1 : BitVec 1).toNat = 1 := rfl
    omega
  have e2 : (o.extractLsb' 23 8).toNat = 127 := by
    rw [BitVec.extractLsb'_toNat, ho, Nat.shiftRight_eq_div_pow]; omega
  have e3 : (o.extractLsb' 0 23).toNat = a.toNat := by
    rw [BitVec.extractLsb'_toNat, ho, Nat.shiftRight_eq_div_pow]; omega
  have e : (FloatOps.ofBits .f32 o : Ideal .f32) = ((1 + a.toNat / 2 ^ 23 : ℝ) : EReal) := by
    show Ideal.ieee 8 23 o = _
    unfold Ideal.ieee
    rw [e1, e2, e3]
    simp only [Bool.false_eq_true, if_false]
    rw [if_neg (by norm_num), if_neg (by norm_num)]
    congr 1
    push_cast
    norm_num
    ring
  rw [e, ofBits_one]
  refine ⟨a.toNat / 2 ^ 23, by positivity, ?_, ?_⟩
  · rw [div_lt_one (by positivity)]; exact_mod_cast hs
  · show ((1 + a.toNat / 2 ^ 23 : ℝ) : EReal) - ((1 : ℝ) : EReal) = _
    rw [← EReal.coe_sub]; congr 1; ring

/-- The logarithm of a real number. -/
theorem log_coe (r : ℝ) : Ideal.log (r : EReal) = if r ≤ 0 then ⊥ else ((Real.log r : ℝ) : EReal) := rfl

/-- The named constant: one over the logarithm of two. -/
theorem inv_ln2_eq : (Named.named (F := Ideal) Cert.KernelIdeal.κ "inv_ln2" 0x3FB8AA3B#32 : Ideal .f32) = (((Real.log 2)⁻¹ : ℝ) : EReal) :=
  IdealRules.named_const.ideal_named_scalar _ _ _ _ rfl

/-- A power of the race, in the reference: the state's weight over its random number's logarithm. -/
def raceOf (ev : EReal) (n : W) : EReal := Ideal.div ev (-Ideal.log (unitOf (F := Ideal) (word2 n)))

/-- Both races' powers of a state with a real weight: real, not negative, and in the fixed ratio. -/
theorem race_real (ev : ℝ) (hev : 0 < ev) (n : W) :
    ∃ ρ : ℝ, 0 ≤ ρ ∧ raceOf ev n = (ρ : EReal) ∧ (rateOf (F := Ideal) ((ev : EReal) : Ideal .f32) n : EReal) = ((ρ * Real.log 2 : ℝ) : EReal) := by
  obtain ⟨u, h0, h1, hu⟩ := unit_real (word2 n)
  have hl2 : 0 < Real.log 2 := Real.log_pos (by norm_num)
  have hz : (Scalar.ofBits .f32 0x00000000#32 : Ideal .f32) = (0 : EReal) := by
    show Ideal.ofBits .f32 0x00000000#32 = 0
    simp [Ideal.ofBits, Ideal.ieee]
  have hr : (rateOf (F := Ideal) ((ev : EReal) : Ideal .f32) n : EReal) = Ideal.div ev (0 - Ideal.log (unitOf (F := Ideal) (word2 n)) * (((Real.log 2)⁻¹ : ℝ) : EReal)) := by
    unfold rateOf
    rw [inv_ln2_eq, hz]
    rfl
  rw [hr]
  unfold raceOf
  have hu' : (unitOf (F := Ideal) (word2 n) : EReal) = (u : EReal) := hu
  rw [hu']
  rcases h0.eq_or_lt with rfl | hpos
  · refine ⟨0, le_rfl, ?_, ?_⟩
    · have : Ideal.log ((0 : ℝ) : EReal) = ⊥ := by simp only [log_coe, le_refl, if_true]
      rw [this]
      simp [Ideal.div]
    · have : Ideal.log ((0 : ℝ) : EReal) = ⊥ := by simp only [log_coe, le_refl, if_true]
      rw [this, EReal.bot_mul_coe_of_pos (inv_pos.mpr hl2)]
      simp [Ideal.div]
  · have hlog : Ideal.log (u : EReal) = ((Real.log u : ℝ) : EReal) := by rw [log_coe, if_neg (not_le.mpr hpos)]
    have hneg : Real.log u < 0 := Real.log_neg hpos h1
    have hdiv : ∀ y : ℝ, y ≠ 0 → Ideal.div (ev : EReal) (y : EReal) = ((ev / y : ℝ) : EReal) := fun y hy => by
      unfold Ideal.div
      rw [if_neg (by exact_mod_cast hy), ← EReal.coe_inv, ← EReal.coe_mul, div_eq_mul_inv]
    rw [hlog]
    refine ⟨ev / (-Real.log u), le_of_lt (div_pos hev (by linarith)), ?_, ?_⟩
    · rw [← EReal.coe_neg, hdiv _ (by linarith)]
    · rw [← EReal.coe_mul, zero_sub, ← EReal.coe_neg, hdiv _ (by
        rw [neg_ne_zero]; exact mul_ne_zero hneg.ne (inv_pos.mpr hl2).ne')]
      congr 1
      field_simp

end Cert.Draw
-- ==== Proof.Mix.lean ====
module

public import proofs.«01_k».proof.Proof.RefPre
public import proofs.«01_k».proof.Proof.Arrays
public import proofs.«01_k».proof.Proof.Unit
public import Idealize.ShloMosaic.Lib.Pointwise

@[expose] public section

set_option maxRecDepth 16384

/-! # The mixed fields

The kernel mixes the sites first and turns the phase afterwards, with the damping in its constants; the reference
turns the phase first.  Over the real numbers both give the same fields. -/

noncomputable section

namespace Cert.Draw

open Idealize.ShloMosaic

/-- The kernel's mixing of a block. -/
theorem pay9_apply (x : FVec Ideal Cert.KernelIdeal.S16x8x128 .f32) (w : FVec Ideal Cert.KernelIdeal.S16x16 .f32) (q : Fin 16) (k : Fin 8) (d : Fin 128) :
    Cert.KernelIdeal.Gen.k0_pay9 (F := Ideal) x w (ix3 q k d) = ∑ j : Fin 16, (w (ix2 q j) : EReal) * (x (ix3 j k d) : EReal) := by
  unfold Cert.KernelIdeal.Gen.k0_pay9 Cert.KernelIdeal.Gen.k0_pay8
  rw [shapeCast_self, shapeCast_self]
  refine (Ideal.matmul_constant_zero_apply _ none w x (ix3 q k d)).trans ?_
  refine (DotDims.sum_contr₁ _ (a := 1) rfl (K := 16) rfl _).trans ?_
  refine Finset.sum_congr rfl fun j _ => ?_
  exact congrArg₂ (fun a b => (w a : EReal) * (x b : EReal)) (funext fun a => by fin_cases a <;> rfl) (funext fun a => by fin_cases a <;> rfl)

/-- The reference's mixing. -/
theorem dot_apply (w : FVec Ideal Cert.ReferenceIdeal.S16x16 .f32) (x : FVec Ideal Cert.ReferenceIdeal.S16x4096x128 .f32) (q : Fin 16) (r : Fin 4096) (d : Fin 128) :
    Host.dotGeneral Cert.ReferenceIdeal.dot_S16x16_S16x4096x128_S16x4096x128_1_0_0_12_n_n none w x (ix3 q r d) = ∑ j : Fin 16, (w (ix2 q j) : EReal) * (x (ix3 j r d) : EReal) := by
  refine (Ideal.dotGeneral_apply _ none _ w x (ix3 q r d)).trans ?_
  refine (DotDims.sum_contr₁ _ (a := 1) rfl (K := 16) rfl _).trans ?_
  refine Finset.sum_congr rfl fun j _ => ?_
  exact congrArg₂ (fun a b => (w a : EReal) * (x b : EReal)) (funext fun a => by fin_cases a <;> rfl) (funext fun a => by fin_cases a <;> rfl)

/-- A state's number from its site and its row. -/
def stateAt (q : Fin 16) (r : Fin 4096) : Fin 65536 := ⟨q.val * 4096 + r.val, by omega⟩

/-- The states, site by site. -/
theorem cast_sites {α : Type} (v : Cert.ReferenceIdeal.S65536x128.Idx → α) (q : Fin 16) (r : Fin 4096) (d : Fin 128) :
    shapeCast Cert.ReferenceIdeal.S16x4096x128 v Cert.ReferenceIdeal.Gen.shapeCasts_S65536x128_S16x4096x128 (ix3 q r d) = v (ix2 (stateAt q r) d) :=
  congrArg v (Shape.reshapeEquiv_eq_of_vals _ _ _ _ _ (rowMajor_val2 (ix2 (stateAt q r) d) 128 rfl) (rowMajor_val3 (ix3 q r d) 524288 128 rfl rfl)
    (by simp [ix2, ix3, stateAt]; omega))

/-- The sites' states, in one line. -/
theorem cast_states {α : Type} (v : Cert.ReferenceIdeal.S16x4096x128.Idx → α) (q : Fin 16) (r : Fin 4096) (d : Fin 128) :
    shapeCast Cert.ReferenceIdeal.S65536x128 v Cert.ReferenceIdeal.Gen.shapeCasts_S16x4096x128_S65536x128 (ix2 (stateAt q r) d) = v (ix3 q r d) :=
  congrArg v (Shape.reshapeEquiv_eq_of_vals _ _ _ _ _ (rowMajor_val3 (ix3 q r d) 524288 128 rfl rfl) (rowMajor_val2 (ix2 (stateAt q r) d) 128 rfl)
    (by simp [ix2, ix3, stateAt]; omega))

/-- One part of the reference's mixed field at a state. -/
theorem mixOf_apply (w : FVec Ideal Cert.ReferenceIdeal.S16x16 .f32) (x : FVec Ideal Cert.ReferenceIdeal.S65536x128 .f32) (q : Fin 16) (r : Fin 4096) (d : Fin 128) :
    mixOf w x (ix2 (stateAt q r) d)
      = (((Scalar.ofBits .f32 0x3F4CCCCD#32 : Ideal .f32) : EReal) * (∑ j : Fin 16, (w (ix2 q j) : EReal) * (x (ix2 (stateAt j r) d) : EReal))
          + ((Scalar.ofBits .f32 0x3E4CCCCD#32 : Ideal .f32) : EReal) * (x (ix2 (stateAt q r) d) : EReal)) * ((Scalar.ofBits .f32 0x3F7D73E9#32 : Ideal .f32) : EReal) := by
  have h : ∀ (y : FVec Ideal Cert.ReferenceIdeal.S65536x128 .f32) (i : Cert.ReferenceIdeal.S65536x128.Idx),
      mulf (addf (mulf (broadcastInDim Cert.ReferenceIdeal.S65536x128 ![] Cert.ReferenceIdeal.Gen.bcast_S_S65536x128 (constant Cert.ReferenceIdeal.S_ .f32 0x3F4CCCCD#32)) y)
        (mulf (broadcastInDim Cert.ReferenceIdeal.S65536x128 ![] Cert.ReferenceIdeal.Gen.bcast_S_S65536x128 (constant Cert.ReferenceIdeal.S_ .f32 0x3E4CCCCD#32)) x))
        (broadcastInDim Cert.ReferenceIdeal.S65536x128 ![] Cert.ReferenceIdeal.Gen.bcast_S_S65536x128 (constant Cert.ReferenceIdeal.S_ .f32 0x3F7D73E9#32)) i
      = (((Scalar.ofBits .f32 0x3F4CCCCD#32 : Ideal .f32) : EReal) * (y i : EReal) + ((Scalar.ofBits .f32 0x3E4CCCCD#32 : Ideal .f32) : EReal) * (x i : EReal)) * ((Scalar.ofBits .f32 0x3F7D73E9#32 : Ideal .f32) : EReal) := fun _ _ => rfl
  unfold mixOf
  rw [h, cast_states, dot_apply]
  simp only [cast_sites]

end Cert.Draw
-- ==== Proof.Winner.lean ====
module

public import proofs.«01_k».proof.Proof.Step
public import Idealize.ShloMosaic.Lib.Pointwise
public import Idealize.ShloMosaic.PureOps.Ideal.Laws

@[expose] public section

set_option maxRecDepth 16384

/-! # The row a block yields

Over the extended reals the largest noisy power of a block's lane is the noisy power of one of its
states, the recorded number is that state's, and so are the two recorded values. -/

noncomputable section

namespace Cert.Draw

open Idealize.ShloMosaic Cert.KernelIdeal Cert.KernelIdeal.Gen

/-- A least signed word is the starting word or one of the words, and none of them is below it. -/
theorem fold_minsi {ι : Type} [DecidableEq ι] (m : W) (s : Finset ι) (f : ι → W) :
    (s.fold IntOp.minsi m f = m ∨ ∃ k ∈ s, f k = s.fold IntOp.minsi m f) ∧ ∀ k ∈ s, (s.fold IntOp.minsi m f).toInt ≤ (f k).toInt := by
  induction s using Finset.induction_on with
  | empty => simp
  | insert a s ha ih =>
    rw [Finset.fold_insert ha]
    generalize s.fold IntOp.minsi m f = g at ih
    have h : (IntOp.minsi (f a) g = f a ∧ (f a).toInt ≤ g.toInt) ∨ (IntOp.minsi (f a) g = g ∧ g.toInt ≤ (f a).toInt) := by
      unfold IntOp.minsi
      by_cases hh : (f a).slt g = true
      · exact .inl ⟨if_pos hh, le_of_lt (BitVec.slt_iff_toInt_lt.mp hh)⟩
      · exact .inr ⟨if_neg hh, not_lt.mp fun h => hh (BitVec.slt_iff_toInt_lt.mpr h)⟩
    rcases h with ⟨h, hl⟩ | ⟨h, hl⟩ <;> rw [h]
    · refine ⟨.inr ⟨a, Finset.mem_insert_self _ _, rfl⟩, fun k hk => ?_⟩
      rcases Finset.mem_insert.mp hk with rfl | hk
      · exact le_refl _
      · exact hl.trans (ih.2 k hk)
    · refine ⟨ih.1.imp id fun ⟨k, hk, e⟩ => ⟨k, Finset.mem_insert_of_mem hk, e⟩, fun k hk => ?_⟩
      rcases Finset.mem_insert.mp hk with rfl | hk
      · exact hl
      · exact ih.2 k hk

/-- The lines of the lanes, one line. -/
theorem cast_line {α : Type} (v : S128.Idx → α) (d : Fin 128) :
    shapeCast S1x128 v shapeCasts_S128_S1x128 (ix2 0 d) = v (ix1 d) :=
  congrArg v (Shape.reshapeEquiv_eq_of_vals _ _ _ _ _ (rowMajor_val1 (ix1 d)) (rowMajor_val2 (ix2 0 d) 128 rfl)
    (by simp [ix2, ix1]))

/-- A line spread over a block. -/
theorem spread_line {α : Type} (v : S1x128.Idx → α) (q : Fin 16) (k : Fin 8) (d : Fin 128) :
    broadcastTo S16x8x128 (shapeCast S1x1x128 v shapeCasts_S1x128_S1x1x128) broadcasts_S1x1x128_S16x8x128 (ix3 q k d) = v (ix2 0 d) := by
  show shapeCast S1x1x128 v shapeCasts_S1x128_S1x1x128 (ix3 0 0 d) = _
  exact congrArg v (Shape.reshapeEquiv_eq_of_vals _ _ _ _ _ (rowMajor_val2 (ix2 0 d) 128 rfl) (rowMajor_val3 (ix3 0 0 d) 128 128 rfl rfl)
    (by simp [ix2, ix3]))

/-- The pattern of minus infinity. -/
theorem ofBits_neg_inf : (FloatOps.ofBits .f32 0xFF800000#32 : Ideal .f32) = (⊥ : EReal) := by
  show Ideal.ofBits .f32 0xFF800000#32 = _
  simp [Ideal.ofBits, Ideal.ieee]

/-- A largest value, as a supremum. -/
theorem fold_max_eq_sup {ι : Type} (s : Finset ι) (f g : ι → EReal) (h : ∀ k, f k = g k) : s.fold max ⊥ f = s.sup g :=
  (congrArg (fun f => s.fold max ⊥ f) (funext h)).trans rfl

/-- The largest value of a lane. -/
theorem topV_apply (r : FVec Ideal S16x8x128 .f32) (d : Fin 128) :
    topV r (ix2 0 d) = Finset.univ.sup fun k : Fin 8 => Finset.univ.sup fun q : Fin 16 => (r (ix3 q k d) : EReal) := by
  unfold topV
  have h1 : multiReduction .maximumf [0] S8x128 r 0xFF800000#32 reduces_S16x8x128_S8x128 (.inl rfl) rfl
      = fun y => Finset.univ.sup fun q : Fin 16 => (r (ix3 q (y 0) (y 1)) : EReal) := funext fun y => by
    refine (Ideal.multiReduction_maximumf_single r _ reduces_S16x8x128_S8x128 _ _ y).trans ?_
    rw [ofBits_neg_inf]
    exact fold_max_eq_sup (ι := Fin 16) _ _ _ (fun q => congrArg r (funext fun a => by fin_cases a <;> rfl))
  rw [h1]
  refine (cast_line _ d).trans ((Ideal.multiReduction_maximumf_single _ _ reduces_S8x128_S128 _ _ (ix1 d)).trans ?_)
  rw [ofBits_neg_inf]
  exact fold_max_eq_sup (ι := Fin 8) _ _ _ (fun k => rfl)

/-- The least number of a lane among those with the largest value. -/
theorem candV_apply (r : FVec Ideal S16x8x128 .f32) (s : IVec S16x8x128 32) (d : Fin 128) :
    candV r s (ix2 0 d) = (Finset.univ : Finset (Fin 8)).fold IntOp.minsi 2147483647#32 fun k =>
      (Finset.univ : Finset (Fin 16)).fold IntOp.minsi 2147483647#32 fun q =>
        Scalar.select (FloatOps.cmpf .oeq (r (ix3 q k d)) (topV r (ix2 0 d))) (s (ix3 q k d)) 2147483647#32 := by
  unfold candV
  refine (cast_line _ d).trans ((multiReductionI_eq_fold _ _ _ _ _ _).trans ?_)
  refine (Shape.Reduces.fold_fiber_r2_a0 reduces_S8x128_S128 (ix1 d) IntOp.minsi _ _).trans ?_
  refine Finset.fold_congr (fun k _ => ?_)
  refine (multiReductionI_eq_fold _ _ _ _ _ _).trans ?_
  refine (Shape.Reduces.fold_fiber_r3_a0 reduces_S16x8x128_S8x128 _ IntOp.minsi _ _).trans ?_
  refine Finset.fold_congr (fun q _ => ?_)
  show Scalar.select (FloatOps.cmpf .oeq (r (ix3 q k d)) (broadcastTo S16x8x128 (shapeCast S1x1x128 (topV r) shapeCasts_S1x128_S1x1x128) broadcasts_S1x1x128_S16x8x128 (ix3 q k d))) (s (ix3 q k d)) 2147483647#32 = _
  rw [spread_line]

/-- A lane's value at the recorded number. -/
theorem pickV_apply (r : FVec Ideal S16x8x128 .f32) (s : IVec S16x8x128 32) (x : FVec Ideal S16x8x128 .f32) (d : Fin 128) :
    pickV r s x (ix2 0 d) = Finset.univ.sup fun k : Fin 8 => Finset.univ.sup fun q : Fin 16 =>
      (Scalar.select (IntOp.cmpi .eq (s (ix3 q k d)) (candV r s (ix2 0 d))) (x (ix3 q k d)) (⊥ : EReal) : EReal) := by
  unfold pickV
  refine (topV_apply _ d).trans ?_
  refine Finset.sup_congr rfl fun k _ => Finset.sup_congr rfl fun q _ => ?_
  show Scalar.select (IntOp.cmpi .eq (s (ix3 q k d)) (broadcastTo S16x8x128 (shapeCast S1x1x128 (candV r s) shapeCasts_S1x128_S1x1x128) broadcasts_S1x1x128_S16x8x128 (ix3 q k d)))
    (x (ix3 q k d)) (FloatOps.ofBits .f32 0xFF800000#32 : Ideal .f32) = _
  rw [spread_line, ofBits_neg_inf]

/-- The row a block yields for one lane is the row of one of the lane's states, and no state of the lane has a larger noisy power. -/
theorem winner (r : FVec Ideal S16x8x128 .f32) (s : IVec S16x8x128 32) (d : Fin 128)
    (hinj : ∀ q k q' k', s (ix3 q k d) = s (ix3 q' k' d) → q = q' ∧ k = k') (hlt : ∀ q k, (s (ix3 q k d)).toInt < 2147483647) :
    ∃ (q : Fin 16) (k : Fin 8), topV r (ix2 0 d) = r (ix3 q k d) ∧ candV r s (ix2 0 d) = s (ix3 q k d)
      ∧ (∀ (q' : Fin 16) (k' : Fin 8), (r (ix3 q' k' d) : EReal) ≤ r (ix3 q k d)) ∧ ∀ x : FVec Ideal S16x8x128 .f32, pickV r s x (ix2 0 d) = x (ix3 q k d) := by
  have hle : ∀ (q' : Fin 16) (k' : Fin 8), (r (ix3 q' k' d) : EReal) ≤ topV r (ix2 0 d) := fun q' k' => by
    rw [topV_apply]
    exact (Finset.le_sup (f := fun q : Fin 16 => (r (ix3 q k' d) : EReal)) (Finset.mem_univ q')).trans
      (Finset.le_sup (f := fun k : Fin 8 => Finset.univ.sup fun q : Fin 16 => (r (ix3 q k d) : EReal)) (Finset.mem_univ k'))
  have hex : ∃ (q : Fin 16) (k : Fin 8), topV r (ix2 0 d) = r (ix3 q k d) := by
    rw [topV_apply]
    obtain ⟨k, -, hk⟩ := Finset.exists_mem_eq_sup Finset.univ Finset.univ_nonempty (fun k : Fin 8 => Finset.univ.sup fun q : Fin 16 => (r (ix3 q k d) : EReal))
    obtain ⟨q, -, hq⟩ := Finset.exists_mem_eq_sup Finset.univ Finset.univ_nonempty (fun q : Fin 16 => (r (ix3 q k d) : EReal))
    exact ⟨q, k, hk.trans hq⟩
  have hsel : ∀ q k, Scalar.select (FloatOps.cmpf .oeq (r (ix3 q k d)) (topV r (ix2 0 d))) (s (ix3 q k d)) 2147483647#32
      = if r (ix3 q k d) = topV r (ix2 0 d) then s (ix3 q k d) else 2147483647#32 := fun q k => by
    by_cases h : r (ix3 q k d) = topV r (ix2 0 d) <;> simp [Scalar.select, FloatOps.cmpf, Ideal.cmp, h]
  obtain ⟨q0, k0, h0⟩ := hex
  have hc : ∃ (q : Fin 16) (k : Fin 8), topV r (ix2 0 d) = r (ix3 q k d) ∧ candV r s (ix2 0 d) = s (ix3 q k d) := by
    have hA := fold_minsi 2147483647#32 (Finset.univ : Finset (Fin 8)) fun k =>
      (Finset.univ : Finset (Fin 16)).fold IntOp.minsi 2147483647#32 fun q =>
        Scalar.select (FloatOps.cmpf .oeq (r (ix3 q k d)) (topV r (ix2 0 d))) (s (ix3 q k d)) 2147483647#32
    rw [← candV_apply] at hA
    have hB := fun k => fold_minsi 2147483647#32 (Finset.univ : Finset (Fin 16)) fun q =>
        Scalar.select (FloatOps.cmpf .oeq (r (ix3 q k d)) (topV r (ix2 0 d))) (s (ix3 q k d)) 2147483647#32
    have hub : (candV r s (ix2 0 d)).toInt < 2147483647 := by
      refine ((hA.2 k0 (Finset.mem_univ _)).trans ((hB k0).2 q0 (Finset.mem_univ _))).trans_lt ?_
      rw [hsel, if_pos h0.symm]
      exact hlt q0 k0
    have hne : candV r s (ix2 0 d) ≠ 2147483647#32 := fun h => by rw [h] at hub; exact absurd hub (by decide)
    obtain ⟨k, -, hk⟩ := hA.1.resolve_left hne
    obtain ⟨q, -, hq⟩ := (hB k).1.resolve_left (fun h => hne (hk.symm.trans h))
    rw [hk, hsel] at hq
    by_cases h : r (ix3 q k d) = topV r (ix2 0 d)
    · rw [if_pos h] at hq
      exact ⟨q, k, h.symm, hq.symm⟩
    · rw [if_neg h] at hq
      exact absurd hq.symm hne
  obtain ⟨q, k, h1, h2⟩ := hc
  refine ⟨q, k, h1, h2, fun q' k' => h1 ▸ hle q' k', fun x => ?_⟩
  rw [pickV_apply, h2]
  have hs : ∀ q' k', (Scalar.select (IntOp.cmpi .eq (s (ix3 q' k' d)) (s (ix3 q k d))) (x (ix3 q' k' d)) (⊥ : EReal) : EReal)
      = if q' = q ∧ k' = k then x (ix3 q k d) else ⊥ := fun q' k' => by
    by_cases h : q' = q ∧ k' = k
    · obtain ⟨rfl, rfl⟩ := h
      simp [Scalar.select, IntOp.cmpi]
    · rw [if_neg h]
      have : (s (ix3 q' k' d) == s (ix3 q k d)) = false := beq_false_of_ne fun e => h (hinj _ _ _ _ e)
      simp only [Scalar.select, IntOp.cmpi, this]
      rfl
  simp only [hs]
  refine le_antisymm (Finset.sup_le fun k' _ => Finset.sup_le fun q' _ => ?_) ?_
  · split
    · exact le_refl _
    · exact bot_le
  · exact Finset.le_sup_of_le (Finset.mem_univ k) (Finset.le_sup_of_le (Finset.mem_univ q) (by simp))

end Cert.Draw

end
-- ==== Proof.ConstsRead.lean ====
module

public import proofs.«01_k».proof.Proof.Mix
public import proofs.«01_k».proof.Proof.Winner

@[expose] public section

set_option maxRecDepth 16384

/-! # The constants, the phase and the weights

Where the inputs are finite, the phase's cosine and sine and the mixing weights are real numbers. -/

noncomputable section

namespace Cert.Draw

open Idealize.ShloMosaic Cert.KernelIdeal Cert.KernelIdeal.Gen

/-- The only index of a single value. -/
def nil : S_.Idx := fun a => a.elim0

/-- A single value spread over an array. -/
theorem bcast0 {α : Type} {s : Shape} (b : S_.BroadcastsInDim s ![]) (x : S_.Idx → α) (i : s.Idx) : broadcastInDim s ![] b x i = x nil :=
  congrArg x (funext fun a => a.elim0)

section
variable {F : FTy → Type} [FloatOps F] (a3 : FVec F S16x3 .f32)

/-- The four constants, each a single value spread over one place. -/
theorem consts_eq : consts a3 = concatenate S4 0 [⟨S1, fun _ => FloatOps.mulf (Scalar.ofBits .f32 0x3F7D73E9#32) (Host.cos (angle a3) nil)⟩,
    ⟨S1, fun _ => FloatOps.mulf (Scalar.ofBits .f32 0x3F7D73E9#32) (Host.sin (angle a3) nil)⟩,
    ⟨S1, fun _ => Scalar.ofBits .f32 0x3A826B00#32⟩, ⟨S1, fun _ => Scalar.ofBits .f32 0x00000000#32⟩] concatenates_S1_S1_S1_S1_S4_d0 := by
  have h (x : FVec F S_ .f32) : broadcastInDim S1 ![] bcast_S_S1 x = fun _ => x nil := funext fun i => bcast0 _ x i
  unfold consts
  rw [h, h, h, h]
  rfl

/-- The first constant: the coherence times the phase's cosine. -/
theorem consts_0 : consts a3 (ix1 0) = FloatOps.mulf (Scalar.ofBits .f32 0x3F7D73E9#32) (Host.cos (angle a3) nil) := by
  rw [consts_eq]; sl_kernel_rfl

/-- The second constant: the coherence times the phase's sine. -/
theorem consts_1 : consts a3 (ix1 1) = FloatOps.mulf (Scalar.ofBits .f32 0x3F7D73E9#32) (Host.sin (angle a3) nil) := by
  rw [consts_eq]; sl_kernel_rfl

/-- The third constant: the noise step. -/
theorem consts_2 : consts a3 (ix1 2) = Scalar.ofBits .f32 0x3A826B00#32 := by
  rw [consts_eq]; sl_kernel_rfl

open Cert.ReferenceIdeal.Value in
/-- The reference's weights are the same softmax. -/
theorem v23_eq (V0 : Valuation Cert.ReferenceIdeal.τ Cert.ReferenceIdeal.sig (Elt F)) :
    res_main_v23 V0 = soft (V0 (Proc.devRef .tc Cert.ReferenceIdeal.main_arg4)) := by
  sl_kernel_rfl

open Cert.ReferenceIdeal.Value in
/-- The reference's turned field, its real part. -/
theorem v7_apply (V0 : Valuation Cert.ReferenceIdeal.τ Cert.ReferenceIdeal.sig (Elt F)) (i : Cert.ReferenceIdeal.S65536x128.Idx) :
    (res_main_v7 V0 : FVec F Cert.ReferenceIdeal.S65536x128 .f32) i
      = FloatOps.subf (FloatOps.mulf ((V0 (Proc.devRef .tc Cert.ReferenceIdeal.main_arg1) : FVec F Cert.ReferenceIdeal.S65536x128 .f32) i) (Host.cos (angle (V0 (Proc.devRef .tc Cert.ReferenceIdeal.main_arg3))) nil))
          (FloatOps.mulf ((V0 (Proc.devRef .tc Cert.ReferenceIdeal.main_arg2) : FVec F Cert.ReferenceIdeal.S65536x128 .f32) i) (Host.sin (angle (V0 (Proc.devRef .tc Cert.ReferenceIdeal.main_arg3))) nil)) := by
  rw [← bcast0 Cert.ReferenceIdeal.Gen.bcast_S_S65536x128 (Host.cos (angle (V0 (Proc.devRef .tc Cert.ReferenceIdeal.main_arg3)))) i,
    ← bcast0 Cert.ReferenceIdeal.Gen.bcast_S_S65536x128 (Host.sin (angle (V0 (Proc.devRef .tc Cert.ReferenceIdeal.main_arg3)))) i]
  sl_kernel_rfl

open Cert.ReferenceIdeal.Value in
/-- The reference's turned field, its imaginary part. -/
theorem v12_apply (V0 : Valuation Cert.ReferenceIdeal.τ Cert.ReferenceIdeal.sig (Elt F)) (i : Cert.ReferenceIdeal.S65536x128.Idx) :
    (res_main_v12 V0 : FVec F Cert.ReferenceIdeal.S65536x128 .f32) i
      = FloatOps.addf (FloatOps.mulf ((V0 (Proc.devRef .tc Cert.ReferenceIdeal.main_arg1) : FVec F Cert.ReferenceIdeal.S65536x128 .f32) i) (Host.sin (angle (V0 (Proc.devRef .tc Cert.ReferenceIdeal.main_arg3))) nil))
          (FloatOps.mulf ((V0 (Proc.devRef .tc Cert.ReferenceIdeal.main_arg2) : FVec F Cert.ReferenceIdeal.S65536x128 .f32) i) (Host.cos (angle (V0 (Proc.devRef .tc Cert.ReferenceIdeal.main_arg3))) nil)) := by
  rw [← bcast0 Cert.ReferenceIdeal.Gen.bcast_S_S65536x128 (Host.cos (angle (V0 (Proc.devRef .tc Cert.ReferenceIdeal.main_arg3)))) i,
    ← bcast0 Cert.ReferenceIdeal.Gen.bcast_S_S65536x128 (Host.sin (angle (V0 (Proc.devRef .tc Cert.ReferenceIdeal.main_arg3)))) i]
  sl_kernel_rfl

/-- The mixing matrix at an entry. -/
theorem mixing_apply (a4 : FVec F S16x16 .f32) (q j : Fin 16) :
    mixing a4 (ix2 q j) = FloatOps.addf (FloatOps.mulf (Scalar.ofBits .f32 0x3F4CCCCD#32) (soft a4 (ix2 q j)))
      (FloatOps.mulf (Scalar.ofBits .f32 0x3E4CCCCD#32) (FloatOps.uitofp .f32 (IntOp.cmpi .eq (IntOp.addi (BitVec.ofNat 32 q.val) 0#32) (BitVec.ofNat 32 j.val)))) := by
  sl_kernel_rfl

end

/-- The value zero, as printed. -/
theorem ofBits_zero : (Scalar.ofBits .f32 0x00000000#32 : Ideal .f32) = (0 : EReal) := by
  show Ideal.ofBits .f32 0x00000000#32 = 0
  simp [Ideal.ofBits, Ideal.ieee]

/-- The phase is the sum of the real angles. -/
theorem angle_real (a3 : FVec Ideal S16x3 .f32) (h : ∀ i, ∃ v : ℝ, (a3 i : EReal) = v) : ∃ v : ℝ, (angle a3 nil : EReal) = v := by
  choose f hf using h
  have e : angle a3 nil = (∑ i : S16x3.Idx, (a3 i : EReal)) := by
    refine (Ideal.hostReduceAdd_total _ (fun b => b.elim0) _ _ _).trans ?_
    show (Scalar.ofBits .f32 0x00000000#32 : Ideal .f32) + _ = _
    rw [ofBits_zero, zero_add]
  refine ⟨∑ i, f i, ?_⟩
  rw [e, coe_sum]
  exact Finset.sum_congr rfl fun i _ => hf i

/-- The cosine of a real phase is real. -/
theorem cos_real (x : FVec Ideal S_ .f32) (h : ∃ v : ℝ, (x nil : EReal) = v) : ∃ v : ℝ, (Host.cos x nil : EReal) = v := by
  obtain ⟨v, h⟩ := h
  refine ⟨Real.cos v, ?_⟩
  show Ideal.cos (x nil) = _
  rw [h]; rfl

/-- The sine of a real phase is real. -/
theorem sin_real (x : FVec Ideal S_ .f32) (h : ∃ v : ℝ, (x nil : EReal) = v) : ∃ v : ℝ, (Host.sin x nil : EReal) = v := by
  obtain ⟨v, h⟩ := h
  refine ⟨Real.sin v, ?_⟩
  show Ideal.sin (x nil) = _
  rw [h]; rfl

/-- A row value spread back over the row. -/
theorem perRow_apply {α : Type} (x : S16.Idx → α) (q j : Fin 16) :
    broadcastInDim S16x16 ![0, 1] bcast_S16x1_S16x16_0_1 (broadcastInDim S16x1 ![0] bcast_S16_S16x1_0 x) (ix2 q j) = x (ix1 q) := by
  show x _ = x _
  congr 1
  funext a; fin_cases a; rfl

/-- An exponential. -/
theorem expw_apply {F : FTy → Type} [FloatOps F] (a4 : FVec F S16x16 .f32) (q j : Fin 16) :
    expw a4 (ix2 q j) = FloatOps.hostUnary .exp (FloatOps.subf (a4 (ix2 q j)) (FloatOps.maximumf (Scalar.ofBits .f32 0xFF800000#32)
      (Host.reduce FloatOps.maximumf a4 (constant S_ .f32 0xFF800000#32) reducesTo_S16x16_S16_d1 h_S_ (ix1 q)))) := by
  refine Eq.trans (b := FloatOps.hostUnary .exp (FloatOps.subf (a4 (ix2 q j)) (broadcastInDim S16x16 ![0, 1] bcast_S16x1_S16x16_0_1 (broadcastInDim S16x1 ![0] bcast_S16_S16x1_0
    (maximumf (broadcastInDim S16 ![] bcast_S_S16 (constant S_ .f32 0xFF800000#32))
      (Host.reduce FloatOps.maximumf a4 (constant S_ .f32 0xFF800000#32) reducesTo_S16x16_S16_d1 h_S_))) (ix2 q j)))) rfl ?_
  rw [perRow_apply]
  rfl

/-- A weight of the softmax. -/
theorem soft_apply {F : FTy → Type} [FloatOps F] (a4 : FVec F S16x16 .f32) (q j : Fin 16) :
    soft a4 (ix2 q j) = FloatOps.hostDivf (expw a4 (ix2 q j)) (Host.reduceAdd (expw a4) (constant S_ .f32 0x00000000#32) reducesTo_S16x16_S16_d1 h_S_ (ix1 q)) := by
  refine Eq.trans (b := FloatOps.hostDivf (expw a4 (ix2 q j)) (broadcastInDim S16x16 ![0, 1] bcast_S16x1_S16x16_0_1 (broadcastInDim S16x1 ![0] bcast_S16_S16x1_0
    (Host.reduceAdd (expw a4) (constant S_ .f32 0x00000000#32) reducesTo_S16x16_S16_d1 h_S_)) (ix2 q j))) rfl ?_
  rw [perRow_apply]

/-- The greatest entry of a row. -/
theorem row_max (x : FVec Ideal S16x16 .f32) (q : Fin 16) :
    Host.reduce FloatOps.maximumf x (constant S_ .f32 0xFF800000#32) reducesTo_S16x16_S16_d1 h_S_ (ix1 q)
      = (Finset.univ.sup fun j : Fin 16 => (x (ix2 q j) : EReal)) := by
  have hr : S16x16.Reduces [1] S16 := by decide
  have h : (constant S_ .f32 0xFF800000#32 (Shape.Idx.first h_S_) : Ideal .f32) = (⊥ : EReal) := ofBits_neg_inf
  refine (Host.reduce_eq_fold _ _ _ _ _ _).trans ((Shape.ReducesTo.fold_fiber_r2_a1 reducesTo_S16x16_S16_d1 (ix1 q) FloatOps.maximumf _ _).trans ?_)
  rw [h]
  exact fold_max_eq_sup (ι := Fin 16) _ _ _ fun s => rfl

/-- The sum of a row. -/
theorem row_sum (x : FVec Ideal S16x16 .f32) (q : Fin 16) :
    Host.reduceAdd x (constant S_ .f32 0x00000000#32) reducesTo_S16x16_S16_d1 h_S_ (ix1 q) = (∑ j : Fin 16, (x (ix2 q j) : EReal)) := by
  have h : S16x16.Reduces [1] S16 := by decide
  refine (Ideal.hostReduceAdd_single (a := 1) reducesTo_S16x16_S16_d1 h x _ (ix1 q)).trans ?_
  have h0 : (constant S_ .f32 0x00000000#32 (Shape.Idx.first h_S_) : Ideal .f32) = (0 : EReal) := ofBits_zero
  rw [h0]
  refine (zero_add _).trans (Finset.sum_congr rfl fun t _ => congrArg x (funext fun a => ?_))
  fin_cases a <;> rfl

/-- The exponentials of real weights are positive reals. -/
theorem expw_real (a4 : FVec Ideal S16x16 .f32) (h : ∀ i, ∃ v : ℝ, (a4 i : EReal) = v) (q j : Fin 16) :
    ∃ v : ℝ, 0 < v ∧ (expw a4 (ix2 q j) : EReal) = v := by
  rw [expw_apply, row_max]
  obtain ⟨k, -, hk⟩ := Finset.exists_mem_eq_sup (Finset.univ : Finset (Fin 16)) Finset.univ_nonempty fun j => (a4 (ix2 q j) : EReal)
  rw [hk]
  obtain ⟨u, hu⟩ := h (ix2 q j)
  obtain ⟨w, hw⟩ := h (ix2 q k)
  refine ⟨Real.exp (u - w), Real.exp_pos _, ?_⟩
  show Ideal.exp ((a4 (ix2 q j) : EReal) - max (Scalar.ofBits .f32 0xFF800000#32 : Ideal .f32) (a4 (ix2 q k) : EReal)) = _
  have hb : (Scalar.ofBits .f32 0xFF800000#32 : Ideal .f32) = (⊥ : EReal) := ofBits_neg_inf
  rw [hb, max_eq_right bot_le, hu, hw]
  rfl

/-- The softmax of real weights is real. -/
theorem soft_real (a4 : FVec Ideal S16x16 .f32) (h : ∀ i, ∃ v : ℝ, (a4 i : EReal) = v) (q j : Fin 16) :
    ∃ v : ℝ, (soft a4 (ix2 q j) : EReal) = v := by
  choose f hf0 hf using expw_real a4 h
  rw [soft_apply, row_sum, hf q j, Finset.sum_congr rfl fun j _ => hf q j, ← coe_sum]
  have hp : 0 < ∑ j, f q j := Finset.sum_pos (fun j _ => hf0 q j) Finset.univ_nonempty
  refine ⟨f q j * (∑ j, f q j)⁻¹, ?_⟩
  show Ideal.div _ _ = _
  unfold Ideal.div
  rw [if_neg (by exact_mod_cast hp.ne')]
  rw [EReal.coe_mul, EReal.coe_inv]

/-- Where a row of the identity is one. -/
theorem delta_word (q j : Fin 16) : (FloatOps.uitofp (F := Ideal) .f32 (IntOp.cmpi .eq (IntOp.addi (BitVec.ofNat 32 q.val) 0#32) (BitVec.ofNat 32 j.val)) : EReal)
    = ((if q = j then 1 else 0 : ℝ) : EReal) := by
  have h : IntOp.cmpi .eq (IntOp.addi (BitVec.ofNat 32 q.val) 0#32) (BitVec.ofNat 32 j.val) = if q = j then 1#1 else 0#1 := by
    revert q j; decide
  rw [h]
  show (((if q = j then 1#1 else 0#1 : BitVec 1).toNat : ℝ) : EReal) = _
  split <;> simp

/-- Neither infinity: a real number. -/
theorem real_of (x : EReal) (h : x ≠ ⊤ ∧ x ≠ ⊥) : ∃ r : ℝ, x = r := ⟨x.toReal, (EReal.coe_toReal h.1 h.2).symm⟩

/-- Four fifths, as printed, is real. -/
theorem real_main : ∃ r : ℝ, (Scalar.ofBits .f32 0x3F4CCCCD#32 : Ideal .f32) = (r : EReal) := real_of _ (by
  show Ideal.ofBits .f32 0x3F4CCCCD#32 ≠ ⊤ ∧ Ideal.ofBits .f32 0x3F4CCCCD#32 ≠ ⊥
  simp [Ideal.ofBits, Ideal.ieee, -EReal.coe_mul])

/-- One fifth, as printed, is real. -/
theorem real_rest : ∃ r : ℝ, (Scalar.ofBits .f32 0x3E4CCCCD#32 : Ideal .f32) = (r : EReal) := real_of _ (by
  show Ideal.ofBits .f32 0x3E4CCCCD#32 ≠ ⊤ ∧ Ideal.ofBits .f32 0x3E4CCCCD#32 ≠ ⊥
  simp [Ideal.ofBits, Ideal.ieee, -EReal.coe_mul])

/-- The coherence, as printed, is real. -/
theorem real_coherence : ∃ r : ℝ, (Scalar.ofBits .f32 0x3F7D73E9#32 : Ideal .f32) = (r : EReal) := real_of _ (by
  show Ideal.ofBits .f32 0x3F7D73E9#32 ≠ ⊤ ∧ Ideal.ofBits .f32 0x3F7D73E9#32 ≠ ⊥
  simp [Ideal.ofBits, Ideal.ieee, -EReal.coe_mul])

end Cert.Draw
-- ==== Proof.Trail.lean ====
module

public import proofs.«01_k».proof.Proof.Step

@[expose] public section

set_option maxRecDepth 16384

/-! # The list of rows along the grid

What the first call's outputs hold after each grid point: the three rows of each batch and lane,
started from three empty rows and with one block's row inserted at each point. -/

noncomputable section

namespace Cert.Draw

open Idealize.ShloMosaic Idealize.ShloMosaic.TcCoe Cert.KernelIdeal Cert.KernelIdeal.Gen Cert.KernelIdeal.Whole

variable {F : FTy → Type} [FloatOps F] [Named F]

/-- A slab is its four lines. -/
theorem cast_slab {α : Type} (v : S4x128.Idx → α) (b : Fin 4) (d : Fin 128) :
    shapeCast S1x4x128 v shapeCasts_S4x128_S1x4x128 (ix3 0 b d) = v (ix2 b d) :=
  congrArg v (Shape.reshapeEquiv_eq_of_vals _ _ _ _ _ (rowMajor_val2 (ix2 b d) 128 rfl) (rowMajor_val3 (ix3 0 b d) 512 128 rfl rfl)
    (by simp [ix2, ix3]))

/-- Four lines are their slab. -/
theorem cast_lines {α : Type} (v : S1x4x128.Idx → α) (b : Fin 4) (d : Fin 128) :
    shapeCast S4x128 v shapeCasts_S1x4x128_S4x128 (ix2 b d) = v (ix3 0 b d) :=
  congrArg v (Shape.reshapeEquiv_eq_of_vals _ _ _ _ _ (rowMajor_val3 (ix3 0 b d) 512 128 rfl rfl) (rowMajor_val2 (ix2 b d) 128 rfl)
    (by simp [ix2, ix3]))

/-- The list depends on the old rows only through their values. -/
theorem slot_congr (n : Row F) {o o' : Fin 3 → Row F} (h : ∀ k, o k = o' k) (k : Fin 3) : slot n o k = slot n o' k :=
  congrArg (fun o => slot n o k) (funext h)

/-- The rows kept in four arrays. -/
def rowsOf (o : Vec F S3x4x128 .f32 × Vec F S3x4x128 .i32 × Vec F S3x4x128 .f32 × Vec F S3x4x128 .f32 × Vec F S16x8x128 .i32) (k : Fin 3) (b : Fin 4) (d : Fin 128) : Row F :=
  (o.1 (ix3 k b d), o.2.1 (ix3 k b d), o.2.2.1 (ix3 k b d), o.2.2.2.1 (ix3 k b d))

/-- The empty row: no noisy power is below its first entry, no state has its number. -/
def emptyRow : Row F := (Scalar.ofBits .f32 0xBF800000#32, 2147483647#32, Scalar.ofBits .f32 0x00000000#32, Scalar.ofBits .f32 0x00000000#32)

/-- A load of a whole block reads the block. -/
theorem load_whole {s : Shape} {e : EltTy} {sp : Space} {a : Memref sig .tc sp s e} (h : a.IsWhole) (x : s.Idx → Elt F e) {off : Fin s.rank → ℕ}
    (inb : ∀ j, off j + s.size j ≤ s.size j) (hoff : ∀ j, off j = 0) :
    View.readAt (Elt F) a.view (Rect.unit (s := s) off s.size inb).toLoadRect (h.unread x) = x := by
  funext y
  refine (h.readAt_unread x _ y).trans (congrArg x (funext fun j => Fin.ext ?_))
  show off j + 1 * (y j).val = (y j).val
  rw [hoff j]; omega

/-- A load of one slab reads that slab. -/
theorem load_slab {e : EltTy} {sp : Space} {a : Memref sig .tc sp S3x4x128 e} (h : a.IsWhole) (x : S3x4x128.Idx → Elt F e) (k : Fin 3)
    (inb : ∀ j, (![k.val, 0, 0] : Fin 3 → ℕ) j + S1x4x128.size j ≤ S3x4x128.size j) (b : Fin 4) (d : Fin 128) :
    View.readAt (Elt F) a.view (Rect.unit (s := S3x4x128) ![k.val, 0, 0] S1x4x128.size inb).toLoadRect (h.unread x) (ix3 0 b d) = x (ix3 k b d) := by
  refine (h.readAt_unread x _ _).trans (congrArg x (funext fun j => Fin.ext ?_))
  show (![k.val, 0, 0] : Fin 3 → ℕ) j + 1 * ((ix3 (0 : Fin 1) b d : S1x4x128.Idx) j).val = _
  fin_cases j <;> simp [ix3]

/-- A word of the scalar memory is its entry. -/
theorem load_word {a : Memref sig .tc .smem S4 .f32} (h : a.IsWhole) (x : Vec F S4 .f32) (k : Fin 4)
    (inb : ∀ j, (![k.val] : Fin 1 → ℕ) j + S1.size j ≤ S4.size j) (y : S1.Idx) :
    View.readAt (Elt F) a.view (Rect.unit (s := S4) ![k.val] S1.size inb).toLoadRect (h.unread x) y = x (ix1 k) := by
  refine (h.readAt_unread x (Rect.unit (s := S4) ![k.val] S1.size inb).toLoadRect y).trans (congrArg x (funext fun j => Fin.ext ?_))
  show (![k.val] : Fin 1 → ℕ) j + 1 * (y j).val = _
  have h0 : (y j).val = 0 := by have := (y j).isLt; fin_cases j; exact Nat.lt_one_iff.mp this
  rw [h0]
  fin_cases j; simp [ix1]

/-- One point of the grid after the first: the block's row is inserted into the rows found. -/
theorem step_B (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : ¬cond0_0 i) (x0 x1 : Vec F S16x8x128 .f32) (x2 : Vec F S16x16 .f32) (x3 : Vec F S4 .f32)
    (o4 : Vec F S3x4x128 .f32) (o5 : Vec F S3x4x128 .i32) (o6 o7 : Vec F S3x4x128 .f32) (s0 : Vec F S16x8x128 .i32) (k : Fin 3) (b : Fin 4) (d : Fin 128) :
    rowsOf (out0_B_4 c i a1 h1 a2 h2 a3 h3 a4 h4 a5 h5 a6 h6 a7 h7 a8 h8 a9 h9 hc x0 x1 x2 x3 o4 o5 o6 o7 s0, out0_B_5 c i a1 h1 a2 h2 a3 h3 a4 h4 a5 h5 a6 h6 a7 h7 a8 h8 a9 h9 hc x0 x1 x2 x3 o4 o5 o6 o7 s0, out0_B_6 c i a1 h1 a2 h2 a3 h3 a4 h4 a5 h5 a6 h6 a7 h7 a8 h8 a9 h9 hc x0 x1 x2 x3 o4 o5 o6 o7 s0, out0_B_7 c i a1 h1 a2 h2 a3 h3 a4 h4 a5 h5 a6 h6 a7 h7 a8 h8 a9 h9 hc x0 x1 x2 x3 o4 o5 o6 o7 s0, sout0_B_0 c i a1 h1 a2 h2 a3 h3 a4 h4 a5 h5 a6 h6 a7 h7 a8 h8 a9 h9 hc x0 x1 x2 x3 o4 o5 o6 o7 s0) k b d
      = slot (blockRow i x0 x1 x2 (x3 (ix1 0)) (x3 (ix1 1)) s0 (ix2 b d)) (fun k => rowsOf (o4, o5, o6, o7, s0) k b d) k := by
  unfold rowsOf
  dsimp only
  rw [raw_B_0, raw_B_1, raw_B_2, raw_B_3]
  simp only [cast_slab]
  have hc0 : kernelRun0_B.sl.r c a4 h4 x3 = x3 (ix1 0) := load_word h4 x3 0 inb_S4_S1_0 _
  have hc1 : kernelRun0_B.sl.r_1 c a4 h4 x3 = x3 (ix1 1) := load_word h4 x3 1 inb_S4_S1_1 _
  rw [hc0, hc1, load_whole h1 x0 _ (by decide), load_whole h2 x1 _ (by decide), load_whole h3 x2 _ (by decide), load_whole h9 s0 _ (by decide)]
  refine slot_congr _ (fun k => ?_) k
  · unfold oldRow
    simp only [cast_lines]
    fin_cases k
    · exact congr (congrArg Prod.mk (load_slab h5 o4 0 _ b d)) (congr (congrArg Prod.mk (load_slab h6 o5 0 _ b d)) (congr (congrArg Prod.mk (load_slab h7 o6 0 _ b d)) (load_slab h8 o7 0 _ b d)))
    · exact congr (congrArg Prod.mk (load_slab h5 o4 1 _ b d)) (congr (congrArg Prod.mk (load_slab h6 o5 1 _ b d)) (congr (congrArg Prod.mk (load_slab h7 o6 1 _ b d)) (load_slab h8 o7 1 _ b d)))
    · exact congr (congrArg Prod.mk (load_slab h5 o4 2 _ b d)) (congr (congrArg Prod.mk (load_slab h6 o5 2 _ b d)) (congr (congrArg Prod.mk (load_slab h7 o6 2 _ b d)) (load_slab h8 o7 2 _ b d)))

/-- The first point of the grid: the block's row is inserted into three empty rows. -/
theorem step_A (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : cond0_0 i) (x0 x1 : Vec F S16x8x128 .f32) (x2 : Vec F S16x16 .f32) (x3 : Vec F S4 .f32) (k : Fin 3) (b : Fin 4) (d : Fin 128) :
    rowsOf (out0_A_4 c i a1 h1 a2 h2 a3 h3 a4 h4 a5 h5 a6 h6 a7 h7 a8 h8 a9 h9 hc x0 x1 x2 x3, out0_A_5 c i a1 h1 a2 h2 a3 h3 a4 h4 a5 h5 a6 h6 a7 h7 a8 h8 a9 h9 hc x0 x1 x2 x3, out0_A_6 c i a1 h1 a2 h2 a3 h3 a4 h4 a5 h5 a6 h6 a7 h7 a8 h8 a9 h9 hc x0 x1 x2 x3, out0_A_7 c i a1 h1 a2 h2 a3 h3 a4 h4 a5 h5 a6 h6 a7 h7 a8 h8 a9 h9 hc x0 x1 x2 x3, sout0_A_0 c i a1 h1 a2 h2 a3 h3 a4 h4 a5 h5 a6 h6 a7 h7 a8 h8 a9 h9 hc x0 x1 x2 x3) k b d
      = slot (blockRow i x0 x1 x2 (x3 (ix1 0)) (x3 (ix1 1)) k0_pay7 (ix2 b d)) (fun _ => emptyRow) k := by
  unfold rowsOf
  dsimp only
  rw [raw_A_0, raw_A_1, raw_A_2, raw_A_3]
  simp only [cast_slab]
  have hc0 : kernelRun0_A.sl.r c a4 h4 x3 = x3 (ix1 0) := load_word h4 x3 0 inb_S4_S1_0 _
  have hc1 : kernelRun0_A.sl.r_1 c a4 h4 x3 = x3 (ix1 1) := load_word h4 x3 1 inb_S4_S1_1 _
  have hs : kernelRun0_A.sl.v29 c a9 = k0_pay7 :=
    View.readCov_cons_toLoadRect (Val := Elt F) a9.view (Rect.unit (s := S16x8x128) ![0, 0, 0] S16x8x128.size inb_S16x8x128_S16x8x128_0_0_0) _ _
  rw [hc0, hc1, hs, load_whole h1 x0 _ (by decide), load_whole h2 x1 _ (by decide), load_whole h3 x2 _ (by decide)]
  refine slot_congr _ (fun k => ?_) k
  · unfold oldRow emptyRow
    simp only [cast_lines]
    have p5 : ∀ y, kernelRun0_A.sl.v854 c a5 y = (Scalar.ofBits .f32 0xBF800000#32 : F .f32) := fun y => congrFun (View.readCov_fill (Val := Elt F) a5.view inb_S3x4x128_S3x4x128_0_0_0 (k0_pay3 (F := F)) [] (Rect.unit (s := S3x4x128) ![0, 0, 0] S1x4x128.size inb_S3x4x128_S1x4x128_0_0_0) (by decide)) y
    have q5 : ∀ y, kernelRun0_A.sl.v887 c i a1 h1 a2 h2 a3 h3 a4 h4 a5 a6 a9 x0 x1 x2 x3 y = (Scalar.ofBits .f32 0xBF800000#32 : F .f32) := fun y => congrFun ((View.readCov_skip a5.view _ _ _ _ rfl).trans (View.readCov_fill (Val := Elt F) a5.view inb_S3x4x128_S3x4x128_0_0_0 (k0_pay3 (F := F)) [] (Rect.unit (s := S3x4x128) ![1, 0, 0] S1x4x128.size inb_S3x4x128_S1x4x128_1_0_0) (by decide))) y
    have r5 : ∀ y, kernelRun0_A.sl.v920 c i a1 h1 a2 h2 a3 h3 a4 h4 a5 a6 a9 x0 x1 x2 x3 y = (Scalar.ofBits .f32 0xBF800000#32 : F .f32) := fun y => congrFun ((View.readCov_skip a5.view _ _ _ _ rfl).trans ((View.readCov_skip a5.view _ _ _ _ rfl).trans (View.readCov_fill (Val := Elt F) a5.view inb_S3x4x128_S3x4x128_0_0_0 (k0_pay3 (F := F)) [] (Rect.unit (s := S3x4x128) ![2, 0, 0] S1x4x128.size inb_S3x4x128_S1x4x128_2_0_0) (by decide)))) y
    have p6 : ∀ y, kernelRun0_A.sl.v856 c a6 y = 2147483647#32 := fun y => congrFun (View.readCov_fill (Val := Elt F) a6.view inb_S3x4x128_S3x4x128_0_0_0 k0_pay4 [] (Rect.unit (s := S3x4x128) ![0, 0, 0] S1x4x128.size inb_S3x4x128_S1x4x128_0_0_0) (by decide)) y
    have q6 : ∀ y, kernelRun0_A.sl.v889 c i a1 h1 a2 h2 a3 h3 a4 h4 a5 a6 a9 x0 x1 x2 x3 y = 2147483647#32 := fun y => congrFun ((View.readCov_skip a6.view _ _ _ _ rfl).trans (View.readCov_fill (Val := Elt F) a6.view inb_S3x4x128_S3x4x128_0_0_0 k0_pay4 [] (Rect.unit (s := S3x4x128) ![1, 0, 0] S1x4x128.size inb_S3x4x128_S1x4x128_1_0_0) (by decide))) y
    have r6 : ∀ y, kernelRun0_A.sl.v922 c i a1 h1 a2 h2 a3 h3 a4 h4 a5 a6 a9 x0 x1 x2 x3 y = 2147483647#32 := fun y => congrFun ((View.readCov_skip a6.view _ _ _ _ rfl).trans ((View.readCov_skip a6.view _ _ _ _ rfl).trans (View.readCov_fill (Val := Elt F) a6.view inb_S3x4x128_S3x4x128_0_0_0 k0_pay4 [] (Rect.unit (s := S3x4x128) ![2, 0, 0] S1x4x128.size inb_S3x4x128_S1x4x128_2_0_0) (by decide)))) y
    have p7 : ∀ y, kernelRun0_A.sl.v858 c a7 y = (Scalar.ofBits .f32 0x00000000#32 : F .f32) := fun y => congrFun (View.readCov_fill (Val := Elt F) a7.view inb_S3x4x128_S3x4x128_0_0_0 (k0_pay5 (F := F)) [] (Rect.unit (s := S3x4x128) ![0, 0, 0] S1x4x128.size inb_S3x4x128_S1x4x128_0_0_0) (by decide)) y
    have q7 : ∀ y, kernelRun0_A.sl.v891 c i a1 h1 a2 h2 a3 h3 a4 h4 a5 a6 a7 a9 x0 x1 x2 x3 y = (Scalar.ofBits .f32 0x00000000#32 : F .f32) := fun y => congrFun ((View.readCov_skip a7.view _ _ _ _ rfl).trans (View.readCov_fill (Val := Elt F) a7.view inb_S3x4x128_S3x4x128_0_0_0 (k0_pay5 (F := F)) [] (Rect.unit (s := S3x4x128) ![1, 0, 0] S1x4x128.size inb_S3x4x128_S1x4x128_1_0_0) (by decide))) y
    have r7 : ∀ y, kernelRun0_A.sl.v924 c i a1 h1 a2 h2 a3 h3 a4 h4 a5 a6 a7 a9 x0 x1 x2 x3 y = (Scalar.ofBits .f32 0x00000000#32 : F .f32) := fun y => congrFun ((View.readCov_skip a7.view _ _ _ _ rfl).trans ((View.readCov_skip a7.view _ _ _ _ rfl).trans (View.readCov_fill (Val := Elt F) a7.view inb_S3x4x128_S3x4x128_0_0_0 (k0_pay5 (F := F)) [] (Rect.unit (s := S3x4x128) ![2, 0, 0] S1x4x128.size inb_S3x4x128_S1x4x128_2_0_0) (by decide)))) y
    have p8 : ∀ y, kernelRun0_A.sl.v860 c a8 y = (Scalar.ofBits .f32 0x00000000#32 : F .f32) := fun y => congrFun (View.readCov_fill (Val := Elt F) a8.view inb_S3x4x128_S3x4x128_0_0_0 (k0_pay6 (F := F)) [] (Rect.unit (s := S3x4x128) ![0, 0, 0] S1x4x128.size inb_S3x4x128_S1x4x128_0_0_0) (by decide)) y
    have q8 : ∀ y, kernelRun0_A.sl.v893 c i a1 h1 a2 h2 a3 h3 a4 h4 a5 a6 a8 a9 x0 x1 x2 x3 y = (Scalar.ofBits .f32 0x00000000#32 : F .f32) := fun y => congrFun ((View.readCov_skip a8.view _ _ _ _ rfl).trans (View.readCov_fill (Val := Elt F) a8.view inb_S3x4x128_S3x4x128_0_0_0 (k0_pay6 (F := F)) [] (Rect.unit (s := S3x4x128) ![1, 0, 0] S1x4x128.size inb_S3x4x128_S1x4x128_1_0_0) (by decide))) y
    have r8 : ∀ y, kernelRun0_A.sl.v926 c i a1 h1 a2 h2 a3 h3 a4 h4 a5 a6 a8 a9 x0 x1 x2 x3 y = (Scalar.ofBits .f32 0x00000000#32 : F .f32) := fun y => congrFun ((View.readCov_skip a8.view _ _ _ _ rfl).trans ((View.readCov_skip a8.view _ _ _ _ rfl).trans (View.readCov_fill (Val := Elt F) a8.view inb_S3x4x128_S3x4x128_0_0_0 (k0_pay6 (F := F)) [] (Rect.unit (s := S3x4x128) ![2, 0, 0] S1x4x128.size inb_S3x4x128_S1x4x128_2_0_0) (by decide)))) y
    fin_cases k
    · exact congr (congrArg Prod.mk (p5 _)) (congr (congrArg Prod.mk (p6 _)) (congr (congrArg Prod.mk (p7 _)) (p8 _)))
    · exact congr (congrArg Prod.mk (q5 _)) (congr (congrArg Prod.mk (q6 _)) (congr (congrArg Prod.mk (q7 _)) (q8 _)))
    · exact congr (congrArg Prod.mk (r5 _)) (congr (congrArg Prod.mk (r6 _)) (congr (congrArg Prod.mk (r7 _)) (r8 _)))

section
variable (V : (c : Dev nD) → (b : Ref sig .tc) → Buf (Elt F) ((c : Thread nD τ).loc b))

/-- The first point stores the numbers of the first block in the scratch. -/
theorem scratch_A (c : Dev nD) (i : grid0.Coords) (a1 : Memref sig .tc .vmem S16x8x128 .f32) (h1 : a1.IsWhole) (a2 : Memref sig .tc .vmem S16x8x128 .f32) (h2 : a2.IsWhole)
    (a3 : Memref sig .tc .vmem S16x16 .f32) (h3 : a3.IsWhole) (a4 : Memref sig .tc .smem S4 .f32) (h4 : a4.IsWhole) (a5 : Memref sig .tc .vmem S3x4x128 .f32) (h5 : a5.IsWhole)
    (a6 : Memref sig .tc .vmem S3x4x128 .i32) (h6 : a6.IsWhole) (a7 : Memref sig .tc .vmem S3x4x128 .f32) (h7 : a7.IsWhole) (a8 : Memref sig .tc .vmem S3x4x128 .f32) (h8 : a8.IsWhole)
    (a9 : Memref sig .tc .vmem S16x8x128 .i32) (h9 : a9.IsWhole) (hc : cond0_0 i) (x0 x1 : Vec F S16x8x128 .f32) (x2 : Vec F S16x16 .f32) (x3 : Vec F S4 .f32) :
    sout0_A_0 c i a1 h1 a2 h2 a3 h3 a4 h4 a5 h5 a6 h6 a7 h7 a8 h8 a9 h9 hc x0 x1 x2 x3 = k0_pay7 := by
  funext y
  exact View.read_writes_cons_unit_of_mem (Val := Elt F) VS0_0 _ inb_S16x8x128_S16x8x128_0_0_0 k0_pay7 [] y y rfl (fun a => by fin_cases a <;> simp)

/-- The scratch holds the numbers of the first block throughout. -/
theorem scratch_eq (c : Dev nD) (n : ℕ) (hn : n < cfg0.N) : (outsAt0 V c n hn).2.2.2.2 = k0_pay7 := by
  induction n with
  | zero =>
    have h := outsAt0_A (F := F) V c ⟨0, hn⟩ rfl
    dsimp only at h
    rw [h]
    dsimp only
    rw [scratch_A]
  | succ n ih =>
    have h0 : ¬(n + 1) % 512 = 0 := by
      have h : cfg0.N = 512 := by decide
      omega
    have h := outsAt0_B V c ⟨n + 1, hn⟩ h0
    dsimp only at h
    rw [h]
    dsimp only
    unfold sout0_B_0
    exact ih (Nat.lt_of_succ_lt hn)

/-- The row that grid point `t`'s block yields. -/
def blk (c : Dev nD) (t : Fin cfg0.N) (b : Fin 4) (d : Fin 128) : Row F :=
  blockRow (grid0.coords t) (iblk0 V c 0 t) (iblk0 V c 1 t) (iblk0 V c 2 t) (iblk0 V c 3 t (ix1 0)) (iblk0 V c 3 t (ix1 1)) k0_pay7 (ix2 b d)

/-- After the first grid point. -/
theorem rows_zero (c : Dev nD) (hn : 0 < cfg0.N) (k : Fin 3) (b : Fin 4) (d : Fin 128) :
    rowsOf (outsAt0 V c 0 hn) k b d = slot (blk V c ⟨0, hn⟩ b d) (fun _ => emptyRow) k := by
  rw [outsAt0_A V c ⟨0, hn⟩ rfl]
  exact step_A ..

/-- After a later grid point. -/
theorem rows_succ (c : Dev nD) (n : ℕ) (hn : n + 1 < cfg0.N) (k : Fin 3) (b : Fin 4) (d : Fin 128) :
    rowsOf (outsAt0 V c (n + 1) hn) k b d
      = slot (blk V c ⟨n + 1, hn⟩ b d) (fun k => rowsOf (outsAt0 V c n (Nat.lt_of_succ_lt hn)) k b d) k := by
  have h0 : ¬(n + 1) % 512 = 0 := by
    have h : cfg0.N = 512 := by decide
    omega
  rw [outsAt0_B V c ⟨n + 1, hn⟩ h0]
  refine (step_B ..).trans ?_
  unfold blk
  rw [show (outsAt0 V c (n + 1 - 1) (Nat.lt_of_le_of_lt (Nat.sub_le _ _) hn)).2.2.2.2 = k0_pay7 from scratch_eq V c n _]
  rfl

end

end Cert.Draw

end
-- ==== Proof.Last.lean ====
module

public import proofs.«01_k».proof.Proof.KernelIdeal.Whole
public import proofs.«01_k».proof.Proof.Trail
public import Idealize.ShloMosaic.Lib.Pipeline.Value

@[expose] public section

set_option maxRecDepth 16384

/-! # What the second call computes

The second call scores the three listed states of every batch and lane, now with their noise, takes the
best, and multiplies the indicator of "the drawn state is `n`" into the `n`-th measurement matrix. -/

noncomputable section

namespace Cert.Draw

open Idealize.ShloMosaic Idealize.ShloMosaic.TcCoe Cert.KernelIdeal Cert.KernelIdeal.Gen Cert.KernelIdeal.Whole

section
variable {F : FTy → Type} [FloatOps F]

/-- One step of a polynomial's evaluation. -/
def horner (x : F .f32) (p : F .f32) (c : BitVec 32) : F .f32 := FloatOps.addf (FloatOps.mulf p x) (Scalar.ofBits .f32 c)

/-- The polynomial used near zero. -/
def nearPoly (x : F .f32) : F .f32 :=
  [0x34B84B36#32, 0xB66C7357#32, 0xB6935AC1#32, 0x396532DB#32, 0xBAA45408#32, 0xBB88E4EF#32, 0x3E7C8F63#32, 0x3FC02E2F#32].foldl
    (horner x) (Scalar.ofBits .f32 0x32F16588#32)

/-- The polynomial used far from zero. -/
def farPoly (x : F .f32) : F .f32 :=
  [0x38D3B56B#32, 0x3AB0DC72#32, 0xBB70BDE7#32, 0x3BBC127B#32, 0xBBF9C5D7#32, 0x3C1AA57E#32, 0x3F8036DB#32, 0x40354F7E#32].foldl
    (horner x) (Scalar.ofBits .f32 0xB951F09B#32)

/-- Minus the logarithm of one less a number's square. -/
def depth (v : F .f32) : F .f32 :=
  FloatOps.subf (Scalar.ofBits .f32 0x00000000#32) (FloatOps.log1p (FloatOps.mulf (FloatOps.subf (Scalar.ofBits .f32 0x00000000#32) v) v))

/-- The inverse error function. -/
def erfInv (v : F .f32) : F .f32 :=
  FloatOps.mulf (Scalar.select (FloatOps.cmpf .olt (depth v) (Scalar.ofBits .f32 0x40A00000#32))
    (nearPoly (FloatOps.subf (depth v) (Scalar.ofBits .f32 0x40200000#32)))
    (farPoly (FloatOps.subf (FloatOps.sqrt (depth v)) (Scalar.ofBits .f32 0x40400000#32)))) v

/-- A number of the unit interval moved to the interval between minus one and one. -/
def spread (f : F .f32) : F .f32 :=
  FloatOps.maximumf (Scalar.ofBits .f32 0xBF7FFFFF#32) (FloatOps.addf (FloatOps.mulf f (Scalar.ofBits .f32 0x40000000#32)) (Scalar.ofBits .f32 0xBF7FFFFF#32))

/-- A word's normal number. -/
def bell (w : W) : F .f32 := erfInv (spread (unitOf w))

/-- A word's number of the open unit interval. -/
def openUnit (w : W) : F .f32 :=
  FloatOps.maximumf (Scalar.ofBits .f32 0x33D6BF95#32)
    (FloatOps.addf (FloatOps.mulf (unitOf w) (Scalar.ofBits .f32 0x3F7FFFFE#32)) (Scalar.ofBits .f32 0x33D6BF95#32))

/-- A state's score from its noisy values and its number. -/
def scoreOf (x y : F .f32) (n : W) : F .f32 :=
  FloatOps.subf
    (FloatOps.log (FloatOps.addf (FloatOps.addf (FloatOps.mulf x x) (FloatOps.mulf y y)) (Scalar.ofBits .f32 0x1E3CE508#32)))
    (FloatOps.log (FloatOps.subf (Scalar.ofBits .f32 0x00000000#32) (FloatOps.log (openUnit (word2 n)))))

/-- The score of a listed state. -/
def scoreAt (xr xi ns : F .f32) (n : W) : F .f32 :=
  scoreOf (FloatOps.addf xr (FloatOps.mulf ns (bell (word0 n)))) (FloatOps.addf xi (FloatOps.mulf ns (bell (word1 n)))) n

/-- Whether a scored state goes before another: greater score, or the same and a smaller state. -/
def ahead (n o : F .f32 × W) : BitVec 1 :=
  IntOp.ori (FloatOps.cmpf .ogt n.1 o.1) (IntOp.andi (FloatOps.cmpf .oeq n.1 o.1) (IntOp.cmpi .slt n.2 o.2))

/-- The better of two scored states. -/
def better2 (n o : F .f32 × W) : F .f32 × W := (Scalar.select (ahead n o) n.1 o.1, Scalar.select (ahead n o) n.2 o.2)

/-- The best of three scored states. -/
def best3 (f : Fin 3 → F .f32 × W) : F .f32 × W := better2 (f 2) (better2 (f 1) (f 0))

/-- The numbers of the listed states. -/
def numberV (s : IVec S3x4x128 32) : IVec S3x4x128 32 := fun j =>
  IntOp.addi (IntOp.addi (IntOp.muli (s j) 128#32) (IntOp.muli (iota .tc S3x4x128 32 [1] iota_S3x4x128_d1_w32 j) 8388608#32)) (iota .tc S3x4x128 32 [2] iota_S3x4x128_d2_w32 j)

/-- A number, at an index. -/
theorem numberV_apply (s : IVec S3x4x128 32) (k : Fin 3) (b : Fin 4) (d : Fin 128) :
    numberV s (ix3 k b d) = IntOp.addi (IntOp.addi (IntOp.muli (s (ix3 k b d)) 128#32) (IntOp.muli (BitVec.ofNat 32 b.val) 8388608#32)) (BitVec.ofNat 32 d.val) := by
  have h1 : iota .tc S3x4x128 32 [1] iota_S3x4x128_d1_w32 (ix3 k b d) = BitVec.ofNat 32 b.val := by simp [iota, ix3]
  have h2 : iota .tc S3x4x128 32 [2] iota_S3x4x128_d2_w32 (ix3 k b d) = BitVec.ofNat 32 d.val := by simp [iota, ix3]
  unfold numberV
  rw [h1, h2]

/-- A slab of a list, as four lines. -/
def slab3 {α : Type} (v : S3x4x128.Idx → α) : Fin 3 → S4x128.Idx → α :=
  ![shapeCast S4x128 (extractStridedSlice S1x4x128 ![0, 0, 0] v slices_S3x4x128_o0_0_0_S1x4x128) shapeCasts_S1x4x128_S4x128,
    shapeCast S4x128 (extractStridedSlice S1x4x128 ![1, 0, 0] v slices_S3x4x128_o1_0_0_S1x4x128) shapeCasts_S1x4x128_S4x128,
    shapeCast S4x128 (extractStridedSlice S1x4x128 ![2, 0, 0] v slices_S3x4x128_o2_0_0_S1x4x128) shapeCasts_S1x4x128_S4x128]

/-- A slab of a list at a batch and lane. -/
theorem slab3_apply {α : Type} (v : S3x4x128.Idx → α) (k : Fin 3) (b : Fin 4) (d : Fin 128) : slab3 v k (ix2 b d) = v (ix3 k b d) := by
  fin_cases k
  · exact (cast_lines (extractStridedSlice S1x4x128 ![0, 0, 0] v slices_S3x4x128_o0_0_0_S1x4x128) b d).trans
      (congrArg v (show _ = ix3 0 b d from funext fun a => Fin.ext (by fin_cases a <;> simp [ix3])))
  · exact (cast_lines (extractStridedSlice S1x4x128 ![1, 0, 0] v slices_S3x4x128_o1_0_0_S1x4x128) b d).trans
      (congrArg v (show _ = ix3 1 b d from funext fun a => Fin.ext (by fin_cases a <;> simp [ix3])))
  · exact (cast_lines (extractStridedSlice S1x4x128 ![2, 0, 0] v slices_S3x4x128_o2_0_0_S1x4x128) b d).trans
      (congrArg v (show _ = ix3 2 b d from funext fun a => Fin.ext (by fin_cases a <;> simp [ix3])))

/-- A load of all of a list. -/
theorem ld_all {e : EltTy} (x : Vec F S3x4x128 e) : View.ld (Val := Elt F) x r1_0 = x :=
  funext fun j => congrArg x (funext fun a => Fin.ext (by fin_cases a <;> simp [ix3]))

/-- The states' numbers, from the load. -/
theorem numbers_raw (x0 : Vec F S3x4x128 .i32) (x1 x2 : Vec F S3x4x128 .f32) (x3 : Vec F S4 .f32) (x4 : Vec F S16x128x128 .f32) (x5 : Vec F S16x128 .f32) : k1_pay145 x0 x1 x2 x3 x4 x5 = numberV (k1_pay2 (View.ld x0 r1_0)) := by
  sl_kernel_rfl

/-- The depths, from the spread unit numbers. -/
theorem depth_raw (p q : IVec S3x4x128 32) : k1_pay52 (F := F) p q = fun j => depth (k1_pay51 p q j) := by
  sl_kernel_rfl

/-- The near polynomial's argument. -/
theorem near_raw (p q : IVec S3x4x128 32) : k1_pay53 (F := F) p q = fun j => FloatOps.subf (k1_pay52 p q j) (Scalar.ofBits .f32 0x40200000#32) := by
  sl_kernel_rfl

/-- The far polynomial's argument. -/
theorem far_raw (p q : IVec S3x4x128 32) :
    k1_pay54 (F := F) p q = fun j => FloatOps.subf (FloatOps.sqrt (k1_pay52 p q j)) (Scalar.ofBits .f32 0x40400000#32) := by
  sl_kernel_rfl

/-- The near polynomial's first steps. -/
theorem head_raw (p q : IVec S3x4x128 32) : k1_pay55 (F := F) p q = fun j =>
    [0x34B84B36#32, 0xB66C7357#32, 0xB6935AC1#32, 0x396532DB#32, 0xBAA45408#32].foldl (horner (k1_pay53 p q j)) (Scalar.ofBits .f32 0x32F16588#32) := by
  sl_kernel_rfl

/-- The noisy real parts, from the parts of the inverse error function. -/
theorem tail_raw (v u w a c g : FVec F S3x4x128 .f32) (ns : F .f32) :
    k1_pay56 v ns u w a c g = fun j => FloatOps.addf (v j) (FloatOps.mulf ns (FloatOps.mulf
      (Scalar.select (FloatOps.cmpf .olt (w j) (Scalar.ofBits .f32 0x40A00000#32))
        ([0xBB88E4EF#32, 0x3E7C8F63#32, 0x3FC02E2F#32].foldl (horner (a j)) (g j)) (farPoly (c j))) (u j))) := by
  sl_kernel_rfl

/-- The noisy real parts, from the spread unit numbers. -/
theorem real_raw (v : FVec F S3x4x128 .f32) (ns : F .f32) (p q : IVec S3x4x128 32) :
    k1_pay56 v ns (k1_pay51 p q) (k1_pay52 p q) (k1_pay53 p q) (k1_pay54 p q) (k1_pay55 p q)
      = fun j => FloatOps.addf (v j) (FloatOps.mulf ns (erfInv (k1_pay51 p q j))) := by
  rw [tail_raw, head_raw, far_raw, near_raw, depth_raw]
  rfl

/-- The first stream's unit numbers. -/
theorem stream0_raw (x0 : Vec F S3x4x128 .i32) (x1 x2 : Vec F S3x4x128 .f32) (x3 : Vec F S4 .f32) (x4 : Vec F S16x128x128 .f32) (x5 : Vec F S16x128 .f32) : k1_pay51 (F := F) (k1_pay154 x0 x1 x2 x3 x4 x5) (k1_pay155 x0 x1 x2 x3 x4 x5) = fun j => spread (unitOf (word0 (k1_pay145 x0 x1 x2 x3 x4 x5 j))) := by
  sl_kernel_rfl

/-- The noisy imaginary parts, from the spread unit numbers. -/
theorem imag_raw (v : FVec F S3x4x128 .f32) (ns : F .f32) (p q r : IVec S3x4x128 32) :
    k1_pay101 v ns (k1_pay95 p q r) (k1_pay96 p q r) (k1_pay98 (k1_pay96 p q r)) (k1_pay99 (k1_pay97 p q r)) (k1_pay100 (k1_pay96 p q r))
      = fun j => FloatOps.addf (v j) (FloatOps.mulf ns (erfInv (k1_pay95 p q r j))) := by
  sl_kernel_rfl

/-- The second stream's unit numbers. -/
theorem stream1_raw (x0 : Vec F S3x4x128 .i32) (x1 x2 : Vec F S3x4x128 .f32) (x3 : Vec F S4 .f32) (x4 : Vec F S16x128x128 .f32) (x5 : Vec F S16x128 .f32) : k1_pay95 (F := F) (k1_pay162 x0 x1 x2 x3 x4 x5) (k1_pay163 x0 x1 x2 x3 x4 x5) (k1_pay164 x0 x1 x2 x3 x4 x5) = fun j => spread (unitOf (word1 (k1_pay145 x0 x1 x2 x3 x4 x5 j))) := by
  sl_kernel_rfl

/-- The third stream's leading bits. -/
theorem stream2_raw (x0 : Vec F S3x4x128 .i32) (x1 x2 : Vec F S3x4x128 .f32) (x3 : Vec F S4 .f32) (x4 : Vec F S16x128x128 .f32) (x5 : Vec F S16x128 .f32) : k1_pay135 (k1_pay133 (k1_pay168 x0 x1 x2 x3 x4 x5) (k1_pay169 x0 x1 x2 x3 x4 x5) 15#32) (k1_pay134 (k1_pay168 x0 x1 x2 x3 x4 x5) (k1_pay169 x0 x1 x2 x3 x4 x5) 15#32) 24#32
      = fun j => IntOp.shrui .vector (word2 (k1_pay145 x0 x1 x2 x3 x4 x5 j)) 9#32 := by
  sl_kernel_rfl

/-- The drawn states, from the noisy values. -/
theorem drawn_mid (s n : IVec S3x4x128 32) (x y : FVec F S3x4x128 .f32) (z : S4x128.Idx) :
    k1_pay136 s x y (fun j => IntOp.shrui .vector (word2 (n j)) 9#32) 1065353216#32 z
      = (best3 fun k => (slab3 (fun j => scoreOf (x j) (y j) (n j)) k z, slab3 s k z)).2 := by
  sl_kernel_rfl

/-- The drawn states, from the loads. -/
theorem drawn_raw (x0 : Vec F S3x4x128 .i32) (x1 x2 : Vec F S3x4x128 .f32) (x3 : Vec F S4 .f32) (x4 : Vec F S16x128x128 .f32) (x5 : Vec F S16x128 .f32) (z : S4x128.Idx) :
    k1_pay170 x0 x1 x2 x3 x4 x5 z
      = (best3 fun k => (slab3 (fun j => scoreAt (k1_pay3 (View.ld x1 r1_0) j) (k1_pay4 (View.ld x2 r1_0) j) (k1_pay5 (View.ld x3 r1_1))
            (numberV (k1_pay2 (View.ld x0 r1_0)) j)) k z, slab3 (k1_pay2 (View.ld x0 r1_0)) k z)).2 := by
  unfold k1_pay170 k1_pay165
  rw [stream2_raw, real_raw, imag_raw, stream0_raw, stream1_raw, numbers_raw]
  exact drawn_mid _ _ _ _ z

/-- The matrices loaded. -/
def matW (x4 : Vec F S16x128x128 .f32) : Fin 16 → S1x128x128.Idx → F .f32 :=
  ![View.ld x4 r1_3, View.ld x4 r1_4, View.ld x4 r1_5, View.ld x4 r1_6, View.ld x4 r1_7, View.ld x4 r1_8, View.ld x4 r1_9, View.ld x4 r1_10,
    View.ld x4 r1_11, View.ld x4 r1_12, View.ld x4 r1_13, View.ld x4 r1_14, View.ld x4 r1_15, View.ld x4 r1_16, View.ld x4 r1_17, View.ld x4 r1_18]

/-- The product of one measurement's indicator with its matrix. -/
def measure (p : IVec S4x128 32) (x4 : Vec F S16x128x128 .f32) (n : Fin 16) : FVec F S4x128 .f32 :=
  matmul dot_S4x128_S128x128_S4x128_1_1_0_0_n_n none
    (sitofp .f32 (extui 32 (cmpi .eq p (broadcast S4x128 (BitVec.ofNat 32 n.val))) natLt_1_32))
    (shapeCast S128x128 (matW x4 n) shapeCasts_S1x128x128_S128x128) (constant S4x128 .f32 0x00000000#32)

/-- The result from the drawn states and the loads. -/
theorem out_raw (x0 : Vec F S3x4x128 .i32) (x1 x2 : Vec F S3x4x128 .f32) (x3 : Vec F S4 .f32) (x4 : Vec F S16x128x128 .f32) (x5 : Vec F S16x128 .f32) (z : r1_19.shape.Idx) :
    out1_6 x0 x1 x2 x3 x4 x5 (r1_19.emb z)
      = mulf ((List.finRange 16).foldl (fun acc n => addf acc (measure (k1_pay170 x0 x1 x2 x3 x4 x5) x4 n))
          (broadcastTo S4x128 (k1_pay137 (View.ld x5 r1_2)) broadcasts_S1x128_S4x128)) (broadcast S4x128 (Scalar.ofBits .f32 0x3D800000#32)) z := by
  unfold out1_6
  refine (View.canon_cons_emb _ _ _ _).trans ?_
  sl_kernel_rfl

end
end Cert.Draw
-- ==== Proof.RefRead.lean ====
module

public import proofs.«01_k».proof.Proof.RefPre
public import proofs.«01_k».proof.Proof.Last

@[expose] public section

/-! # The reference at an index

The reference's numbers of the unit interval and its scores, read at one draw, one state and one mode, are the
scalar functions that the kernel's final call applies. -/

noncomputable section

namespace Cert.Draw

open Idealize.ShloMosaic Cert.ReferenceIdeal Cert.ReferenceIdeal.Gen Cert.ReferenceIdeal.Value

variable {F : FTy → Type} [FloatOps F]

/-- The exclusive or does not depend on the order. -/
theorem xor_swap (a b : W) : IntOp.xori a b = IntOp.xori b a := BitVec.xor_comm a b

/-- One round, with the operands of the exclusive or the other way around. -/
def turnR (r l : W) (p : W × W) : W × W :=
  (IntOp.addi p.1 p.2, IntOp.xori (IntOp.addi p.1 p.2) (rot r l p.2))

/-- A round with the exclusive or's arguments the other way round is the same round. -/
theorem turnR_eq : turnR = turn := by
  funext r l p; exact Prod.ext rfl (xor_swap _ _)

/-- The generator's word, with those rounds. -/
def wordR (k0 k1 k2 k3 k4 k5 k6 k7 k8 k9 k10 k11 n : W) : W :=
  let even := fun p => turnR 6#32 26#32 (turnR 26#32 6#32 (turnR 15#32 17#32 (turnR 13#32 19#32 p)))
  let odd := fun p => turnR 24#32 8#32 (turnR 16#32 16#32 (turnR 29#32 3#32 (turnR 17#32 15#32 p)))
  let p := key k10 k11 (even (key k8 k9 (odd (key k6 k7 (even (key k4 k5 (odd (key k2 k3 (even (k0, IntOp.addi n k1))))))))))
  IntOp.xori p.1 p.2

/-- So the words are the same. -/
theorem wordR_eq : wordR = word := by
  funext k0 k1 k2 k3 k4 k5 k6 k7 k8 k9 k10 k11 n
  simp only [wordR, turnR_eq]
  rfl

/-- The number of a state's random words, in the reference. -/
def numberR (j : S3x4x65536x128.Idx) : W :=
  IntOp.addi (IntOp.addi (IntOp.muli (iotaInDim S3x4x65536x128 32 1 j) 8388608#32) (IntOp.muli (iotaInDim S3x4x65536x128 32 2 j) 128#32)) (iotaInDim S3x4x65536x128 32 3 j)

/-- The reference's unit numbers of stream 0. -/
theorem unit0 (V0 : Valuation τ sig (Elt F)) (b : Fin 4) (s : Fin 65536) (d : Fin 128) :
    (res_main_v223 V0 : FVec F S3x4x65536x128 .f32) (ix4 0 b s d) = unitOf (word0 (numberR (ix4 0 b s d))) := by
  rw [word0, ← wordR_eq]
  sl_kernel_rfl

/-- The reference's unit numbers of stream 1. -/
theorem unit1 (V0 : Valuation τ sig (Elt F)) (b : Fin 4) (s : Fin 65536) (d : Fin 128) :
    (res_main_v223 V0 : FVec F S3x4x65536x128 .f32) (ix4 1 b s d) = unitOf (word1 (numberR (ix4 1 b s d))) := by
  rw [word1, ← wordR_eq]
  sl_kernel_rfl

/-- The reference's unit numbers of stream 2. -/
theorem unit2 (V0 : Valuation τ sig (Elt F)) (b : Fin 4) (s : Fin 65536) (d : Fin 128) :
    (res_main_v223 V0 : FVec F S3x4x65536x128 .f32) (ix4 2 b s d) = unitOf (word2 (numberR (ix4 2 b s d))) := by
  rw [word2, ← wordR_eq]
  sl_kernel_rfl

/-- Minus the logarithm of one less a number's square, as the host computes it. -/
def depthR (v : F .f32) : F .f32 := FloatOps.hostNegf (FloatOps.hostUnary .log1p (FloatOps.mulf (FloatOps.hostNegf v) v))

/-- The inverse error function, as the host computes it. -/
def erfR (v : F .f32) : F .f32 :=
  FloatOps.mulf (Scalar.select (FloatOps.cmpf .olt (depthR v) (Scalar.ofBits .f32 0x40A00000#32))
    (nearPoly (FloatOps.subf (depthR v) (Scalar.ofBits .f32 0x40200000#32)))
    (farPoly (FloatOps.subf (FloatOps.hostUnary .sqrt (depthR v)) (Scalar.ofBits .f32 0x40400000#32)))) v

/-- One stream's unit numbers. -/
def stream (V0 : Valuation τ sig (Elt F)) (o : Fin 4 → ℕ) (h : S3x4x65536x128.Slices o S1x4x65536x128) : FVec F S4x65536x128 .f32 :=
  shapeCast _ (extractStridedSlice S1x4x65536x128 o (res_main_v223 V0) h) shapeCasts_S1x4x65536x128_S4x65536x128

/-- An array over the states and modes, the same for every draw. -/
def perDraw (x : FVec F S65536x128 .f32) : FVec F S4x65536x128 .f32 :=
  broadcastInDim S4x65536x128 ![0, 1, 2] bcast_S1x65536x128_S4x65536x128_0_1_2 (broadcastInDim S1x65536x128 ![1, 2] bcast_S65536x128_S1x65536x128_1_2 x)

/-- The field repeated for every batch reads as the field. -/
theorem perDraw_apply (x : FVec F S65536x128 .f32) (b : Fin 4) (s : Fin 65536) (d : Fin 128) : perDraw x (ix3 b s d) = x (ix2 s d) := by
  show x _ = x _
  congr 1
  funext a
  fin_cases a <;> rfl

/-- The noisy amplitude's real part: the field plus the first draw's noise. -/
theorem real_read (V0 : Valuation τ sig (Elt F)) (b : Fin 4) (s : Fin 65536) (d : Fin 128) :
    (res_main_v299 V0 : FVec F S4x65536x128 .f32) (ix3 b s d)
      = FloatOps.addf (perDraw (reV V0) (ix3 b s d)) (FloatOps.mulf (erfR (spread (stream V0 ![0, 0, 0, 0] slices_S3x4x65536x128_S1x4x65536x128_0_0_0_0 (ix3 b s d)))) (Scalar.ofBits .f32 0x3A826B00#32)) := by
  sl_kernel_rfl

/-- The noisy amplitude's imaginary part: the field plus the second draw's noise. -/
theorem imag_read (V0 : Valuation τ sig (Elt F)) (b : Fin 4) (s : Fin 65536) (d : Fin 128) :
    (res_main_v375 V0 : FVec F S4x65536x128 .f32) (ix3 b s d)
      = FloatOps.addf (perDraw (imV V0) (ix3 b s d)) (FloatOps.mulf (erfR (spread (stream V0 ![1, 0, 0, 0] slices_S3x4x65536x128_S1x4x65536x128_1_0_0_0 (ix3 b s d)))) (Scalar.ofBits .f32 0x3A826B00#32)) := by
  sl_kernel_rfl

/-- The score: the logarithm of the noisy power less the logarithm of minus the logarithm of the third draw's uniform. -/
theorem score_read (V0 : Valuation τ sig (Elt F)) (j : S4x65536x128.Idx) :
    (res_main_v393 V0 : FVec F S4x65536x128 .f32) j
      = FloatOps.subf (FloatOps.hostUnary .log (FloatOps.addf (FloatOps.addf (FloatOps.mulf ((res_main_v299 V0 : FVec F S4x65536x128 .f32) j) ((res_main_v299 V0 : FVec F S4x65536x128 .f32) j)) (FloatOps.mulf ((res_main_v375 V0 : FVec F S4x65536x128 .f32) j) ((res_main_v375 V0 : FVec F S4x65536x128 .f32) j))) (Scalar.ofBits .f32 0x1E3CE508#32)))
        (FloatOps.hostUnary .log (FloatOps.hostNegf (FloatOps.hostUnary .log (FloatOps.maximumf (Scalar.ofBits .f32 0x33D6BF95#32)
          (FloatOps.addf (FloatOps.mulf (stream V0 ![2, 0, 0, 0] slices_S3x4x65536x128_S1x4x65536x128_2_0_0_0 j) (Scalar.ofBits .f32 0x3F7FFFFE#32)) (Scalar.ofBits .f32 0x33D6BF95#32)))))) := by
  sl_kernel_rfl
/-- The leading unit axis dropped. -/
theorem drop_unit {α : Type} (v : S1x4x65536x128.Idx → α) (b : Fin 4) (s : Fin 65536) (d : Fin 128) :
    shapeCast S4x65536x128 v shapeCasts_S1x4x65536x128_S4x65536x128 (ix3 b s d) = v (ix4 0 b s d) :=
  congrArg v (Shape.reshapeEquiv_eq_of_vals _ _ _ _ _ (rowMajor_val4 (ix4 0 b s d) 33554432 8388608 128 rfl rfl rfl) (rowMajor_val3 (ix3 b s d) 8388608 128 rfl rfl)
    (by simp [ix3, ix4]))

/-- A stream's numbers at an index. -/
theorem stream_apply (V0 : Valuation τ sig (Elt F)) (k : Fin 3) (h : S3x4x65536x128.Slices ![k.val, 0, 0, 0] S1x4x65536x128) (b : Fin 4) (s : Fin 65536) (d : Fin 128) :
    stream V0 ![k.val, 0, 0, 0] h (ix3 b s d) = (res_main_v223 V0 : FVec F S3x4x65536x128 .f32) (ix4 k b s d) := by
  unfold stream
  rw [drop_unit]
  generalize (res_main_v223 V0 : FVec F S3x4x65536x128 .f32) = v
  show v _ = v _
  congr 1
  funext a
  fin_cases a
  · exact Fin.ext (by simp [ix4, ix3])
  · exact Fin.ext (by simp [ix4, ix3])
  · exact Fin.ext (by simp [ix4, ix3])
  · exact Fin.ext (by simp [ix4, ix3])

/-- The logarithm's argument, the random numbers and the noise at `Ideal` are the kernel's. -/
theorem depthR_eq (v : EReal) : depthR (F := Ideal) v = depth (F := Ideal) v := by
  have h0 : (Scalar.ofBits .f32 0x00000000#32 : Ideal .f32) = 0 := by
    show Ideal.ofBits .f32 0x00000000#32 = 0
    simp [Ideal.ofBits, Ideal.ieee]
  have hs : ∀ a : EReal, (0 : EReal) - a = -a := fun a => zero_sub a
  unfold depthR depth
  rw [h0]
  show -Ideal.log1p (-v * v) = 0 - Ideal.log1p ((0 - v) * v)
  rw [hs, hs]

/-- The reference's inverse error function is the kernel's. -/
theorem erfR_eq (v : EReal) : erfR (F := Ideal) v = erfInv (F := Ideal) v := by
  unfold erfR erfInv
  rw [depthR_eq]
  rfl

/-- The reference's score of a state is the kernel's score of it. -/
theorem score_at (V0 : Valuation τ sig (Elt Ideal)) (b : Fin 4) (s : Fin 65536) (d : Fin 128) :
    (res_main_v393 V0 : FVec Ideal S4x65536x128 .f32) (ix3 b s d)
      = scoreAt (F := Ideal) (reV V0 (ix2 s d)) (imV V0 (ix2 s d)) (Scalar.ofBits .f32 0x3A826B00#32) (numberR (ix4 0 b s d)) := by
  have h0 : (Scalar.ofBits .f32 0x00000000#32 : Ideal .f32) = 0 := by
    show Ideal.ofBits .f32 0x00000000#32 = 0
    simp [Ideal.ofBits, Ideal.ieee]
  have hs : ∀ a : EReal, (0 : EReal) - a = -a := fun a => zero_sub a
  rw [score_read, real_read, imag_read, perDraw_apply, perDraw_apply, erfR_eq, erfR_eq]
  have e0 := (stream_apply V0 0 slices_S3x4x65536x128_S1x4x65536x128_0_0_0_0 b s d).trans (unit0 V0 b s d)
  have e1 := (stream_apply V0 1 slices_S3x4x65536x128_S1x4x65536x128_1_0_0_0 b s d).trans (unit1 V0 b s d)
  have e2 := (stream_apply V0 2 slices_S3x4x65536x128_S1x4x65536x128_2_0_0_0 b s d).trans (unit2 V0 b s d)
  have n1 : numberR (ix4 1 b s d) = numberR (ix4 0 b s d) := rfl
  have n2 : numberR (ix4 2 b s d) = numberR (ix4 0 b s d) := rfl
  rw [n1] at e1
  rw [n2] at e2
  simp only [Fin.val_zero, Fin.val_one, Fin.val_two] at e0 e1 e2
  rw [e0, e1, e2]
  unfold scoreAt scoreOf bell openUnit
  rw [h0]
  generalize numberR (ix4 0 b s d) = n
  show _ - Ideal.log (-_) = _ - Ideal.log (0 - _)
  rw [hs]
  have hm : ∀ x y : Ideal .f32, FloatOps.mulf x y = FloatOps.mulf y x := fun x y => mul_comm (x : EReal) y
  rw [hm (erfInv (F := Ideal) (spread (unitOf (word0 n)))), hm (erfInv (F := Ideal) (spread (unitOf (word1 n))))]
  rfl

end Cert.Draw
-- ==== Proof.RefIdx.lean ====
module

public import proofs.«01_k».proof.Proof.RefRead
public import proofs.«01_k».proof.Proof.Winner

@[expose] public section

set_option maxRecDepth 16384

/-! # The drawn state of the reference

Over the extended reals the reference's drawn state is the least number of a state whose score is the greatest. -/

noncomputable section

namespace Cert.Draw

open Idealize.ShloMosaic Cert.ReferenceIdeal Cert.ReferenceIdeal.Gen Cert.ReferenceIdeal.Value

/-- The least word of a lane. -/
theorem host_min (x : IVec S4x65536x128 32) (i : IVec S_ 32) (b : Fin 4) (d : Fin 128) :
    Host.reduce IntOp.minsi x i reducesTo_S4x65536x128_S4x128_d1 h_S_ (ix2 b d)
      = (Finset.univ : Finset (Fin 65536)).fold IntOp.minsi (i (Shape.Idx.first h_S_)) fun s => x (ix3 b s d) :=
  (Host.reduce_eq_fold _ _ _ _ _ _).trans (Shape.ReducesTo.fold_fiber_r3_a1 reducesTo_S4x65536x128_S4x128_d1 (ix2 b d) IntOp.minsi _ _)

/-- The greatest value of a lane. -/
theorem host_max (x : FVec Ideal S4x65536x128 .f32) (b : Fin 4) (d : Fin 128) :
    Host.reduce FloatOps.maximumf x (constant S_ .f32 0xFF800000#32) reducesTo_S4x65536x128_S4x128_d1 h_S_ (ix2 b d)
      = (Finset.univ.sup fun s : Fin 65536 => (x (ix3 b s d) : EReal)) := by
  refine (Host.reduce_eq_fold _ _ _ _ _ _).trans ((Shape.ReducesTo.fold_fiber_r3_a1 reducesTo_S4x65536x128_S4x128_d1 (ix2 b d) FloatOps.maximumf _ _).trans ?_)
  have h : (constant S_ .f32 0xFF800000#32 (Shape.Idx.first h_S_) : Ideal .f32) = (⊥ : EReal) := ofBits_neg_inf
  rw [h]
  exact fold_max_eq_sup (ι := Fin 65536) _ _ _ fun s => rfl

/-- A line spread over the states. -/
theorem perLine_apply {α : Type} (x : S4x128.Idx → α) (b : Fin 4) (s : Fin 65536) (d : Fin 128) :
    broadcastInDim S4x65536x128 ![0, 1, 2] bcast_S4x1x128_S4x65536x128_0_1_2 (broadcastInDim S4x1x128 ![0, 2] bcast_S4x128_S4x1x128_0_2 x) (ix3 b s d) = x (ix2 b d) := by
  show x _ = x _
  congr 1
  funext a
  fin_cases a <;> rfl

/-- A small number as a signed word. -/
theorem toInt_small (n : ℕ) (h : n < 2147483648) : (BitVec.ofNat 32 n).toInt = n := by
  rw [BitVec.toInt_eq_toNat_cond, BitVec.toNat_ofNat, Nat.mod_eq_of_lt (by omega)]
  rw [if_pos (by omega)]

/-- The score of a state, in the reference. -/
def scV (V0 : Valuation τ sig (Elt Ideal)) (b : Fin 4) (d : Fin 128) (s : Fin 65536) : EReal :=
  (res_main_v393 V0 : FVec Ideal S4x65536x128 .f32) (ix3 b s d)

/-- The drawn state has the greatest score, and the least number among those. -/
theorem idx_spec (V0 : Valuation τ sig (Elt Ideal)) (b : Fin 4) (d : Fin 128) :
    ∃ s0 : Fin 65536, idxV V0 (ix2 b d) = BitVec.ofNat 32 s0.val ∧ (∀ s, scV V0 b d s ≤ scV V0 b d s0) ∧ ∀ s, scV V0 b d s = scV V0 b d s0 → s0.val ≤ s.val := by
  have e : idxV V0 (ix2 b d) = (Finset.univ : Finset (Fin 65536)).fold IntOp.minsi 2147483647#32 fun s =>
      Scalar.select (FloatOps.cmpf (F := Ideal) (φ := .f32) .oeq (scV V0 b d s) (Finset.univ.sup (scV V0 b d))) (BitVec.ofNat 32 s.val) 65536#32 := by
    unfold idxV
    rw [host_min]
    refine Finset.fold_congr fun s _ => ?_
    refine Eq.trans (b := Scalar.select (FloatOps.cmpf .oeq ((res_main_v393 V0 : FVec Ideal S4x65536x128 .f32) (ix3 b s d)) (broadcastInDim S4x65536x128 ![0, 1, 2] bcast_S4x1x128_S4x65536x128_0_1_2 (broadcastInDim S4x1x128 ![0, 2] bcast_S4x128_S4x1x128_0_2 (Host.reduce FloatOps.maximumf (res_main_v393 V0) (constant S_ .f32 0xFF800000#32) reducesTo_S4x65536x128_S4x128_d1 h_S_)) (ix3 b s d))) (iotaInDim S4x65536x128 32 1 (ix3 b s d)) 65536#32) rfl ?_
    rw [perLine_apply, host_max]
    rfl
  rw [e]
  generalize scV V0 b d = sc
  obtain ⟨k, -, hk⟩ := Finset.exists_mem_eq_sup (Finset.univ : Finset (Fin 65536)) Finset.univ_nonempty sc
  have hle : ∀ s, sc s ≤ Finset.univ.sup sc := fun s => Finset.le_sup (Finset.mem_univ s)
  generalize Finset.univ.sup sc = top at hk hle
  have hsel : ∀ s : Fin 65536, Scalar.select (FloatOps.cmpf (F := Ideal) (φ := .f32) .oeq (sc s) top) (BitVec.ofNat 32 s.val) 65536#32 = if sc s = top then BitVec.ofNat 32 s.val else 65536#32 := fun s => by
    by_cases h : sc s = top <;> simp [FloatOps.cmpf, Ideal.cmp, Scalar.select, h]
  simp only [hsel]
  have hf := fold_minsi 2147483647#32 (Finset.univ : Finset (Fin 65536)) fun s => if sc s = top then BitVec.ofNat 32 s.val else 65536#32
  generalize (Finset.univ : Finset (Fin 65536)).fold IntOp.minsi 2147483647#32 (fun s => if sc s = top then BitVec.ofNat 32 s.val else 65536#32) = g at hf ⊢
  have hk' := hf.2 k (Finset.mem_univ k)
  rw [if_pos hk.symm, toInt_small _ (by omega)] at hk'
  rcases hf.1 with h | ⟨s, -, h⟩
  · rw [h] at hk'
    have : (2147483647#32 : W).toInt = 2147483647 := by decide
    omega
  · by_cases hs : sc s = top
    · rw [if_pos hs] at h
      refine ⟨s, h.symm, fun s' => hs ▸ hle s', fun s' hs' => ?_⟩
      have := hf.2 s' (Finset.mem_univ s')
      rw [if_pos (hs'.trans hs), ← h, toInt_small _ (by omega), toInt_small _ (by omega)] at this
      omega
    · rw [if_neg hs] at h
      rw [← h] at hk'
      have : (65536#32 : W).toInt = 65536 := by decide
      omega

end Cert.Draw
-- ==== Proof.PreRead.lean ====
module

public import proofs.«01_k».proof.Proof.RefIdx

@[expose] public section

set_option maxRecDepth 16384

/-! # What the precondition says

Where the precondition holds, the inputs that move the race are finite; in the drawn state's home block no other
state's noiseless power reaches the drawn state's; and at most two blocks hold a state whose power does. -/

noncomputable section

namespace Cert.Draw

open Idealize.ShloMosaic Cert.Pre_draw_is_shortlisted Cert.Pre_draw_is_shortlisted.Facts

section
variable {F : FTy → Type} [FloatOps F]

/-- The noiseless powers of all draws. -/
def raceV (re im : FVec F S65536x128 .f32) (u : FVec F S3x4x65536x128 .f32) : FVec F S4x65536x128 .f32 :=
  Host.divf (broadcastInDim S4x65536x128 ![0, 1, 2] bcast_S1x65536x128_S4x65536x128_0_1_2 (broadcastInDim S1x65536x128 ![1, 2] bcast_S65536x128_S1x65536x128_1_2
      (addf (addf (mulf re re) (mulf im im)) (broadcastInDim S65536x128 ![] bcast_S_S65536x128 (constant S_ .f32 0x1E3CE508#32)))))
    (Host.negf (Host.log (shapeCast S4x65536x128 (extractStridedSlice S1x4x65536x128 ![2, 0, 0, 0] u slices_S3x4x65536x128_S1x4x65536x128_2_0_0_0) shapeCasts_S1x4x65536x128_S4x65536x128)))

/-- Where a state is the drawn one. -/
def isDrawn (idx : IVec S4x128 32) : IVec S4x65536x128 1 :=
  cmpi .eq (iotaInDim S4x65536x128 32 1) (broadcastInDim S4x65536x128 ![0, 1, 2] bcast_S4x1x128_S4x65536x128_0_1_2 (broadcastInDim S4x1x128 ![0, 2] bcast_S4x128_S4x1x128_0_2 idx))

/-- Minus one everywhere. -/
def minusOnes : FVec F S4x65536x128 .f32 := broadcastInDim S4x65536x128 ![] bcast_S_S4x65536x128 (constant S_ .f32 0xBF800000#32)

/-- The drawn state's power. -/
def ownV (p : FVec F S4x65536x128 .f32) (idx : IVec S4x128 32) : FVec F S4x128 .f32 :=
  Host.reduce FloatOps.maximumf (select (isDrawn idx) p (minusOnes (F := F))) (constant S_ .f32 0xFF800000#32) reducesTo_S4x65536x128_S4x128_d1 h_S_

/-- The greatest power of each block, the drawn state left out. -/
def restV (p : FVec F S4x65536x128 .f32) (idx : IVec S4x128 32) : FVec F S4x512x128 .f32 :=
  Host.reduce FloatOps.maximumf (shapeCast S4x16x512x8x128 (select (isDrawn idx) (minusOnes (F := F)) p) shapeCasts_S4x65536x128_S4x16x512x8x128) (constant S_ .f32 0xFF800000#32) reducesTo_S4x16x512x8x128_S4x512x128_d1_3 h_S_

/-- Where a block has a rival of the drawn state. -/
def rivalV (p : FVec F S4x65536x128 .f32) (idx : IVec S4x128 32) : IVec S4x512x128 1 :=
  cmpf .oge (restV p idx) (broadcastInDim S4x512x128 ![0, 1, 2] bcast_S4x1x128_S4x512x128_0_1_2 (broadcastInDim S4x1x128 ![0, 2] bcast_S4x128_S4x1x128_0_2 (ownV p idx)))

/-- The drawn state's block. -/
def homeV (idx : IVec S4x128 32) : IVec S4x128 32 :=
  Host.shrsi (andi idx (broadcastInDim S4x128 ![] bcast_S_S4x128 (constantI S_ 32 4095#32))) (broadcastInDim S4x128 ![] bcast_S_S4x128 (constantI S_ 32 3#32))

/-- Where a block is the drawn state's. -/
def atHomeV (idx : IVec S4x128 32) : IVec S4x512x128 1 :=
  cmpi .eq (iotaInDim S4x512x128 32 1) (broadcastInDim S4x512x128 ![0, 1, 2] bcast_S4x1x128_S4x512x128_0_1_2 (broadcastInDim S4x1x128 ![0, 2] bcast_S4x128_S4x1x128_0_2 (homeV idx)))

/-- The precondition from those arrays. -/
theorem part23_eq (fin : IVec S_ 1) (re im : FVec F S65536x128 .f32) (u : FVec F S3x4x65536x128 .f32) (idx : IVec S4x128 32) :
    fn_part23 (F := F) fin re im u idx
      = andi (andi (broadcastInDim S4x128 ![] bcast_S_S4x128 fin)
          (noti (Host.reduce IntOp.ori (andi (rivalV (raceV (F := F) re im u) idx) (atHomeV idx)) (constantI S_ 1 0#1) reducesTo_S4x512x128_S4x128_d1 h_S_)))
        (cmpf (F := F) .olt (Host.reduceAdd (uitofp (F := F) .f32 (rivalV (raceV re im u) idx)) (constant (F := F) S_ .f32 0x00000000#32) reducesTo_S4x512x128_S4x128_d1 h_S_)
          (broadcastInDim S4x128 ![] bcast_S_S4x128 (constant (F := F) S_ .f32 0x40200000#32))) := by
  sl_kernel_rfl

/-- A line spread over the blocks. -/
theorem perBlock_apply {α : Type} (x : S4x128.Idx → α) (b : Fin 4) (t : Fin 512) (d : Fin 128) :
    broadcastInDim S4x512x128 ![0, 1, 2] bcast_S4x1x128_S4x512x128_0_1_2 (broadcastInDim S4x1x128 ![0, 2] bcast_S4x128_S4x1x128_0_2 x) (ix3 b t d) = x (ix2 b d) := by
  show x _ = x _
  congr 1
  funext a
  fin_cases a <;> rfl

end

/-- A conjunction of flags that holds has both its members. -/
theorem and_one : ∀ {a b : BitVec 1}, IntOp.andi a b = 1#1 → a = 1#1 ∧ b = 1#1 := by decide
/-- A flag whose negation holds does not hold. -/
theorem not_one : ∀ {a : BitVec 1}, ~~~a = 1#1 → a = 0#1 := by decide
/-- A disjunction of flags that fails has neither of its members. -/
theorem or_zero : ∀ {a b : BitVec 1}, IntOp.ori a b = 0#1 → a = 0#1 ∧ b = 0#1 := by decide

/-- A conjunction that holds has all its members. -/
theorem fold_and {ι : Type} [DecidableEq ι] (s : Finset ι) (f : ι → BitVec 1) (i : BitVec 1) (h : s.fold IntOp.andi i f = 1#1) : ∀ k ∈ s, f k = 1#1 := by
  induction s using Finset.induction_on with
  | empty => simp
  | insert a s ha ih =>
    rw [Finset.fold_insert ha] at h
    have := and_one h
    intro k hk
    rcases Finset.mem_insert.mp hk with rfl | hk
    · exact this.1
    · exact ih this.2 k hk

/-- A disjunction that fails has no member. -/
theorem fold_or {ι : Type} [DecidableEq ι] (s : Finset ι) (f : ι → BitVec 1) (i : BitVec 1) (h : s.fold IntOp.ori i f = 0#1) : ∀ k ∈ s, f k = 0#1 := by
  induction s using Finset.induction_on with
  | empty => simp
  | insert a s ha ih =>
    rw [Finset.fold_insert ha] at h
    have := or_zero h
    intro k hk
    rcases Finset.mem_insert.mp hk with rfl | hk
    · exact this.1
    · exact ih this.2 k hk

/-- The pattern of the infinity. -/
theorem ofBits_inf : (FloatOps.ofBits .f32 0x7F800000#32 : Ideal .f32) = (⊤ : EReal) := by
  show Ideal.ofBits .f32 0x7F800000#32 = _
  simp [Ideal.ofBits, Ideal.ieee]

/-- An array whose entries are all below the infinity holds real numbers. -/
theorem finite_of {s : Shape} (b : S_.BroadcastsInDim s ![]) {dims : List (Fin s.rank)} (r : s.ReducesTo dims S_) (x : FVec Ideal s .f32) (j : S_.Idx)
    (h : allFinite b r x j = 1#1) (i : s.Idx) : ∃ v : ℝ, (x i : EReal) = v := by
  unfold allFinite at h
  rw [Host.reduce_eq_fold] at h
  have hi := fold_and _ _ _ h i (Finset.mem_filter.mpr ⟨Finset.mem_univ _, funext fun a => a.elim0⟩)
  have hi' : FloatOps.cmpf .olt (max (x i : EReal) (-(x i : EReal)) : Ideal .f32) (FloatOps.ofBits .f32 0x7F800000#32 : Ideal .f32) = 1#1 := hi
  rw [ofBits_inf] at hi'
  have hlt : max (x i : EReal) (-(x i : EReal)) < ⊤ := by
    by_contra hc
    simp [FloatOps.cmpf, Ideal.cmp, hc] at hi'
  have h1 : (x i : EReal) ≠ ⊤ := fun e => by rw [e] at hlt; simp at hlt
  have h2 : (x i : EReal) ≠ ⊥ := fun e => by rw [e] at hlt; simp at hlt
  exact ⟨(x i : EReal).toReal, (EReal.coe_toReal h1 h2).symm⟩

/-- The block of a state. -/
def stateOf (q : Fin 16) (t : Fin 512) (k : Fin 8) : Fin 65536 := ⟨q.val * 4096 + t.val * 8 + k.val, by omega⟩

/-- A block's greatest power reaches each of its states'. -/
theorem restV_le (p : FVec Ideal S4x65536x128 .f32) (idx : IVec S4x128 32) (b : Fin 4) (q : Fin 16) (t : Fin 512) (k : Fin 8) (d : Fin 128) :
    @LE.le EReal _ (Scalar.select (isDrawn idx (ix3 b (stateOf q t k) d)) ((minusOnes (F := Ideal)) (ix3 b (stateOf q t k) d)) (p (ix3 b (stateOf q t k) d))) (restV p idx (ix3 b t d)) := by
  unfold restV
  rw [Host.reduce_eq_fold]
  have e : shapeCast S4x16x512x8x128 (select (isDrawn idx) (minusOnes (F := Ideal)) p) shapeCasts_S4x65536x128_S4x16x512x8x128 (ix5 b q t k d)
      = Scalar.select (isDrawn idx (ix3 b (stateOf q t k) d)) ((minusOnes (F := Ideal)) (ix3 b (stateOf q t k) d)) (p (ix3 b (stateOf q t k) d)) :=
    congrArg (select (isDrawn idx) (minusOnes (F := Ideal)) p) (Shape.reshapeEquiv_eq_of_vals _ _ (ix3 b (stateOf q t k) d) _ _ (rowMajor_val3 (ix3 b (stateOf q t k) d) 8388608 128 rfl rfl)
      (rowMajor_val5 (ix5 b q t k d) 8388608 524288 1024 128 rfl rfl rfl rfl) (by simp [ix3, ix5, stateOf]; omega))
  rw [← e]
  have hmem : ix5 b q t k d ∈ Finset.univ.filter fun i : S4x16x512x8x128.Idx => reducesTo_S4x16x512x8x128_S4x512x128_d1_3.drop i = ix3 b t d :=
    Finset.mem_filter.mpr ⟨Finset.mem_univ _, funext fun a => by fin_cases a <;> rfl⟩
  rw [← Finset.insert_erase hmem, Finset.fold_insert (Finset.notMem_erase _ _)]
  exact le_max_left _ _

end Cert.Draw
-- ==== Proof.PreRival.lean ====
module

public import proofs.«01_k».proof.Proof.PreRead

@[expose] public section

set_option maxRecDepth 16384

noncomputable section

namespace Cert.Draw

open Idealize.ShloMosaic Cert.Pre_draw_is_shortlisted Cert.Pre_draw_is_shortlisted.Facts

/-- A state's home is the number of its block. -/
theorem home_word (s : Fin 65536) :
    IntOp.shrsi .host (IntOp.andi (BitVec.ofNat 32 s.val) 4095#32) 3#32 = BitVec.ofNat 32 (s.val % 4096 / 8) := by
  have hn : (IntOp.andi (BitVec.ofNat 32 s.val) 4095#32).toNat = s.val % 4096 := by
    show (BitVec.ofNat 32 s.val &&& 4095#32).toNat = _
    rw [BitVec.toNat_and, BitVec.toNat_ofNat, Nat.mod_eq_of_lt (by omega)]
    exact Nat.and_two_pow_sub_one_eq_mod s.val 12
  generalize IntOp.andi (BitVec.ofNat 32 s.val) 4095#32 = a at hn
  unfold IntOp.shrsi
  rw [if_pos (by decide)]
  show a.sshiftRight 3 = _
  rw [BitVec.sshiftRight_eq_of_msb_false (by rw [BitVec.msb_eq_false_iff_two_mul_lt]; omega)]
  apply BitVec.eq_of_toNat_eq
  rw [BitVec.toNat_ushiftRight, BitVec.toNat_ofNat, hn, Nat.shiftRight_eq_div_pow]
  omega

/-- Two states' words are the same only for the same state. -/
theorem word_inj {a b : ℕ} (ha : a < 4294967296) (hb : b < 4294967296) (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- Equality of small words, decided. -/
theorem cmpi_ofNat {a b : ℕ} (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · have : ¬ BitVec.ofNat 32 a = BitVec.ofNat 32 b := fun e => h (word_inj ha hb e)
    rw [if_neg h]
    show BitVec.ofBool (BitVec.ofNat 32 a == BitVec.ofNat 32 b) = 0#1
    rw [beq_eq_false_iff_ne.mpr this]
    rfl

/-- The pattern of minus one. -/
theorem ofBits_minus_one : (FloatOps.ofBits .f32 0xBF800000#32 : Ideal .f32) = ((-1 : ℝ) : EReal) := by
  show Ideal.ofBits .f32 0xBF800000#32 = _
  simp [Ideal.ofBits, Ideal.ieee, -EReal.coe_mul]; norm_num

/-- Where a block has a rival, read. -/
theorem rivalV_apply {F : FTy → Type} [FloatOps F] (p : FVec F S4x65536x128 .f32) (idx : IVec S4x128 32) (b : Fin 4) (t : Fin 512) (d : Fin 128) :
    rivalV p idx (ix3 b t d) = FloatOps.cmpf .oge (restV p idx (ix3 b t d)) (ownV p idx (ix2 b d)) := by
  have h : ∀ x y : FVec F S4x512x128 .f32, cmpf .oge x y (ix3 b t d) = FloatOps.cmpf .oge (x (ix3 b t d)) (y (ix3 b t d)) := fun _ _ => rfl
  unfold rivalV
  rw [h, perBlock_apply]

/-- The second of two values. -/
theorem select_zero {α : Type} (a b : α) : Scalar.select 0#1 a b = b := rfl

/-- "At least", decided. -/
theorem cmpf_oge {x y : EReal} (h : y ≤ x) : FloatOps.cmpf (F := Ideal) (φ := .f32) .oge x y = 1#1 := by
  simp [FloatOps.cmpf, Ideal.cmp, h]

section
variable (p : FVec Ideal S4x65536x128 .f32) (idx : IVec S4x128 32) (b : Fin 4) (d : Fin 128) (s0 : Fin 65536)

/-- Where the drawn state is. -/
theorem isDrawn_apply (hidx : idx (ix2 b d) = BitVec.ofNat 32 s0.val) (s : Fin 65536) : isDrawn idx (ix3 b s d) = if s = s0 then 1#1 else 0#1 := by
  have h : isDrawn idx (ix3 b s d) = IntOp.cmpi .eq (BitVec.ofNat 32 s.val) (broadcastInDim S4x65536x128 ![0, 1, 2] bcast_S4x1x128_S4x65536x128_0_1_2 (broadcastInDim S4x1x128 ![0, 2] bcast_S4x128_S4x1x128_0_2 idx) (ix3 b s d)) := rfl
  rw [h, show broadcastInDim S4x65536x128 ![0, 1, 2] bcast_S4x1x128_S4x65536x128_0_1_2 (broadcastInDim S4x1x128 ![0, 2] bcast_S4x128_S4x1x128_0_2 idx) (ix3 b s d) = idx (ix2 b d) from perLine_apply idx b s d,
    hidx, cmpi_ofNat (by omega) (by omega)]
  simp [Fin.ext_iff]

/-- The drawn state's power is no more than its own. -/
theorem ownV_le (hidx : idx (ix2 b d) = BitVec.ofNat 32 s0.val) (hp : (((-1 : ℝ) : EReal)) ≤ p (ix3 b s0 d)) :
    @LE.le EReal _ (ownV p idx (ix2 b d)) (p (ix3 b s0 d)) := by
  refine (le_of_eq (host_max _ b d)).trans (Finset.sup_le fun s _ => ?_)
  show (Scalar.select (isDrawn idx (ix3 b s d)) (p (ix3 b s d)) (FloatOps.ofBits .f32 0xBF800000#32 : Ideal .f32) : EReal) ≤ _
  rw [isDrawn_apply idx b d s0 hidx, ofBits_minus_one]
  by_cases h : s = s0
  · subst h; rw [if_pos rfl]; exact le_of_eq rfl
  · rw [if_neg h]; exact hp

/-- A block has a rival wherever one of its other states has the drawn state's power. -/
theorem rival_of (hidx : idx (ix2 b d) = BitVec.ofNat 32 s0.val) (hp : (((-1 : ℝ) : EReal)) ≤ p (ix3 b s0 d))
    (q : Fin 16) (t : Fin 512) (k : Fin 8) (hne : stateOf q t k ≠ s0) (hle : @LE.le EReal _ (p (ix3 b s0 d)) (p (ix3 b (stateOf q t k) d))) :
    rivalV p idx (ix3 b t d) = 1#1 := by
  rw [rivalV_apply]
  have h1 := restV_le p idx b q t k d
  rw [isDrawn_apply idx b d s0 hidx, if_neg hne, select_zero] at h1
  have h2 := ownV_le p idx b d s0 hidx hp
  generalize restV p idx (ix3 b t d) = x at h1 ⊢
  generalize ownV p idx (ix2 b d) = y at h2 ⊢
  exact cmpf_oge ((h2.trans hle).trans h1)

/-- The drawn state's block, marked. -/
theorem atHome_apply (hidx : idx (ix2 b d) = BitVec.ofNat 32 s0.val) (t : Fin 512) (ht : t.val = s0.val % 4096 / 8) : atHomeV idx (ix3 b t d) = 1#1 := by
  have h : atHomeV idx (ix3 b t d) = IntOp.cmpi .eq (BitVec.ofNat 32 t.val) (broadcastInDim S4x512x128 ![0, 1, 2] bcast_S4x1x128_S4x512x128_0_1_2 (broadcastInDim S4x1x128 ![0, 2] bcast_S4x128_S4x1x128_0_2 (homeV idx)) (ix3 b t d)) := rfl
  have h2 : homeV idx (ix2 b d) = IntOp.shrsi .host (IntOp.andi (idx (ix2 b d)) 4095#32) 3#32 := rfl
  rw [h, perBlock_apply, h2, hidx, home_word, cmpi_ofNat (by omega) (by omega), if_pos ht]

end

end Cert.Draw
-- ==== Proof.PreSpec.lean ====
module

public import proofs.«01_k».proof.Proof.PreRival
public import proofs.«01_k».proof.Proof.Unit

@[expose] public section

set_option maxRecDepth 16384

/-! # The precondition's two counts

The precondition, read for one draw and mode. -/

noncomputable section

namespace Cert.Draw

open Idealize.ShloMosaic Cert.Pre_draw_is_shortlisted Cert.Pre_draw_is_shortlisted.Facts

/-- A sum over the blocks. -/
theorem host_sum_blocks (x : FVec Ideal S4x512x128 .f32) (b : Fin 4) (d : Fin 128) :
    Host.reduceAdd x (constant S_ .f32 0x00000000#32) reducesTo_S4x512x128_S4x128_d1 h_S_ (ix2 b d) = (∑ t : Fin 512, (x (ix3 b t d) : EReal)) := by
  have h : S4x512x128.Reduces [1] S4x128 := by decide
  refine (Ideal.hostReduceAdd_single (a := 1) reducesTo_S4x512x128_S4x128_d1 h x _ (ix2 b d)).trans ?_
  have h0 : (constant S_ .f32 0x00000000#32 (Shape.Idx.first h_S_) : Ideal .f32) = (0 : EReal) := by
    show Ideal.ofBits .f32 0x00000000#32 = 0
    simp [Ideal.ofBits, Ideal.ieee]
  rw [h0]
  refine (zero_add _).trans (Finset.sum_congr rfl fun t _ => congrArg x (funext fun a => ?_))
  fin_cases a <;> rfl

/-- The pattern of two and a half. -/
theorem ofBits_two_half : (FloatOps.ofBits .f32 0x40200000#32 : Ideal .f32) = ((2.5 : ℝ) : EReal) := by
  show Ideal.ofBits .f32 0x40200000#32 = _
  simp [Ideal.ofBits, Ideal.ieee, -EReal.coe_mul]; norm_num

/-- A number below two and a half is at most two. -/
theorem count_le (n : ℕ) (h : FloatOps.cmpf (F := Ideal) (φ := .f32) .olt (((n : ℝ) : EReal)) ((2.5 : ℝ) : EReal) = 1#1) : n ≤ 2 := by
  by_contra hc
  have : ¬ (((n : ℝ) : EReal) < ((2.5 : ℝ) : EReal)) := by
    rw [EReal.coe_lt_coe_iff, not_lt]
    have : (3 : ℝ) ≤ (n : ℝ) := by exact_mod_cast (by omega : 3 ≤ n)
    linarith
  have e : FloatOps.cmpf (F := Ideal) (φ := .f32) .olt (((n : ℝ) : EReal)) ((2.5 : ℝ) : EReal) = BitVec.ofBool (decide ((((n : ℝ) : EReal)) < ((2.5 : ℝ) : EReal))) := rfl
  rw [e, decide_eq_false this] at h
  exact absurd h (by decide)

/-- The flags of the precondition. -/
theorem pre_flags (fin : IVec S_ 1) (re im : FVec Ideal S65536x128 .f32) (u : FVec Ideal S3x4x65536x128 .f32) (idx : IVec S4x128 32)
    (h : ∀ i, fn_part23 (F := Ideal) fin re im u idx i = 1#1) :
    (∃ j, fin j = 1#1) ∧ ∀ (b : Fin 4) (d : Fin 128),
      (∀ t : Fin 512, rivalV (raceV re im u) idx (ix3 b t d) = 1#1 → atHomeV idx (ix3 b t d) = 1#1 → False)
      ∧ (Finset.univ.filter fun t : Fin 512 => rivalV (raceV re im u) idx (ix3 b t d) = 1#1).card ≤ 2 := by
  rw [part23_eq] at h
  generalize raceV re im u = p at h
  refine ⟨⟨_, (and_one (and_one (h (ix2 0 0))).1).1⟩, fun b d => ⟨fun t h1 h2 => ?_, ?_⟩⟩
  · have h3 := not_one (and_one (and_one (h (ix2 b d))).1).2
    rw [Host.reduce_eq_fold] at h3
    have h4 := fold_or _ _ _ h3 (ix3 b t d) (Finset.mem_filter.mpr ⟨Finset.mem_univ _, funext fun a => by fin_cases a <;> rfl⟩)
    have h5 : IntOp.andi (rivalV p idx (ix3 b t d)) (atHomeV idx (ix3 b t d)) = 0#1 := h4
    rw [h1, h2] at h5
    exact absurd h5 (by decide)
  · have h3 : FloatOps.cmpf .olt (Host.reduceAdd (uitofp (F := Ideal) .f32 (rivalV p idx)) (constant (F := Ideal) S_ .f32 0x00000000#32) reducesTo_S4x512x128_S4x128_d1 h_S_ (ix2 b d)) (FloatOps.ofBits .f32 0x40200000#32 : Ideal .f32) = 1#1 :=
      (and_one (h (ix2 b d))).2
    rw [host_sum_blocks, ofBits_two_half] at h3
    have h4 : (∑ t : Fin 512, (uitofp (F := Ideal) .f32 (rivalV p idx) (ix3 b t d) : EReal)) = (((Finset.univ.filter fun t : Fin 512 => rivalV p idx (ix3 b t d) = 1#1).card : ℝ) : EReal) := by
      have h5 : ∀ t : Fin 512, (uitofp (F := Ideal) .f32 (rivalV p idx) (ix3 b t d) : EReal) = (((if rivalV p idx (ix3 b t d) = 1#1 then 1 else 0 : ℕ) : ℝ) : EReal) := fun t => by
        show ((((rivalV p idx (ix3 b t d)).toNat : ℕ) : ℝ) : EReal) = _
        generalize rivalV p idx (ix3 b t d) = a
        congr 2
        revert a
        decide
      rw [Finset.sum_congr rfl fun t _ => h5 t, ← coe_sum, ← Nat.cast_sum, Finset.sum_boole, Nat.cast_id]
    rw [h4] at h3
    generalize (Finset.univ.filter fun t : Fin 512 => rivalV p idx (ix3 b t d) = 1#1).card = n at h3 ⊢
    exact count_le n h3

/-- No other state of the drawn state's block reaches its power, and at most two blocks hold one that does. -/
theorem pre_counts (fin : IVec S_ 1) (re im : FVec Ideal S65536x128 .f32) (u : FVec Ideal S3x4x65536x128 .f32) (idx : IVec S4x128 32)
    (h : ∀ i, fn_part23 (F := Ideal) fin re im u idx i = 1#1) (b : Fin 4) (d : Fin 128) (s0 : Fin 65536) (hidx : idx (ix2 b d) = BitVec.ofNat 32 s0.val)
    (hp : (((-1 : ℝ) : EReal)) ≤ raceV re im u (ix3 b s0 d)) :
    (∀ (q : Fin 16) (t : Fin 512) (k : Fin 8), t.val = s0.val % 4096 / 8 → stateOf q t k ≠ s0 → @LT.lt EReal _ (raceV re im u (ix3 b (stateOf q t k) d)) (raceV re im u (ix3 b s0 d)))
    ∧ ∀ T : Finset (Fin 512), (∀ t ∈ T, ∃ (q : Fin 16) (k : Fin 8), stateOf q t k ≠ s0 ∧ @LE.le EReal _ (raceV re im u (ix3 b s0 d)) (raceV re im u (ix3 b (stateOf q t k) d))) → T.card ≤ 2 := by
  obtain ⟨h1, h2⟩ := (pre_flags fin re im u idx h).2 b d
  refine ⟨fun q t k ht hne => ?_, fun T hT => (Finset.card_le_card fun t ht => ?_).trans h2⟩
  · by_contra hc
    exact h1 t (rival_of _ idx b d s0 hidx hp q t k hne (not_lt.mp hc)) (atHome_apply idx b d s0 hidx t ht)
  · obtain ⟨q, k, hne, hle⟩ := hT t ht
    exact Finset.mem_filter.mpr ⟨Finset.mem_univ _, rival_of _ idx b d s0 hidx hp q t k hne hle⟩

end Cert.Draw
-- ==== Proof.Number.lean ====
module

public import proofs.«01_k».proof.Proof.PreSpec

@[expose] public section

set_option maxRecDepth 16384

/-! # The numbers of the draws

Every draw has a number, from its block of lines, its state and its lane. The kernel and the reference count them alike. -/

noncomputable section

namespace Cert.Draw

open Idealize.ShloMosaic Cert.KernelIdeal Cert.KernelIdeal.Gen

/-- The kernel's count within a block at an entry. -/
theorem lo_apply (q : Fin 16) (k : Fin 8) (d : Fin 128) :
    k0_pay7 (ix3 q k d) = BitVec.ofNat 32 ((q.val * 4096 + k.val) * 128 + d.val) := by
  refine Eq.trans (b := IntOp.addi (IntOp.muli (IntOp.addi (IntOp.muli (BitVec.ofNat 32 q.val) 4096#32) (BitVec.ofNat 32 k.val)) 128#32) (BitVec.ofNat 32 d.val)) ?_ ?_
  · have h0 : iota .tc S16x8x128 32 [0] iota_S16x8x128_d0_w32 (ix3 q k d) = BitVec.ofNat 32 q.val := by simp [iota, ix3]
    have h1 : iota .tc S16x8x128 32 [1] iota_S16x8x128_d1_w32 (ix3 q k d) = BitVec.ofNat 32 k.val := by simp [iota, ix3]
    have h2 : iota .tc S16x8x128 32 [2] iota_S16x8x128_d2_w32 (ix3 q k d) = BitVec.ofNat 32 d.val := by simp [iota, ix3]
    unfold k0_pay7
    rw [← h0, ← h1, ← h2]
    exact congrFun (shapeCast_self _ _) _
  · simp [IntOp.addi, IntOp.muli, ← BitVec.ofNat_mul, ← BitVec.ofNat_add]

/-- The number the reference gives the draw of a state. -/
def drawNumber (b : Fin 4) (s : Fin 65536) (d : Fin 128) : W := BitVec.ofNat 32 (b.val * 8388608 + s.val * 128 + d.val)

/-- The reference numbers element `(b, s, d)` of each of its three draws by `drawNumber b s d`. -/
theorem numberR_apply (k : Fin 3) (b : Fin 4) (s : Fin 65536) (d : Fin 128) : numberR (ix4 k b s d) = drawNumber b s d := by
  refine Eq.trans (b := IntOp.addi (IntOp.addi (IntOp.muli (BitVec.ofNat 32 b.val) 8388608#32) (IntOp.muli (BitVec.ofNat 32 s.val) 128#32)) (BitVec.ofNat 32 d.val)) ?_ ?_
  · sl_kernel_rfl
  · simp [drawNumber, IntOp.addi, IntOp.muli, ← BitVec.ofNat_mul, ← BitVec.ofNat_add]

/-- The kernel's number of the entry of block `t`. -/
theorem number_block (b : Fin 4) (t : Fin 512) (q : Fin 16) (k : Fin 8) (d : Fin 128) :
    IntOp.addi (k0_pay7 (ix3 q k d)) (Scalar.addi (Scalar.muli (BitVec.ofNat 32 t.val) 1024#32) (offs b)) = drawNumber b (stateOf q t k) d := by
  have ho : offs b = BitVec.ofNat 32 (b.val * 8388608) := by fin_cases b <;> rfl
  rw [lo_apply, ho]
  simp only [drawNumber, stateOf, IntOp.addi, Scalar.addi, Scalar.muli, IntOp.muli, ← BitVec.ofNat_mul, ← BitVec.ofNat_add]
  congr 1
  ring

/-- The kernel's state word of the entry of block `t`. -/
theorem state_block {F : FTy → Type} [FloatOps F] (i : grid0.Coords) (t : Fin 512) (hi : (i 0).val = t.val) (q : Fin 16) (k : Fin 8) (d : Fin 128) :
    k0_pay14 (F := F) i k0_pay7 (ix3 q k d) = BitVec.ofNat 32 (stateOf q t k).val := by
  refine Eq.trans (b := IntOp.shrui .vector (IntOp.addi (k0_pay7 (ix3 q k d)) (Scalar.muli (BitVec.ofNat 32 (i 0).val) 1024#32)) 7#32) ?_ ?_
  · sl_kernel_rfl
  · rw [lo_apply, hi]
    have hq := q.isLt
    have hk := k.isLt
    have hd := d.isLt
    have ht := t.isLt
    unfold IntOp.shrui
    rw [if_pos (by decide)]
    simp only [IntOp.addi, Scalar.muli, IntOp.muli, ← BitVec.ofNat_mul, ← BitVec.ofNat_add, stateOf]
    apply BitVec.eq_of_toNat_eq
    rw [BitVec.ushiftRight_eq', BitVec.toNat_ushiftRight, Nat.shiftRight_eq_div_pow, BitVec.toNat_ofNat, BitVec.toNat_ofNat, BitVec.toNat_ofNat]
    norm_num
    omega

/-- The state a shortlisted word names, counted again by the final call. -/
theorem number_again (s : IVec S3x4x128 32) (r : Fin 65536) (k : Fin 3) (b : Fin 4) (d : Fin 128) (h : s (ix3 k b d) = BitVec.ofNat 32 r.val) :
    numberV s (ix3 k b d) = drawNumber b r d := by
  rw [numberV_apply, h]
  simp only [drawNumber, IntOp.addi, IntOp.muli, ← BitVec.ofNat_mul, ← BitVec.ofNat_add]
  congr 1
  ring

end Cert.Draw
-- ==== Proof.Fields.lean ====
module

public import proofs.«01_k».proof.Proof.ConstsRead
public import proofs.«01_k».proof.Proof.Number

@[expose] public section

set_option maxRecDepth 16384

/-! # The kernel's fields are the reference's

Where the inputs are real, the kernel's mixing of a block and the reference's mixing of all states give the same fields. -/

noncomputable section

namespace Cert.Draw

open Idealize.ShloMosaic Cert.KernelIdeal.Gen

/-- The kernel's second mixing of a block. -/
theorem pay10_apply (x : FVec Ideal Cert.KernelIdeal.S16x8x128 .f32) (w : FVec Ideal Cert.KernelIdeal.S16x16 .f32) (q : Fin 16) (k : Fin 8) (d : Fin 128) :
    k0_pay10 (F := Ideal) x w (ix3 q k d) = ∑ j : Fin 16, (w (ix2 q j) : EReal) * (x (ix3 j k d) : EReal) := pay9_apply x w q k d

/-- Over the reals, mixing and then turning gives the real part of turning and then mixing. -/
theorem mix_re (a e κ C S : ℝ) (w x y : Fin 16 → ℝ) (q : Fin 16) :
    κ * C * (∑ j, (a * w j + e * (if q = j then 1 else 0)) * x j) - κ * S * (∑ j, (a * w j + e * (if q = j then 1 else 0)) * y j)
      = (a * (∑ j, w j * (x j * C - y j * S)) + e * (x q * C - y q * S)) * κ := by
  have h (z : Fin 16 → ℝ) : (∑ j, (a * w j + e * (if q = j then 1 else 0)) * z j) = a * (∑ j, w j * z j) + e * z q := by
    simp only [add_mul, Finset.sum_add_distrib, mul_assoc, Finset.mul_sum, mul_ite, ite_mul, mul_one, mul_zero, zero_mul, one_mul, Finset.sum_ite_eq, Finset.mem_univ, if_true]
  have h2 : (∑ j, w j * (x j * C - y j * S)) = C * (∑ j, w j * x j) - S * (∑ j, w j * y j) := by
    rw [Finset.mul_sum, Finset.mul_sum, ← Finset.sum_sub_distrib]
    exact Finset.sum_congr rfl fun j _ => by ring
  rw [h, h, h2]
  ring

/-- Over the reals, mixing and then turning gives the imaginary part of turning and then mixing. -/
theorem mix_im (a e κ C S : ℝ) (w x y : Fin 16 → ℝ) (q : Fin 16) :
    κ * S * (∑ j, (a * w j + e * (if q = j then 1 else 0)) * x j) + κ * C * (∑ j, (a * w j + e * (if q = j then 1 else 0)) * y j)
      = (a * (∑ j, w j * (x j * S + y j * C)) + e * (x q * S + y q * C)) * κ := by
  have h := mix_re a e κ S (-C) w x y q
  simp only [mul_neg, neg_mul, sub_neg_eq_add] at h
  exact h

section
variable (V0 : Valuation Cert.ReferenceIdeal.τ Cert.ReferenceIdeal.sig (Elt Ideal))

/-- The reference's first array of amplitudes. -/
abbrev arr1 : FVec Ideal Cert.ReferenceIdeal.S65536x128 .f32 := V0 (Proc.devRef .tc Cert.ReferenceIdeal.main_arg1)
/-- The reference's second array of amplitudes. -/
abbrev arr2 : FVec Ideal Cert.ReferenceIdeal.S65536x128 .f32 := V0 (Proc.devRef .tc Cert.ReferenceIdeal.main_arg2)
/-- The reference's angles. -/
abbrev arr3 : FVec Ideal Cert.KernelIdeal.S16x3 .f32 := V0 (Proc.devRef .tc Cert.ReferenceIdeal.main_arg3)
/-- The reference's mixing logits. -/
abbrev arr4 : FVec Ideal Cert.KernelIdeal.S16x16 .f32 := V0 (Proc.devRef .tc Cert.ReferenceIdeal.main_arg4)

/-- All inputs that move the race are real. -/
structure RealInputs : Prop where
  h1 : ∀ i, ∃ v : ℝ, (arr1 V0 i : EReal) = v
  h2 : ∀ i, ∃ v : ℝ, (arr2 V0 i : EReal) = v
  h3 : ∀ i, ∃ v : ℝ, (arr3 V0 i : EReal) = v
  h4 : ∀ i, ∃ v : ℝ, (arr4 V0 i : EReal) = v

/-- The first part of the precondition: the inputs are real. -/
theorem finite_inputs (j) (h : finV V0 j = 1#1) : RealInputs V0 := by
  unfold finV at h
  have a := and_one h
  have b := and_one a.1
  have c := and_one b.1
  exact ⟨finite_of _ _ _ j c.1, finite_of _ _ _ j c.2, finite_of _ _ _ j b.2, finite_of _ _ _ j a.2⟩

/-- The kernel's fields at an entry of a block, and the reference's at the state; both are real. -/
theorem fields (hf : RealInputs V0) (x0 x1 : FVec Ideal Cert.KernelIdeal.S16x8x128 .f32) (r : Fin 4096) (k : Fin 8) (d : Fin 128)
    (e0 : ∀ q : Fin 16, x0 (ix3 q k d) = arr1 V0 (ix2 (stateAt q r) d)) (e1 : ∀ q : Fin 16, x1 (ix3 q k d) = arr2 V0 (ix2 (stateAt q r) d)) (q : Fin 16) :
    ∃ vr vi : ℝ, (reV V0 (ix2 (stateAt q r) d) : EReal) = vr ∧ (imV V0 (ix2 (stateAt q r) d) : EReal) = vi
      ∧ (k0_pay11 (F := Ideal) x0 x1 (mixing (arr4 V0)) (consts (arr3 V0) (ix1 0)) (consts (arr3 V0) (ix1 1)) (ix3 q k d) : EReal) = vr
      ∧ (k0_pay12 (F := Ideal) x0 x1 (mixing (arr4 V0)) (consts (arr3 V0) (ix1 0)) (consts (arr3 V0) (ix1 1)) (ix3 q k d) : EReal) = vi := by
  obtain ⟨a, ha⟩ := real_main
  obtain ⟨e, he⟩ := real_rest
  obtain ⟨κ, hκ⟩ := real_coherence
  obtain ⟨C, hC⟩ := cos_real _ (angle_real _ hf.h3)
  obtain ⟨S, hS⟩ := sin_real _ (angle_real _ hf.h3)
  choose w hw using soft_real _ hf.h4
  choose x hx using hf.h1
  choose y hy using hf.h2
  have hm : ∀ j, (mixing (arr4 V0) (ix2 q j) : EReal) = ((a * w q j + e * (if q = j then 1 else 0) : ℝ) : EReal) := fun j => by
    rw [mixing_apply]
    show (Scalar.ofBits .f32 0x3F4CCCCD#32 : Ideal .f32) * (soft (arr4 V0) (ix2 q j) : EReal) + (Scalar.ofBits .f32 0x3E4CCCCD#32 : Ideal .f32) * (FloatOps.uitofp (F := Ideal) .f32 _ : EReal) = _
    rw [ha, he, hw, delta_word, ← EReal.coe_mul, ← EReal.coe_mul, ← EReal.coe_add]
  have h9 : (k0_pay9 (F := Ideal) x0 (mixing (arr4 V0)) (ix3 q k d) : EReal) = ((∑ j, (a * w q j + e * (if q = j then 1 else 0)) * x (ix2 (stateAt j r) d) : ℝ) : EReal) := by
    rw [pay9_apply, coe_sum]
    exact Finset.sum_congr rfl fun j _ => by rw [hm, e0, hx, ← EReal.coe_mul]
  have h10 : (k0_pay10 (F := Ideal) x1 (mixing (arr4 V0)) (ix3 q k d) : EReal) = ((∑ j, (a * w q j + e * (if q = j then 1 else 0)) * y (ix2 (stateAt j r) d) : ℝ) : EReal) := by
    rw [pay10_apply, coe_sum]
    exact Finset.sum_congr rfl fun j _ => by rw [hm, e1, hy, ← EReal.coe_mul]
  have c0 : (consts (arr3 V0) (ix1 0) : EReal) = ((κ * C : ℝ) : EReal) := by
    rw [consts_0]
    show (Scalar.ofBits .f32 0x3F7D73E9#32 : Ideal .f32) * (Host.cos (angle (arr3 V0)) nil : EReal) = _
    rw [hκ, hC, ← EReal.coe_mul]
  have c1 : (consts (arr3 V0) (ix1 1) : EReal) = ((κ * S : ℝ) : EReal) := by
    rw [consts_1]
    show (Scalar.ofBits .f32 0x3F7D73E9#32 : Ideal .f32) * (Host.sin (angle (arr3 V0)) nil : EReal) = _
    rw [hκ, hS, ← EReal.coe_mul]
  have h7 : ∀ i, (Cert.ReferenceIdeal.Value.res_main_v7 V0 i : EReal) = ((x i * C - y i * S : ℝ) : EReal) := fun i => by
    rw [v7_apply]
    show (arr1 V0 i : EReal) * (Host.cos (angle (arr3 V0)) nil : EReal) - (arr2 V0 i : EReal) * (Host.sin (angle (arr3 V0)) nil : EReal) = _
    rw [hC, hS, hx, hy, ← EReal.coe_mul, ← EReal.coe_mul, ← EReal.coe_sub]
  have h12 : ∀ i, (Cert.ReferenceIdeal.Value.res_main_v12 V0 i : EReal) = ((x i * S + y i * C : ℝ) : EReal) := fun i => by
    rw [v12_apply]
    show (arr1 V0 i : EReal) * (Host.sin (angle (arr3 V0)) nil : EReal) + (arr2 V0 i : EReal) * (Host.cos (angle (arr3 V0)) nil : EReal) = _
    rw [hC, hS, hx, hy, ← EReal.coe_mul, ← EReal.coe_mul, ← EReal.coe_add]
  have hsum : ∀ (u : FVec Ideal Cert.ReferenceIdeal.S65536x128 .f32) (z : Cert.ReferenceIdeal.S65536x128.Idx → ℝ) (_ : ∀ i, (u i : EReal) = z i),
      (mixOf (Cert.ReferenceIdeal.Value.res_main_v23 V0) u (ix2 (stateAt q r) d) : EReal)
        = (((a * (∑ j, w q j * z (ix2 (stateAt j r) d)) + e * z (ix2 (stateAt q r) d)) * κ : ℝ) : EReal) := fun u z hz => by
    rw [mixOf_apply, v23_eq, ha, he, hκ, hz, EReal.coe_mul, EReal.coe_add, EReal.coe_mul, EReal.coe_mul, coe_sum]
    congr 3
    exact Finset.sum_congr rfl fun j _ => by rw [hz]; exact (congrArg (· * _) (hw q j)).trans (EReal.coe_mul _ _).symm
  refine ⟨_, _, hsum _ _ h7, hsum _ _ h12, ?_, ?_⟩
  · show (consts (arr3 V0) (ix1 0) : EReal) * (k0_pay9 (F := Ideal) x0 (mixing (arr4 V0)) (ix3 q k d) : EReal)
      - (consts (arr3 V0) (ix1 1) : EReal) * (k0_pay10 (F := Ideal) x1 (mixing (arr4 V0)) (ix3 q k d) : EReal) = _
    rw [h9, h10, c0, c1, ← EReal.coe_mul, ← EReal.coe_mul, ← EReal.coe_sub, mix_re]
  · show (consts (arr3 V0) (ix1 1) : EReal) * (k0_pay9 (F := Ideal) x0 (mixing (arr4 V0)) (ix3 q k d) : EReal)
      + (consts (arr3 V0) (ix1 0) : EReal) * (k0_pay10 (F := Ideal) x1 (mixing (arr4 V0)) (ix3 q k d) : EReal) = _
    rw [h9, h10, c0, c1, ← EReal.coe_mul, ← EReal.coe_mul, ← EReal.coe_add, mix_im]

end

end Cert.Draw
-- ==== Proof.Entry.lean ====
module

public import proofs.«01_k».proof.Proof.Fields
public import proofs.«01_k».proof.Proof.Trail

@[expose] public section

set_option maxRecDepth 16384

/-! # What a block enters into the lists

A block's row names a state of the block whose power is the block's greatest, with that state's fields. -/

noncomputable section

namespace Cert.Draw

open Idealize.ShloMosaic Idealize.ShloMosaic.TcCoe Cert.KernelIdeal Cert.KernelIdeal.Gen Cert.KernelIdeal.Whole

/-- Four lines one under the other, read at an entry. -/
theorem stack_apply {F : FTy → Type} [FloatOps F] {e : EltTy} (f : Fin 4 → S1x128.Idx → Elt F e) (b : Fin 4) (d : Fin 128) : stack f (ix2 b d) = f b (ix2 0 d) := by
  have hf : f = fun b i => f b (ix2 0 (i 1)) := funext fun b => funext fun i => congrArg (f b) (funext fun a => by
    fin_cases a
    · exact Subsingleton.elim (α := Fin 1) _ _
    · rfl)
  have key : ∀ (g : Fin 4 → Fin 128 → Elt F e) (b : Fin 4), stack (F := F) (e := e) (fun b i => g b (i 1)) (ix2 b d) = g b d := by
    intro g b
    fin_cases b <;> sl_kernel_rfl
  rw [hf]
  exact key (fun b k => f b (ix2 0 k)) b

/-- A grid point's only coordinate is its number. -/
theorem coords_val : ∀ t : Fin cfg0.N, (grid0.coords t 0).val = t.val :=
  (by decide +kernel : ∀ t : Fin grid0.N, _)

section
variable (V0 : Valuation Cert.ReferenceIdeal.τ Cert.ReferenceIdeal.sig (Elt Ideal))

/-- A state's weight in the race. -/
def weightV (s : Fin 65536) (d : Fin 128) : EReal :=
  (reV V0 (ix2 s d) : EReal) * (reV V0 (ix2 s d) : EReal) + (imV V0 (ix2 s d) : EReal) * (imV V0 (ix2 s d) : EReal) + (Scalar.ofBits .f32 0x1E3CE508#32 : Ideal .f32)

/-- A state's power in the kernel's race. -/
def powV (b : Fin 4) (s : Fin 65536) (d : Fin 128) : EReal := rateOf (F := Ideal) (weightV V0 s d) (drawNumber b s d)

/-- The row of a state. -/
def rowV (b : Fin 4) (s : Fin 65536) (d : Fin 128) : Row Ideal :=
  (powV V0 b s d, BitVec.ofNat 32 s.val, reV V0 (ix2 s d), imV V0 (ix2 s d))

/-- The floor of the weights is a positive real. -/
theorem floor_real : ∃ v : ℝ, 0 < v ∧ (Scalar.ofBits .f32 0x1E3CE508#32 : Ideal .f32) = (v : EReal) := by
  have h : (0 : EReal) < Ideal.ofBits .f32 0x1E3CE508#32 ∧ Ideal.ofBits .f32 0x1E3CE508#32 ≠ ⊤ ∧ Ideal.ofBits .f32 0x1E3CE508#32 ≠ ⊥ := by
    simp [Ideal.ofBits, Ideal.ieee, -EReal.coe_mul]
  obtain ⟨v, hv⟩ := real_of _ h.2
  exact ⟨v, by have := h.1; rw [hv] at this; exact_mod_cast this, hv⟩

/-- A state's number from its site and row. -/
theorem stateAt_row (q : Fin 16) (p : Fin cfg0.N) (t : Fin 512) (hp : p.val = t.val) (k : Fin 8) : stateAt q (rowAt p k) = stateOf q t k :=
  Fin.ext (by show q.val * 4096 + (8 * p.val + k.val) = q.val * 4096 + t.val * 8 + k.val; omega)

/-- Every state's weight is a positive real. -/
theorem weight_real (hf : RealInputs V0) (s : Fin 65536) (d : Fin 128) : ∃ v : ℝ, 0 < v ∧ weightV V0 s d = v := by
  have hs : stateAt ⟨s.val / 4096, by omega⟩ ⟨s.val % 4096, by omega⟩ = s := Fin.ext (by show s.val / 4096 * 4096 + s.val % 4096 = s.val; omega)
  obtain ⟨vr, vi, h1, h2, -, -⟩ := fields V0 hf (fun i => arr1 V0 (ix2 (stateAt (i 0) ⟨s.val % 4096, by omega⟩) (i 2)))
    (fun i => arr2 V0 (ix2 (stateAt (i 0) ⟨s.val % 4096, by omega⟩) (i 2))) ⟨s.val % 4096, by omega⟩ 0 d (fun _ => rfl) (fun _ => rfl) ⟨s.val / 4096, by omega⟩
  rw [hs] at h1 h2
  obtain ⟨v, hv, he⟩ := floor_real
  refine ⟨vr * vr + vi * vi + v, by have := mul_self_nonneg vr; have := mul_self_nonneg vi; linarith, ?_⟩
  unfold weightV
  rw [h1, h2, he]
  push_cast
  rfl

variable (V : (c : Dev nD) → (b : Ref sig .tc) → Buf (Elt Ideal) ((c : Thread nD Cert.KernelIdeal.τ).loc b)) (c : Dev nD)

/-- The kernel's first call reads the reference's arrays. -/
structure SameArrays : Prop where
  h31 : V c main_v31 = mixing (arr4 V0)
  h9 : V c main_v9 = consts (arr3 V0)
  h32 : V c main_v32 = shapeCast S16x4096x128 (arr1 V0) shapeCasts_S65536x128_S16x4096x128
  h33 : V c main_v33 = shapeCast S16x4096x128 (arr2 V0) shapeCasts_S65536x128_S16x4096x128

/-- A block enters the row of its greatest state. -/
theorem blk_entry (hf : RealInputs V0) (hV : SameArrays V0 V c) (p : Fin cfg0.N) (t : Fin 512) (hpt : p.val = t.val) (b : Fin 4) (d : Fin 128) :
    ∃ (q : Fin 16) (k : Fin 8), blk V c p b d = rowV V0 b (stateOf q t k) d
      ∧ ∀ (q' : Fin 16) (k' : Fin 8), powV V0 b (stateOf q' t k') d ≤ powV V0 b (stateOf q t k) d := by
  have e0 : ∀ (q : Fin 16) (k : Fin 8), (iblk0 V c 0 p : FVec Ideal S16x8x128 .f32) (ix3 q k d) = arr1 V0 (ix2 (stateAt q (rowAt p k)) d) := fun q k => by
    rw [block0, hV.h32]; exact cast_sites _ _ _ _
  have e1 : ∀ (q : Fin 16) (k : Fin 8), (iblk0 V c 1 p : FVec Ideal S16x8x128 .f32) (ix3 q k d) = arr2 V0 (ix2 (stateAt q (rowAt p k)) d) := fun q k => by
    rw [block1, hV.h33]; exact cast_sites _ _ _ _
  have hb : blk V c p b d = blockRow (F := Ideal) (grid0.coords p) (iblk0 V c 0 p) (iblk0 V c 1 p) (mixing (arr4 V0)) (consts (arr3 V0) (ix1 0)) (consts (arr3 V0) (ix1 1)) k0_pay7 (ix2 b d) := by
    unfold blk
    rw [block2, block3, hV.h31, hV.h9]
  rw [hb]
  have hi := (coords_val p).trans hpt
  generalize grid0.coords p = i at hi ⊢
  generalize (iblk0 V c 0 p : FVec Ideal S16x8x128 .f32) = x0 at e0 ⊢
  generalize (iblk0 V c 1 p : FVec Ideal S16x8x128 .f32) = x1 at e1 ⊢
  have hx : ∀ (q : Fin 16) (k : Fin 8), k0_pay11 (F := Ideal) x0 x1 (mixing (arr4 V0)) (consts (arr3 V0) (ix1 0)) (consts (arr3 V0) (ix1 1)) (ix3 q k d) = reV V0 (ix2 (stateOf q t k) d)
      ∧ k0_pay12 (F := Ideal) x0 x1 (mixing (arr4 V0)) (consts (arr3 V0) (ix1 0)) (consts (arr3 V0) (ix1 1)) (ix3 q k d) = imV V0 (ix2 (stateOf q t k) d) := fun q k => by
    obtain ⟨vr, vi, h1, h2, h3, h4⟩ := fields V0 hf x0 x1 (rowAt p k) k d (fun q => e0 q k) (fun q => e1 q k) q
    rw [stateAt_row q p t hpt] at h1 h2
    exact ⟨h3.trans h1.symm, h4.trans h2.symm⟩
  unfold blockRow newRow
  rw [stack_apply, stack_apply, stack_apply, stack_apply]
  have hp : ∀ (q : Fin 16) (k : Fin 8), k0_pay13 (F := Ideal) x0 x1 (mixing (arr4 V0)) (consts (arr3 V0) (ix1 0)) (consts (arr3 V0) (ix1 1)) (ix3 q k d) = weightV V0 (stateOf q t k) d := fun q k => by
    have h1 := (hx q k).1
    have h2 := (hx q k).2
    unfold weightV
    rw [← h1, ← h2]
    rfl
  have hr : ∀ (q : Fin 16) (k : Fin 8), rate (F := Ideal) i b (k0_pay13 (F := Ideal) x0 x1 (mixing (arr4 V0)) (consts (arr3 V0) (ix1 0)) (consts (arr3 V0) (ix1 1))) k0_pay7 (ix3 q k d)
      = powV V0 b (stateOf q t k) d := fun q k => by
    unfold rate powV
    rw [hp, hi]
    exact congrArg (rateOf (F := Ideal) _) (number_block b t q k d)
  have hs : ∀ (q : Fin 16) (k : Fin 8), k0_pay14 (F := Ideal) i k0_pay7 (ix3 q k d) = BitVec.ofNat 32 (stateOf q t k).val := fun q k => state_block i t hi q k d
  obtain ⟨q, k, w1, w2, w3, w4⟩ := winner (rate (F := Ideal) i b (k0_pay13 (F := Ideal) x0 x1 (mixing (arr4 V0)) (consts (arr3 V0) (ix1 0)) (consts (arr3 V0) (ix1 1))) k0_pay7) (k0_pay14 (F := Ideal) i k0_pay7) d
    (fun q k q' k' h => by
      rw [hs, hs] at h
      have h5 := word_inj (lt_trans (stateOf q t k).isLt (by norm_num)) (lt_trans (stateOf q' t k').isLt (by norm_num)) h
      have h6 : q.val * 4096 + t.val * 8 + k.val = q'.val * 4096 + t.val * 8 + k'.val := h5
      have := t.isLt; have := k.isLt; have := k'.isLt
      exact ⟨Fin.ext (by omega), Fin.ext (by omega)⟩)
    (fun q k => by
      rw [hs, toInt_small _ (lt_trans (stateOf q t k).isLt (by norm_num))]
      have := (stateOf q t k).isLt
      omega)
  refine ⟨q, k, ?_, fun q' k' => ?_⟩
  · rw [w1, w2, w4, w4, hr, hs, (hx q k).1, (hx q k).2]
    rfl
  · have := w3 q' k'
    rw [hr, hr] at this
    exact this

end

end Cert.Draw
-- ==== Proof.Race.lean ====
module

public import proofs.«01_k».proof.Proof.Entry

@[expose] public section

set_option maxRecDepth 16384

/-! # The two races

The kernel's powers and those of the precondition are in a fixed ratio, so they order the states alike. -/

noncomputable section

namespace Cert.Draw

open Idealize.ShloMosaic Cert.Pre_draw_is_shortlisted Cert.Pre_draw_is_shortlisted.Facts

/-- The precondition's powers at a draw. -/
theorem race_read {F : FTy → Type} [FloatOps F] (re im : FVec F S65536x128 .f32) (u : FVec F S3x4x65536x128 .f32) (b : Fin 4) (s : Fin 65536) (d : Fin 128) :
    raceV re im u (ix3 b s d) = FloatOps.hostDivf
      (FloatOps.addf (FloatOps.addf (FloatOps.mulf (re (ix2 s d)) (re (ix2 s d))) (FloatOps.mulf (im (ix2 s d)) (im (ix2 s d)))) (Scalar.ofBits .f32 0x1E3CE508#32))
      (FloatOps.hostNegf (FloatOps.hostUnary .log (u (ix4 2 b s d)))) := by
  have h : ∀ (x : FVec F S65536x128 .f32) (v : FVec F S4x65536x128 .f32), Host.divf (broadcastInDim S4x65536x128 ![0, 1, 2] bcast_S1x65536x128_S4x65536x128_0_1_2 (broadcastInDim S1x65536x128 ![1, 2] bcast_S65536x128_S1x65536x128_1_2 x))
      (Host.negf (Host.log v)) (ix3 b s d) = FloatOps.hostDivf (perDraw x (ix3 b s d)) (FloatOps.hostNegf (FloatOps.hostUnary .log (v (ix3 b s d)))) := fun _ _ => rfl
  have h2 : shapeCast S4x65536x128 (extractStridedSlice S1x4x65536x128 ![2, 0, 0, 0] u slices_S3x4x65536x128_S1x4x65536x128_2_0_0_0) shapeCasts_S1x4x65536x128_S4x65536x128 (ix3 b s d) = u (ix4 2 b s d) := by
    refine (drop_unit _ b s d).trans ?_
    show u _ = u _
    congr 1
    funext a
    fin_cases a <;> exact Fin.ext (by simp [ix4])
  unfold raceV
  rw [h, perDraw_apply, h2]
  rfl

section
variable (V0 : Valuation Cert.ReferenceIdeal.τ Cert.ReferenceIdeal.sig (Elt Ideal))

/-- A state's power in the precondition's race. -/
def purV (b : Fin 4) (s : Fin 65536) (d : Fin 128) : EReal := raceV (F := Ideal) (reV V0) (imV V0) (Cert.ReferenceIdeal.Value.res_main_v223 V0) (ix3 b s d)

/-- A draw's two powers: real, not negative, in the ratio of the logarithm of two. -/
theorem race_facts (hf : RealInputs V0) (b : Fin 4) (s : Fin 65536) (d : Fin 128) :
    ∃ p : ℝ, 0 ≤ p ∧ purV V0 b s d = p ∧ powV V0 b s d = ((p * Real.log 2 : ℝ) : EReal) := by
  obtain ⟨w, hw, he⟩ := weight_real V0 hf s d
  obtain ⟨p, h0, h1, h2⟩ := race_real w hw (drawNumber b s d)
  refine ⟨p, h0, ?_, ?_⟩
  · rw [← h1, ← he]
    unfold purV
    rw [race_read, unit2, numberR_apply]
    rfl
  · rw [← h2, ← he]
    rfl

/-- The two races order the states alike. -/
theorem race_order (hf : RealInputs V0) (b : Fin 4) (s s' : Fin 65536) (d : Fin 128) : powV V0 b s d ≤ powV V0 b s' d ↔ purV V0 b s d ≤ purV V0 b s' d := by
  obtain ⟨p, -, h1, h2⟩ := race_facts V0 hf b s d
  obtain ⟨p', -, h3, h4⟩ := race_facts V0 hf b s' d
  have hl : 0 < Real.log 2 := Real.log_pos (by norm_num)
  rw [h1, h2, h3, h4, EReal.coe_le_coe_iff, EReal.coe_le_coe_iff]
  exact mul_le_mul_iff_left₀ hl

end

end Cert.Draw
-- ==== Proof.Shortlist.lean ====
/- The order in which the kernel keeps its shortlist of three, and what the shortlist holds after all blocks: pure
   combinatorics, with no program in it. -/
module

public import Mathlib.Data.EReal.Basic
public import Mathlib.Data.Finset.Card

@[expose] public section

namespace Cert.Shortlist

/-- An entry of the shortlist: its rate, its state number, and the state's two parts. -/
abbrev Entry := EReal × BitVec 32 × EReal × EReal

/-- The kernel's order: the greater rate first, then the lesser state number. -/
def better (a b : Entry) : Prop := b.1 < a.1 ∨ (a.1 = b.1 ∧ a.2.1.slt b.2.1 = true)

/-- Which of two entries is better is decided classically. -/
noncomputable instance (a b : Entry) : Decidable (better a b) := Classical.propDecidable _

/-- The order is a weak order: what is not worse than its better is better than the third. -/
theorem better_or (a b c : Entry) (h : better a c) : better a b ∨ better b c := by
  unfold better at *
  rcases lt_trichotomy a.1 b.1 with h1 | h1 | h1
  · right; left
    rcases h with h | h
    · exact h.trans h1
    · rw [← h.1]; exact h1
  · rcases h with h | h
    · right; left; rw [← h1]; exact h
    · by_cases hs : a.2.1.slt b.2.1 = true
      · exact .inl (.inr ⟨h1, hs⟩)
      · refine .inr (.inr ⟨h1 ▸ h.1, ?_⟩)
        have h2 := h.2
        rw [BitVec.slt_iff_toInt_lt] at *
        omega
  · exact .inl (.inl h1)

/-- No two entries are each better than the other. -/
theorem better_asymm (a b : Entry) (h : better a b) : ¬ better b a := by
  unfold better at *
  rcases h with h | ⟨h1, h2⟩ <;> rintro (g | ⟨g1, g2⟩)
  · exact lt_asymm h g
  · exact absurd g1 h.ne
  · exact absurd h1.symm (ne_of_gt g)
  · rw [BitVec.slt_iff_toInt_lt] at *; omega

/-- One comparison of the kernel's insertion: what the slot keeps. -/
noncomputable def keep (n o : Entry) : Entry := if better n o then n else o

/-- One comparison of the kernel's insertion: what is carried on to the next slot. -/
noncomputable def pass (n o : Entry) : Entry := if better n o then o else n

/-- What is passed on is not better than what is kept. -/
theorem pass_le_keep (n o : Entry) : ¬ better (pass n o) (keep n o) := by
  unfold pass keep
  split
  · exact better_asymm _ _ ‹_›
  · assumption

/-- One of the two entries is kept and the other passed on. -/
theorem pass_cases (n o : Entry) : (keep n o = n ∧ pass n o = o) ∨ (keep n o = o ∧ pass n o = n) := by
  unfold pass keep; split <;> simp

/-- What is passed on is not better than the new entry. -/
theorem pass_le (n o : Entry) : ¬ better (pass n o) n := by
  unfold pass
  split
  · exact better_asymm _ _ ‹_›
  · intro h; exact better_asymm _ _ h h

/-- "Not better than" is transitive. -/
theorem not_better_trans (a b c : Entry) (h : ¬ better a b) (g : ¬ better b c) : ¬ better a c := fun k =>
  (better_or a b c k).elim h g

/-- The insertion into three slots keeps three of the four entries. -/
theorem insert_eq (n a b c : Entry) :
    pass (pass (pass n a) b) c ::ₘ ({keep n a, keep (pass n a) b, keep (pass (pass n a) b) c} : Multiset Entry)
      = n ::ₘ {a, b, c} := by
  have swap : ∀ (x y : Entry) (m : Multiset Entry), pass x y ::ₘ keep x y ::ₘ m = x ::ₘ y ::ₘ m := fun x y m => by
    rcases pass_cases x y with ⟨h1, h2⟩ | ⟨h1, h2⟩ <;> rw [h1, h2]
    exact Multiset.cons_swap ..
  have three : ∀ x y z : Entry, ({x, y, z} : Multiset Entry) = x ::ₘ y ::ₘ z ::ₘ 0 := fun _ _ _ => rfl
  rw [three, three]
  generalize hp : pass n a = p
  generalize hq : pass p b = q
  rw [Multiset.cons_swap (pass q c), Multiset.cons_swap (pass q c), swap q c, Multiset.cons_swap (keep p b) q, ← hq,
    swap p b, Multiset.cons_swap (keep n a), ← hp, swap n a]

/-- What the insertion drops is better than nothing it keeps. -/
theorem drop_le (n a b c x : Entry)
    (hx : x ∈ ({keep n a, keep (pass n a) b, keep (pass (pass n a) b) c} : Multiset Entry)) :
    ¬ better (pass (pass (pass n a) b) c) x := by
  simp only [Multiset.insert_eq_cons, Multiset.mem_cons, Multiset.mem_singleton] at hx
  rcases hx with rfl | rfl | rfl
  · exact not_better_trans _ _ _ (pass_le _ _) (not_better_trans _ _ _ (pass_le _ _) (pass_le_keep _ _))
  · exact not_better_trans _ _ _ (pass_le _ _) (pass_le_keep _ _)
  · exact pass_le_keep _ _

/-- The list after `n` blocks: the entries of a set of blocks, and the initial entry for what is missing of three; and
    a block that at most two others match is in that set from its own turn on. -/
theorem kept (σ : Entry) (e : ℕ → Entry) (L : ℕ → Multiset Entry) (out : ℕ → Entry) (T t0 : ℕ)
    (h0 : L 0 = Multiset.replicate 3 σ)
    (hstep : ∀ n < T, out n ::ₘ L (n + 1) = e n ::ₘ L n)
    (hmin : ∀ n < T, ∀ x ∈ L (n + 1), ¬ better (out n) x)
    (hσ : ∀ n < T, better (e n) σ)
    (hr : ∀ s : Finset ℕ, t0 ∉ s → (∀ i ∈ s, i < T ∧ ¬ better (e t0) (e i)) → s.card ≤ 2) :
    ∀ n ≤ T, ∃ s : Finset ℕ, (∀ i ∈ s, i < n) ∧ s.card = min 3 n ∧ L n = Multiset.replicate (3 - n) σ + s.val.map e
      ∧ (t0 < n → t0 ∈ s) := by
  intro n
  induction n with
  | zero => intro _; exact ⟨∅, by simp, by simp, by simp [h0], by simp⟩
  | succ n ih =>
    intro hn
    obtain ⟨s, hs, hc, hL, ht⟩ := ih (by omega)
    have hst := hstep n (by omega)
    have hns : n ∉ s := fun h => absurd (hs n h) (by omega)
    rw [hL, ← Multiset.add_cons, ← Multiset.map_cons e, ← Finset.insert_val_of_notMem hns] at hst
    have hmem : out n ∈ Multiset.replicate (3 - n) σ + (insert n s).val.map e := hst ▸ Multiset.mem_cons_self ..
    have hlt : ∀ i ∈ insert n s, i < n + 1 := fun i hi => by
      rcases Finset.mem_insert.mp hi with rfl | hi
      · omega
      · exact (hs i hi).trans (by omega)
    by_cases h3 : n < 3
    · have hout : out n = σ := by
        by_contra hne
        rcases Multiset.mem_add.mp hmem with hm | hm
        · exact hne (Multiset.eq_of_mem_replicate hm)
        · obtain ⟨i, hi, hie⟩ := Multiset.mem_map.mp hm
          have hin : σ ∈ out n ::ₘ L (n + 1) := by
            rw [hst]; exact Multiset.mem_add.mpr (.inl (Multiset.mem_replicate.mpr ⟨by omega, rfl⟩))
          have : σ ∈ L (n + 1) := (Multiset.mem_cons.mp hin).resolve_left fun h => hne h.symm
          exact hmin n (by omega) σ this (hie ▸ hσ i ((hlt i hi).trans_le hn))
      refine ⟨insert n s, hlt, by rw [Finset.card_insert_of_notMem hns, hc]; omega, ?_, fun h => ?_⟩
      · rw [hout, show 3 - n = (3 - (n + 1)) + 1 by omega, Multiset.replicate_succ, Multiset.cons_add] at hst
        exact (Multiset.cons_inj_right _).mp hst
      · rcases Nat.lt_succ_iff_lt_or_eq.mp h with h | rfl
        · exact Finset.mem_insert_of_mem (ht h)
        · exact Finset.mem_insert_self ..
    · rw [show 3 - n = 0 by omega, Multiset.replicate_zero, Multiset.zero_add] at hst hmem
      obtain ⟨j, hj, hje⟩ := Multiset.mem_map.mp hmem
      have hcard : ((insert n s).erase j).card = 3 := by
        rw [Finset.card_erase_of_mem hj, Finset.card_insert_of_notMem hns, hc]; omega
      have hL' : L (n + 1) = ((insert n s).erase j).val.map e := by
        rw [← Multiset.cons_inj_right (out n), hst, ← hje, ← Multiset.map_cons, Finset.erase_val,
          Multiset.cons_erase hj]
      refine ⟨(insert n s).erase j, fun i hi => hlt i (Finset.mem_of_mem_erase hi), by rw [hcard]; omega, ?_, fun h => ?_⟩
      · rw [hL', show 3 - (n + 1) = 0 by omega, Multiset.replicate_zero, Multiset.zero_add]
      · refine Finset.mem_erase.mpr ⟨fun hjt => ?_, ?_⟩
        · have := hr ((insert n s).erase j) (hjt ▸ Finset.notMem_erase _ _) fun i hi =>
            ⟨(hlt i (Finset.mem_of_mem_erase hi)).trans_le hn, by
              have := hmin n (by omega) (e i) (hL' ▸ Multiset.mem_map_of_mem e hi)
              rwa [← hje, ← hjt] at this⟩
          omega
        · rcases Nat.lt_succ_iff_lt_or_eq.mp h with h | rfl
          · exact Finset.mem_insert_of_mem (ht h)
          · exact Finset.mem_insert_self ..

end Cert.Shortlist

end
-- ==== Proof.Slots.lean ====
module

public import proofs.«01_k».proof.Proof.Race
public import proofs.«01_k».proof.Proof.Shortlist

@[expose] public section

set_option maxRecDepth 16384

/-! # What the lists hold at the end

Where the precondition holds, the last lists' rows are rows of states, and the drawn state's row is among them. -/

noncomputable section

namespace Cert.Draw

open Idealize.ShloMosaic Idealize.ShloMosaic.TcCoe Cert.KernelIdeal Cert.KernelIdeal.Gen Cert.KernelIdeal.Whole

/-- The kernel's comparison of two rows. -/
theorem beats_iff (n o : Row Ideal) : beats (F := Ideal) n o = 1#1 ↔ Shortlist.better n o := by
  obtain ⟨n1, n2, n3, n4⟩ := n
  obtain ⟨o1, o2, o3, o4⟩ := o
  show IntOp.ori (Ideal.cmp .ogt n1 o1) (IntOp.andi (Ideal.cmp .oeq n1 o1) (IntOp.cmpi .slt n2 o2)) = 1#1 ↔ (@LT.lt EReal _ o1 n1 ∨ (n1 = o1 ∧ n2.slt o2 = true))
  have h1 : Ideal.cmp .ogt n1 o1 = BitVec.ofBool (decide (@LT.lt EReal _ o1 n1)) := rfl
  have h2 : Ideal.cmp .oeq n1 o1 = BitVec.ofBool (decide (n1 = o1)) := rfl
  have h3 : IntOp.cmpi .slt n2 o2 = BitVec.ofBool (n2.slt o2) := rfl
  have key : ∀ a b c : Bool, IntOp.ori (BitVec.ofBool a) (IntOp.andi (BitVec.ofBool b) (BitVec.ofBool c)) = 1#1 ↔ (a = true ∨ (b = true ∧ c = true)) := by decide
  rw [h1, h2, h3, key, decide_eq_true_iff, decide_eq_true_iff]

/-- The row that stays is the list's. -/
theorem keepRow_eq (n o : Row Ideal) : keepRow (F := Ideal) n o = Shortlist.keep n o := by
  unfold keepRow Shortlist.keep Scalar.select
  by_cases h : Shortlist.better n o
  · have h1 : beats (F := Ideal) n o = 1 := (beats_iff n o).mpr h
    simp only [h1, if_true, if_pos h]
  · have h1 : ¬beats (F := Ideal) n o = 1 := fun g => h ((beats_iff n o).mp g)
    simp only [h1, if_false, if_neg h]

/-- The row that goes on is the list's. -/
theorem passRow_eq (n o : Row Ideal) : passRow (F := Ideal) n o = Shortlist.pass n o := by
  unfold passRow Shortlist.pass Scalar.select
  by_cases h : Shortlist.better n o
  · have h1 : beats (F := Ideal) n o = 1 := (beats_iff n o).mpr h
    simp only [h1, if_true, if_pos h]
  · have h1 : ¬beats (F := Ideal) n o = 1 := fun g => h ((beats_iff n o).mp g)
    simp only [h1, if_false, if_neg h]

/-- Three rows as a collection. -/
def bag (o : Fin 3 → Shortlist.Entry) : Multiset Shortlist.Entry := {o 0, o 1, o 2}

/-- A list's three entries are the members of its bag. -/
theorem mem_bag (o : Fin 3 → Shortlist.Entry) (x : Shortlist.Entry) : x ∈ bag o ↔ ∃ k, o k = x := by
  simp only [bag, Multiset.insert_eq_cons, Multiset.mem_cons, Multiset.mem_singleton, Fin.exists_fin_succ, Fin.exists_fin_zero_pi]
  constructor
  · rintro (h | h | h) <;> simp [h]
  · rintro (h | h | h) <;> simp_all

section
variable (V0 : Valuation Cert.ReferenceIdeal.τ Cert.ReferenceIdeal.sig (Elt Ideal))
variable (V : (c : Dev nD) → (b : Ref sig .tc) → Buf (Elt Ideal) ((c : Thread nD Cert.KernelIdeal.τ).loc b)) (c : Dev nD)

/-- The block entries, block by block. -/
def entryAt (b : Fin 4) (d : Fin 128) (n : ℕ) : Shortlist.Entry := if h : n < cfg0.N then blk (F := Ideal) V c ⟨n, h⟩ b d else emptyRow (F := Ideal)

/-- The list after the first blocks. -/
def listAt (b : Fin 4) (d : Fin 128) : ℕ → Fin 3 → Shortlist.Entry
  | 0 => fun _ => emptyRow (F := Ideal)
  | n + 1 => if h : n < cfg0.N then fun k => rowsOf (F := Ideal) (outsAt0 V c n h) k b d else fun _ => emptyRow (F := Ideal)

/-- One block changes the list by one insertion. -/
theorem listAt_succ (b : Fin 4) (d : Fin 128) (n : ℕ) (hn : n < cfg0.N) :
    listAt V c b d (n + 1) = slot (F := Ideal) (entryAt V c b d n) (listAt V c b d n) := by
  funext k
  unfold entryAt
  rw [dif_pos hn]
  cases n with
  | zero =>
    show (if h : 0 < cfg0.N then fun k => rowsOf (F := Ideal) (outsAt0 V c 0 h) k b d else fun _ => emptyRow (F := Ideal)) k = _
    rw [dif_pos hn]
    exact rows_zero V c hn k b d
  | succ n =>
    have h1 : listAt V c b d (n + 1) = fun k => rowsOf (F := Ideal) (outsAt0 V c n (Nat.lt_of_succ_lt hn)) k b d := by
      show (if h : n < cfg0.N then _ else _) = _
      rw [dif_pos (Nat.lt_of_succ_lt hn)]
    have h2 : listAt V c b d (n + 1 + 1) = fun k => rowsOf (F := Ideal) (outsAt0 V c (n + 1) hn) k b d := by
      show (if h : n + 1 < cfg0.N then _ else _) = _
      rw [dif_pos hn]
    rw [h1, h2]
    exact rows_succ V c n hn k b d

/-- The row a block drops. -/
def outAt (b : Fin 4) (d : Fin 128) (n : ℕ) : Shortlist.Entry :=
  Shortlist.pass (Shortlist.pass (Shortlist.pass (entryAt V c b d n) (listAt V c b d n 0)) (listAt V c b d n 1)) (listAt V c b d n 2)

/-- The list's rows after a block. -/
theorem bag_succ (b : Fin 4) (d : Fin 128) (n : ℕ) (hn : n < cfg0.N) :
    bag (listAt V c b d (n + 1)) = {Shortlist.keep (entryAt V c b d n) (listAt V c b d n 0), Shortlist.keep (Shortlist.pass (entryAt V c b d n) (listAt V c b d n 0)) (listAt V c b d n 1),
      Shortlist.keep (Shortlist.pass (Shortlist.pass (entryAt V c b d n) (listAt V c b d n 0)) (listAt V c b d n 1)) (listAt V c b d n 2)} := by
  rw [listAt_succ V c b d n hn, ← keepRow_eq, ← passRow_eq, ← keepRow_eq, ← passRow_eq, ← keepRow_eq]
  rfl

/-- The drawn state is in the last list, and all rows of the last list are rows of states. -/
theorem last_list (hf : RealInputs V0) (hV : SameArrays V0 V c)
    (hpre : ∀ i, Cert.Pre_draw_is_shortlisted.fn_part23 (F := Ideal) (finV V0) (reV V0) (imV V0) (Cert.ReferenceIdeal.Value.res_main_v223 V0) (idxV V0) i = 1#1)
    (b : Fin 4) (d : Fin 128) (s0 : Fin 65536) (hidx : idxV V0 (ix2 b d) = BitVec.ofNat 32 s0.val) :
    (∀ k, ∃ s, listAt V c b d 512 k = rowV V0 b s d) ∧ ∃ k, listAt V c b d 512 k = rowV V0 b s0 d := by
  obtain ⟨hc1, hc2⟩ := pre_counts _ _ _ _ _ hpre b d s0 hidx (by
    obtain ⟨p, h0, h1, -⟩ := race_facts V0 hf b s0 d
    refine le_of_le_of_eq ?_ h1.symm
    exact_mod_cast (by linarith : (-1 : ℝ) ≤ p))
  have hent : ∀ t : Fin 512, ∃ (q : Fin 16) (k : Fin 8), entryAt V c b d t.val = rowV V0 b (stateOf q t k) d
      ∧ ∀ (q' : Fin 16) (k' : Fin 8), powV V0 b (stateOf q' t k') d ≤ powV V0 b (stateOf q t k) d := fun t => by
    unfold entryAt
    rw [dif_pos (show t.val < cfg0.N from t.isLt)]
    exact blk_entry V0 V c hf hV ⟨t.val, t.isLt⟩ t rfl b d
  choose q k hent hmax using hent
  have hhome : s0.val % 4096 / 8 < 512 := by omega
  have h0 : stateOf (q ⟨_, hhome⟩) ⟨_, hhome⟩ (k ⟨_, hhome⟩) = s0 := by
    by_contra hne
    have h1 := hc1 _ ⟨_, hhome⟩ _ rfl hne
    have h2 := hmax ⟨_, hhome⟩ ⟨s0.val / 4096, by omega⟩ ⟨s0.val % 8, by omega⟩
    have h3 : stateOf ⟨s0.val / 4096, by omega⟩ ⟨s0.val % 4096 / 8, hhome⟩ ⟨s0.val % 8, by omega⟩ = s0 :=
      Fin.ext (by show s0.val / 4096 * 4096 + s0.val % 4096 / 8 * 8 + s0.val % 8 = s0.val; omega)
    rw [h3, race_order V0 hf] at h2
    exact absurd h1 (not_lt.mpr h2)
  have he0 : entryAt V c b d (s0.val % 4096 / 8) = rowV V0 b s0 d := (hent ⟨_, hhome⟩).trans (by rw [h0])
  obtain ⟨S, hS1, -, hS3, hS4⟩ := Shortlist.kept (emptyRow (F := Ideal)) (entryAt V c b d) (fun n => bag (listAt V c b d n)) (outAt V c b d) 512 (s0.val % 4096 / 8)
    rfl
    (fun n hn => by
      show outAt V c b d n ::ₘ bag (listAt V c b d (n + 1)) = _
      rw [bag_succ V c b d n hn]
      exact Shortlist.insert_eq _ _ _ _)
    (fun n hn x hx => by
      have hx' : x ∈ bag (listAt V c b d (n + 1)) := hx
      rw [bag_succ V c b d n hn] at hx'
      exact Shortlist.drop_le _ _ _ _ _ hx')
    (fun n hn => by
      rw [show entryAt V c b d n = _ from hent ⟨n, hn⟩]
      left
      obtain ⟨p, h0, -, h1⟩ := race_facts V0 hf b (stateOf (q ⟨n, hn⟩) ⟨n, hn⟩ (k ⟨n, hn⟩)) d
      have hl : 0 < Real.log 2 := Real.log_pos (by norm_num)
      show @LT.lt EReal _ (FloatOps.ofBits (F := Ideal) .f32 0xBF800000#32) (powV V0 b (stateOf (q ⟨n, hn⟩) ⟨n, hn⟩ (k ⟨n, hn⟩)) d)
      rw [h1, ofBits_minus_one]
      exact_mod_cast (by nlinarith [mul_nonneg h0 hl.le] : (-1 : ℝ) < p * Real.log 2))
    (fun S hS hr => by
      have h1 := hc2 (S.attachFin fun i hi => (hr i hi).1) (fun t ht => by
        have ht' := Finset.mem_attachFin _ |>.mp ht
        refine ⟨q t, k t, fun heq => hS ?_, ?_⟩
        · have h2 : (q t).val * 4096 + t.val * 8 + (k t).val = s0.val := congrArg Fin.val heq
          have h3 : s0.val % 4096 / 8 = t.val := by have := t.isLt; have := (k t).isLt; omega
          rw [h3]; exact ht'
        · have h2 := (hr _ ht').2
          rw [he0, hent t] at h2
          have h3 : ¬@LT.lt EReal _ (powV V0 b (stateOf (q t) t (k t)) d) (powV V0 b s0 d) := fun h => h2 (Or.inl h)
          exact (race_order V0 hf b s0 _ d).mp (not_lt.mp h3))
      rwa [Finset.card_attachFin] at h1)
    512 le_rfl
  have hbag : bag (listAt V c b d 512) = S.val.map (entryAt V c b d) := by
    refine hS3.trans ?_
    rw [show 3 - 512 = 0 from rfl, Multiset.replicate_zero, zero_add]
  refine ⟨fun j => ?_, ?_⟩
  · have h1 : listAt V c b d 512 j ∈ bag (listAt V c b d 512) := (mem_bag _ _).mpr ⟨j, rfl⟩
    rw [hbag] at h1
    obtain ⟨i, hi, h2⟩ := Multiset.mem_map.mp h1
    exact ⟨_, h2.symm.trans (hent ⟨i, hS1 i hi⟩)⟩
  · have h1 : rowV V0 b s0 d ∈ bag (listAt V c b d 512) := by
      rw [hbag]
      exact Multiset.mem_map.mpr ⟨_, hS4 hhome, he0⟩
    exact (mem_bag _ _).mp h1

end

end Cert.Draw
-- ==== Proof.Drawn.lean ====
module

public import proofs.«01_k».proof.Proof.Slots
public import proofs.«01_k».proof.Proof.Last

@[expose] public section

set_option maxRecDepth 16384

/-! # The kernel draws the reference's states

The final call scores the three states of each list as the reference scores them, and keeps the best. -/

noncomputable section

namespace Cert.Draw

open Idealize.ShloMosaic Idealize.ShloMosaic.TcCoe Cert.KernelIdeal Cert.KernelIdeal.Gen Cert.KernelIdeal.Whole

/-- The comparison of two scored states. -/
theorem ahead_iff (n o : Ideal .f32 × W) : ahead (F := Ideal) n o = 1#1 ↔ (@LT.lt EReal _ o.1 n.1 ∨ (n.1 = o.1 ∧ n.2.slt o.2 = true)) :=
  beats_iff (n.1, n.2, n.1, n.1) (o.1, o.2, o.1, o.1)

/-- Whether a scored state is the best one or goes after it. -/
def behind (g x : Ideal .f32 × W) : Prop := x = g ∨ (@LT.lt EReal _ x.1 g.1 ∨ (g.1 = x.1 ∧ g.2.slt x.2 = true))

/-- The better of two scored states is one of them. -/
theorem better2_cases (n o : Ideal .f32 × W) : (better2 (F := Ideal) n o = n ∧ ahead (F := Ideal) n o = 1#1) ∨ (better2 (F := Ideal) n o = o ∧ ¬ahead (F := Ideal) n o = 1#1) := by
  unfold better2 Scalar.select
  by_cases h : ahead (F := Ideal) n o = 1
  · left; refine ⟨?_, h⟩; simp only [h, if_true]
  · right; refine ⟨?_, h⟩; simp only [h, if_false]

/-- The better of two states behind the best is behind the best. -/
theorem better2_behind (g n o : Ideal .f32 × W) (hn : behind g n) (ho : behind g o) : behind g (better2 (F := Ideal) n o) := by
  rcases better2_cases n o with ⟨h, -⟩ | ⟨h, -⟩ <;> rw [h] <;> assumption

/-- The best wins over what is behind it. -/
theorem better2_best (g n o : Ideal .f32 × W) (hn : behind g n) (ho : behind g o) (h : n = g ∨ o = g) : better2 (F := Ideal) n o = g := by
  rcases better2_cases n o with ⟨e, a⟩ | ⟨e, a⟩
  · rw [e]
    rcases h with h | h
    · exact h
    · rcases hn with hn | hn
      · exact hn
      · exfalso
        rw [ahead_iff, h] at a
        exact Shortlist.better_asymm (g.1, g.2, g.1, g.1) (n.1, n.2, n.1, n.1) hn a
  · rw [e]
    rcases h with h | h
    · rcases ho with ho | ho
      · exact ho
      · exfalso
        rw [ahead_iff, h] at a
        exact a ho
    · exact h

/-- The best of three. -/
theorem best3_best (g : Ideal .f32 × W) (f : Fin 3 → Ideal .f32 × W) (h : ∀ k, behind g (f k)) (hg : ∃ k, f k = g) : best3 (F := Ideal) f = g := by
  unfold best3
  refine better2_best g _ _ (h 2) (better2_behind g _ _ (h 1) (h 0)) ?_
  obtain ⟨k, hk⟩ := hg
  fin_cases k
  · right; exact better2_best g _ _ (h 1) (h 0) (Or.inr hk)
  · right; exact better2_best g _ _ (h 1) (h 0) (Or.inl hk)
  · left; exact hk

section
variable (V0 : Valuation Cert.ReferenceIdeal.τ Cert.ReferenceIdeal.sig (Elt Ideal))
variable (V : (c : Dev nD) → (b : Ref sig .tc) → Buf (Elt Ideal) ((c : Thread nD Cert.KernelIdeal.τ).loc b)) (c : Dev nD)

/-- The third constant, as the final call loads it. -/
theorem noise_load (x3 : Vec Ideal S4 .f32) : k1_pay5 (F := Ideal) (View.ld x3 r1_1) = x3 (ix1 2) := by
  show x3 _ = x3 _
  congr 1
  funext a
  fin_cases a
  exact Fin.ext (by simp [ix1])

/-- The drawn states. -/
theorem drawn_eq (hf : RealInputs V0) (hV : SameArrays V0 V c)
    (hpre : ∀ i, Cert.Pre_draw_is_shortlisted.fn_part23 (F := Ideal) (finV V0) (reV V0) (imV V0) (Cert.ReferenceIdeal.Value.res_main_v223 V0) (idxV V0) i = 1#1)
    (x4 : Vec Ideal S16x128x128 .f32) (x5 : Vec Ideal S16x128 .f32) (b : Fin 4) (d : Fin 128) :
    k1_pay170 (F := Ideal) (outsAt0 V c lastPoint.val lastPoint.isLt).2.1 (outsAt0 V c lastPoint.val lastPoint.isLt).2.2.1 (outsAt0 V c lastPoint.val lastPoint.isLt).2.2.2.1 (consts (arr3 V0)) x4 x5 (ix2 b d)
      = idxV V0 (ix2 b d) := by
  obtain ⟨s0, hidx, hmax, hleast⟩ := idx_spec V0 b d
  obtain ⟨hl, k0, hk0⟩ := last_list V0 V c hf hV hpre b d s0 hidx
  have hL : listAt V c b d 512 = fun k => rowsOf (F := Ideal) (outsAt0 V c lastPoint.val lastPoint.isLt) k b d := by
    show (if h : 511 < cfg0.N then (fun k => rowsOf (F := Ideal) (outsAt0 V c 511 h) k b d) else fun _ => emptyRow (F := Ideal)) = _
    exact dif_pos lastPoint.isLt
  rw [hL] at hl hk0
  generalize (outsAt0 V c lastPoint.val lastPoint.isLt) = o at hl hk0 ⊢
  rw [drawn_raw, hidx, ld_all, ld_all, ld_all, noise_load, consts_2]
  have h2 : k1_pay2 (F := Ideal) o.2.1 = o.2.1 := shapeCast_self _ _
  have h3 : k1_pay3 (F := Ideal) o.2.2.1 = o.2.2.1 := shapeCast_self _ _
  have h4 : k1_pay4 (F := Ideal) o.2.2.2.1 = o.2.2.2.1 := shapeCast_self _ _
  rw [h2, h3, h4]
  have hrow : ∀ (k : Fin 3) (s : Fin 65536), rowsOf (F := Ideal) o k b d = rowV V0 b s d →
      ((slab3 (fun j => scoreAt (F := Ideal) (o.2.2.1 j) (o.2.2.2.1 j) (Scalar.ofBits .f32 0x3A826B00#32) (numberV o.2.1 j)) k (ix2 b d), slab3 o.2.1 k (ix2 b d)) : Ideal .f32 × W)
        = (scV V0 b d s, BitVec.ofNat 32 s.val) := fun k s h => by
    have e1 : o.2.1 (ix3 k b d) = BitVec.ofNat 32 s.val := congrArg (fun r : Row Ideal => r.2.1) h
    have e2 : o.2.2.1 (ix3 k b d) = reV V0 (ix2 s d) := congrArg (fun r : Row Ideal => r.2.2.1) h
    have e3 : o.2.2.2.1 (ix3 k b d) = imV V0 (ix2 s d) := congrArg (fun r : Row Ideal => r.2.2.2) h
    rw [slab3_apply, slab3_apply, number_again o.2.1 s k b d e1, e1, e2, e3]
    unfold scV
    rw [score_at, numberR_apply]
  refine congrArg Prod.snd (best3_best ((scV V0 b d s0, BitVec.ofNat 32 s0.val) : Ideal .f32 × W) _ (fun k => ?_) ⟨k0, hrow k0 s0 hk0⟩)
  obtain ⟨s, hs⟩ := hl k
  show behind _ ((slab3 _ k (ix2 b d), slab3 _ k (ix2 b d)) : Ideal .f32 × W)
  rw [hrow k s hs]
  by_cases he : s = s0
  · left; rw [he]
  · right
    rcases (hmax s).lt_or_eq with h | h
    · exact Or.inl h
    · right
      refine ⟨h.symm, ?_⟩
      have h5 := hleast s h
      have h6 : s0.val < s.val := lt_of_le_of_ne h5 fun h => he (Fin.ext h.symm)
      rw [BitVec.slt_iff_toInt_lt]
      show (BitVec.ofNat 32 s0.val).toInt < (BitVec.ofNat 32 s.val).toInt
      rw [toInt_small _ (lt_trans s0.isLt (by norm_num)), toInt_small _ (lt_trans s.isLt (by norm_num))]
      exact_mod_cast h6

end

end Cert.Draw
-- ==== Proof.Result.lean ====
module

public import proofs.«01_k».proof.Proof.Drawn

@[expose] public section

set_option maxRecDepth 16384

/-! # The measured result

The kernel adds the measurements one after the other to the biases' sum and multiplies by a sixteenth; the reference adds
them all and divides by sixteen. -/

noncomputable section

namespace Cert.Draw

open Idealize.ShloMosaic Idealize.ShloMosaic.TcCoe

/-- Whether a drawn word names a measurement's basis, as a number. -/
def hit (p : W) (n : Fin 16) : EReal := if p = BitVec.ofNat 32 n.val then 1 else 0

/-- The measurements of a lane, all together. -/
def total (x4 : Cert.KernelIdeal.S16x128x128.Idx → EReal) (x5 : Cert.KernelIdeal.S16x128.Idx → EReal) (p : Fin 128 → W) (d : Fin 128) : EReal :=
  ∑ n : Fin 16, ((∑ j : Fin 128, x4 (ix3 n d j) * hit (p j) n) + x5 (ix2 n d))

/-- Adding one after the other is adding all. -/
theorem fold_add {ι s : Type} (l : List ι) (f : ι → s → EReal) (a : s → EReal) (z : s) :
    l.foldl (fun acc n => fun i => acc i + f n i) a z = a z + (l.map fun n => f n z).sum := by
  induction l generalizing a with
  | nil => simp
  | cons n l ih => rw [List.foldl_cons, ih, List.map_cons, List.sum_cons, add_assoc]

section kernel
open Cert.KernelIdeal Cert.KernelIdeal.Gen Cert.KernelIdeal.Whole

/-- A loaded matrix with its unit axis dropped. -/
theorem drop_one {α : Type} (v : S1x128x128.Idx → α) (d j : Fin 128) : shapeCast S128x128 v shapeCasts_S1x128x128_S128x128 (ix2 d j) = v (ix3 0 d j) :=
  congrArg v (Shape.reshapeEquiv_eq_of_vals _ _ _ _ _ (rowMajor_val3 (ix3 0 d j) 16384 128 rfl rfl) (rowMajor_val2 (ix2 d j) 128 rfl) (by simp [ix2, ix3]))

/-- A loaded matrix. -/
theorem matW_apply {F : FTy → Type} [FloatOps F] (x4 : Vec F S16x128x128 .f32) (n : Fin 16) (d j : Fin 128) : matW x4 n (ix3 0 d j) = x4 (ix3 n d j) := by
  fin_cases n <;> exact congrArg x4 (funext fun a => Fin.ext (by fin_cases a <;> simp [ix3]))

/-- The indicator the kernel multiplies with. -/
theorem hit_kernel (p : IVec S4x128 32) (n : Fin 16) (i : S4x128.Idx) :
    ((sitofp (F := Ideal) .f32 (extui 32 (cmpi .eq p (broadcast S4x128 (BitVec.ofNat 32 n.val))) natLt_1_32)) i : EReal) = hit (p i) n := by
  show ((((IntOp.cmpi .eq (p i) (BitVec.ofNat 32 n.val)).setWidth 32).toInt : ℝ) : EReal) = _
  unfold hit
  by_cases h : p i = BitVec.ofNat 32 n.val
  · have e : IntOp.cmpi .eq (p i) (BitVec.ofNat 32 n.val) = 1#1 := by simp [IntOp.cmpi, h]
    rw [e, if_pos h]
    have e2 : ((1#1).setWidth 32).toInt = 1 := by decide
    rw [e2]; simp
  · have e : IntOp.cmpi .eq (p i) (BitVec.ofNat 32 n.val) = 0#1 := by
      show BitVec.ofBool (p i == BitVec.ofNat 32 n.val) = 0#1
      rw [beq_eq_false_iff_ne.mpr h]; rfl
    rw [e, if_neg h]
    have e2 : ((0#1).setWidth 32).toInt = 0 := by decide
    rw [e2]; simp

/-- One measurement. -/
theorem measure_apply (p : IVec S4x128 32) (x4 : Vec Ideal S16x128x128 .f32) (n : Fin 16) (b : Fin 4) (d : Fin 128) :
    (measure (F := Ideal) p x4 n (ix2 b d) : EReal) = ∑ j : Fin 128, (x4 (ix3 n d j) : EReal) * hit (p (ix2 b j)) n := by
  unfold measure
  refine (Ideal.matmul_constant_zero_apply _ none _ _ (ix2 b d)).trans ?_
  refine (DotDims.sum_contr₁ _ (a := 1) rfl (K := 128) rfl _).trans ?_
  refine Finset.sum_congr rfl fun j _ => ?_
  refine (congrArg₂ (fun u v => ((sitofp (F := Ideal) .f32 (extui 32 (cmpi .eq p (broadcast S4x128 (BitVec.ofNat 32 n.val))) natLt_1_32)) u : EReal)
    * (shapeCast S128x128 (matW x4 n) shapeCasts_S1x128x128_S128x128 v : EReal))
    (show _ = ix2 b j from funext fun a => by fin_cases a <;> rfl) (show _ = ix2 d j from funext fun a => by fin_cases a <;> rfl)).trans ?_
  show ((sitofp (F := Ideal) .f32 (extui 32 (cmpi .eq p (broadcast S4x128 (BitVec.ofNat 32 n.val))) natLt_1_32)) (ix2 b j) : EReal)
    * (shapeCast S128x128 (matW x4 n) shapeCasts_S1x128x128_S128x128 (ix2 d j) : EReal) = _
  rw [hit_kernel, drop_one, matW_apply, mul_comm]

/-- A load of all biases. -/
theorem ld_biases {F : FTy → Type} [FloatOps F] (x : Vec F S16x128 .f32) : View.ld (Val := Elt F) x r1_2 = x :=
  funext fun j => congrArg x (funext fun a => Fin.ext (by fin_cases a <;> simp [ix2]))

/-- The biases' sum, spread over the batches. -/
theorem biases_apply (x5 : Vec Ideal S16x128 .f32) (b : Fin 4) (d : Fin 128) :
    (broadcastTo S4x128 (k1_pay137 (F := Ideal) x5) broadcasts_S1x128_S4x128 (ix2 b d) : EReal) = ∑ n : Fin 16, (x5 (ix2 n d) : EReal) := by
  have h1 : broadcastTo S4x128 (k1_pay137 (F := Ideal) x5) broadcasts_S1x128_S4x128 (ix2 b d) = k1_pay137 (F := Ideal) x5 (ix2 0 d) := by
    generalize k1_pay137 (F := Ideal) x5 = v
    show v _ = v _
    congr 1
    funext a; fin_cases a <;> rfl
  rw [h1]
  unfold k1_pay137
  rw [shapeCast_self]
  refine Eq.trans (b := multiReduction (F := Ideal) .add [0] S128 x5 0x00000000#32 reduces_S16x128_S128 (.inl rfl) rfl (ix1 d)) ?_ ?_
  · exact congrArg (multiReduction (F := Ideal) .add [0] S128 x5 0x00000000#32 reduces_S16x128_S128 (.inl rfl) rfl) (Shape.reshapeEquiv_eq_of_vals _ _ _ _ _ (rowMajor_val1 (ix1 d)) (rowMajor_val2 (ix2 0 d) 128 rfl) (by simp [ix1, ix2]))
  · refine (Ideal.multiReduction_add_single _ _ _ _ _ _).trans (Finset.sum_congr rfl fun n _ => congrArg x5 (funext fun a => ?_))
    fin_cases a <;> rfl

/-- A sixteenth, as printed. -/
theorem ofBits_sixteenth : (Scalar.ofBits .f32 0x3D800000#32 : Ideal .f32) = ((16⁻¹ : ℝ) : EReal) := by
  show Ideal.ofBits .f32 0x3D800000#32 = _
  simp [Ideal.ofBits, Ideal.ieee, -EReal.coe_mul]; norm_num

/-- The kernel's result. -/
theorem kernel_result (x0 : Vec Ideal S3x4x128 .i32) (x1 x2 : Vec Ideal S3x4x128 .f32) (x3 : Vec Ideal S4 .f32) (x4 : Vec Ideal S16x128x128 .f32) (x5 : Vec Ideal S16x128 .f32) (b : Fin 4) (d : Fin 128) :
    (out1_6 (F := Ideal) x0 x1 x2 x3 x4 x5 (ix2 b d) : EReal)
      = total x4 x5 (fun j => k1_pay170 (F := Ideal) x0 x1 x2 x3 x4 x5 (ix2 b j)) d * ((16⁻¹ : ℝ) : EReal) := by
  have hz : r1_19.emb (ix2 b d) = ix2 b d := funext fun a => Fin.ext (by fin_cases a <;> simp [ix2])
  have h := out_raw (F := Ideal) x0 x1 x2 x3 x4 x5 (ix2 b d)
  rw [hz] at h
  rw [h]
  generalize k1_pay170 (F := Ideal) x0 x1 x2 x3 x4 x5 = p
  rw [ld_biases]
  show ((List.finRange 16).foldl (fun acc n => fun i => (acc i : EReal) + (measure (F := Ideal) p x4 n i : EReal)) (broadcastTo S4x128 (k1_pay137 (F := Ideal) x5) broadcasts_S1x128_S4x128) (ix2 b d) : EReal)
    * (Scalar.ofBits .f32 0x3D800000#32 : Ideal .f32) = _
  rw [ofBits_sixteenth, fold_add, biases_apply, ← Fin.sum_univ_def]
  unfold total
  rw [Finset.sum_add_distrib, add_comm]
  congr 2
  exact Finset.sum_congr rfl fun n _ => measure_apply p x4 n b d

end kernel

section reference
open Cert.ReferenceIdeal Cert.ReferenceIdeal.Gen

/-- The reference's result from the drawn states. -/
def resultOf {F : FTy → Type} [FloatOps F] (x4 : FVec F S16x128x128 .f32) (x5 : FVec F S16x128 .f32) (idx : IVec S4x128 32) : FVec F S4x128 .f32 :=
  Host.divf (Host.reduceAdd (addf (transpose S4x16x128 [2, 0, 1] (Host.dotGeneral dot_S16x128x128_S4x16x128_S16x128x4_2_2_1_0_0_1 none x4 (uitofp .f32 (cmpi .eq (broadcastInDim S4x16x128 ![0, 1, 2] bcast_S4x1x128_S4x16x128_0_1_2 (broadcastInDim S4x1x128 ![0, 2] bcast_S4x128_S4x1x128_0_2 idx))
      (broadcastInDim S4x16x128 ![0, 1, 2] bcast_S1x16x1_S4x16x128_0_1_2 (broadcastInDim S1x16x1 ![1] bcast_S16_S1x16x1_1 (iotaInDim S16 32 0)))))) transposes_S16x128x4_S4x16x128_2_0_1)
    (broadcastInDim S4x16x128 ![0, 1, 2] bcast_S1x16x128_S4x16x128_0_1_2 (broadcastInDim S1x16x128 ![1, 2] bcast_S16x128_S1x16x128_1_2 x5))) (constant S_ .f32 0x00000000#32) reducesTo_S4x16x128_S4x128_d1 h_S_) (broadcastInDim S4x128 ![] bcast_S_S4x128 (constant S_ .f32 0x41800000#32))

/-- The indicators of all measurements. -/
def hits {F : FTy → Type} [FloatOps F] (idx : IVec S4x128 32) : FVec F S4x16x128 .f32 :=
  uitofp .f32 (cmpi .eq (broadcastInDim S4x16x128 ![0, 1, 2] bcast_S4x1x128_S4x16x128_0_1_2 (broadcastInDim S4x1x128 ![0, 2] bcast_S4x128_S4x1x128_0_2 idx))
      (broadcastInDim S4x16x128 ![0, 1, 2] bcast_S1x16x1_S4x16x128_0_1_2 (broadcastInDim S1x16x1 ![1] bcast_S16_S1x16x1_1 (iotaInDim S16 32 0))))

/-- The reference's indicator. -/
theorem hits_apply (idx : IVec S4x128 32) (b : Fin 4) (n : Fin 16) (j : Fin 128) : (hits (F := Ideal) idx (ix3 b n j) : EReal) = hit (idx (ix2 b j)) n := by
  have h1 : broadcastInDim S4x16x128 ![0, 1, 2] bcast_S4x1x128_S4x16x128_0_1_2 (broadcastInDim S4x1x128 ![0, 2] bcast_S4x128_S4x1x128_0_2 idx) (ix3 b n j) = idx (ix2 b j) := by
    show idx _ = idx _
    congr 1
    funext a; fin_cases a <;> rfl
  have h2 : broadcastInDim S4x16x128 ![0, 1, 2] bcast_S1x16x1_S4x16x128_0_1_2 (broadcastInDim S1x16x1 ![1] bcast_S16_S1x16x1_1 (iotaInDim S16 32 0)) (ix3 b n j) = BitVec.ofNat 32 n.val := rfl
  show (((IntOp.cmpi .eq (broadcastInDim S4x16x128 ![0, 1, 2] bcast_S4x1x128_S4x16x128_0_1_2 (broadcastInDim S4x1x128 ![0, 2] bcast_S4x128_S4x1x128_0_2 idx) (ix3 b n j))
    (broadcastInDim S4x16x128 ![0, 1, 2] bcast_S1x16x1_S4x16x128_0_1_2 (broadcastInDim S1x16x1 ![1] bcast_S16_S1x16x1_1 (iotaInDim S16 32 0)) (ix3 b n j))).toNat : ℝ) : EReal) = _
  rw [h1, h2]
  unfold hit
  by_cases h : idx (ix2 b j) = BitVec.ofNat 32 n.val
  · rw [if_pos h, h]; simp [IntOp.cmpi]
  · rw [if_neg h]; simp [IntOp.cmpi, h]

/-- One of the reference's measurements. -/
theorem dot_hits (x4 : FVec Ideal S16x128x128 .f32) (m : FVec Ideal S4x16x128 .f32) (b : Fin 4) (n : Fin 16) (d : Fin 128) :
    (Host.dotGeneral dot_S16x128x128_S4x16x128_S16x128x4_2_2_1_0_0_1 none x4 m (ix3 n d b) : EReal) = ∑ j : Fin 128, (x4 (ix3 n d j) : EReal) * (m (ix3 b n j) : EReal) := by
  refine (Ideal.dotGeneral_apply _ none _ x4 m (ix3 n d b)).trans ?_
  refine (DotDims.sum_contr₁ _ (a := 2) rfl (K := 128) rfl _).trans ?_
  refine Finset.sum_congr rfl fun j _ => ?_
  exact congrArg₂ (fun u v => (x4 u : EReal) * (m v : EReal)) (funext fun a => by fin_cases a <;> rfl) (funext fun a => by fin_cases a <;> rfl)

/-- The sum over the measurements. -/
theorem host_sum_sites (x : FVec Ideal S4x16x128 .f32) (b : Fin 4) (d : Fin 128) :
    (Host.reduceAdd x (constant S_ .f32 0x00000000#32) reducesTo_S4x16x128_S4x128_d1 h_S_ (ix2 b d) : EReal) = ∑ n : Fin 16, (x (ix3 b n d) : EReal) := by
  have h : S4x16x128.Reduces [1] S4x128 := by decide
  refine (Ideal.hostReduceAdd_single (a := 1) reducesTo_S4x16x128_S4x128_d1 h x _ (ix2 b d)).trans ?_
  have h0 : (constant S_ .f32 0x00000000#32 (Shape.Idx.first h_S_) : Ideal .f32) = (0 : EReal) := ofBits_zero
  rw [h0]
  refine (zero_add _).trans (Finset.sum_congr rfl fun t _ => congrArg x (funext fun a => ?_))
  fin_cases a <;> rfl

/-- Sixteen, as printed. -/
theorem ofBits_sixteen : (Scalar.ofBits .f32 0x41800000#32 : Ideal .f32) = ((16 : ℝ) : EReal) := by
  show Ideal.ofBits .f32 0x41800000#32 = _
  simp [Ideal.ofBits, Ideal.ieee, -EReal.coe_mul]; norm_num

/-- The reference's result. -/
theorem reference_result (x4 : FVec Ideal S16x128x128 .f32) (x5 : FVec Ideal S16x128 .f32) (idx : IVec S4x128 32) (b : Fin 4) (d : Fin 128) :
    (resultOf (F := Ideal) x4 x5 idx (ix2 b d) : EReal) = total x4 x5 (fun j => idx (ix2 b j)) d * ((16⁻¹ : ℝ) : EReal) := by
  have hb : ∀ n : Fin 16, broadcastInDim S4x16x128 ![0, 1, 2] bcast_S1x16x128_S4x16x128_0_1_2 (broadcastInDim S1x16x128 ![1, 2] bcast_S16x128_S1x16x128_1_2 x5) (ix3 b n d) = x5 (ix2 n d) := fun n => by
    show x5 _ = x5 _
    congr 1
    funext a; fin_cases a <;> rfl
  have ht : ∀ (v : FVec Ideal S16x128x4 .f32) (n : Fin 16), transpose S4x16x128 [2, 0, 1] v transposes_S16x128x4_S4x16x128_2_0_1 (ix3 b n d) = v (ix3 n d b) := fun v n => by
    show v _ = v _
    congr 1
    funext a; fin_cases a <;> rfl
  have hdiv : ∀ x : EReal, Ideal.div x (Scalar.ofBits .f32 0x41800000#32 : Ideal .f32) = x * ((16⁻¹ : ℝ) : EReal) := fun x => by
    rw [ofBits_sixteen]
    unfold Ideal.div
    rw [if_neg (by norm_num), EReal.coe_inv]
  refine (hdiv _).trans (congrArg (· * ((16⁻¹ : ℝ) : EReal)) ((host_sum_sites _ b d).trans (Finset.sum_congr rfl fun n _ => ?_)))
  refine congrArg₂ (fun u v : EReal => u + v) ((ht _ n).trans ((dot_hits x4 _ b n d).trans (Finset.sum_congr rfl fun j _ => ?_))) (hb n)
  exact congrArg ((x4 (ix3 n d j) : EReal) * ·) (hits_apply idx b n j)

end reference

end Cert.Draw
-- ==== Proof.Value.lean ====
module

public import proofs.«01_k».proof.Proof.Result
public import proofs.«01_k».proof.Proof.Arrays
public import proofs.«01_k».proof.Defs

@[expose] public section

set_option maxRecDepth 16384

/-! # The kernel's result is the reference's -/

noncomputable section

namespace Cert.Draw

open Idealize.ShloMosaic Idealize.ShloMosaic.TcCoe Idealize.SL.Sem

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)

/-- The two programs' argument arrays agree on a device. -/
structure SameArgs (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- Where the precondition holds, the kernel ends with the reference's result. -/
theorem value_eq (hpre : Pre_KernelIdeal_draw_is_shortlisted m) (c : Dev Cert.KernelIdeal.nD) (h : SameArgs m m' c) :
    Cert.KernelIdeal.Whole.W3 m g c (Proc.devRef .tc Cert.KernelIdeal.main_v35)
      = resultOf (F := Ideal) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
          (idxV (Idealize.ShloMosaic.StableHlo.launchContents m' c)) := by
  have hp : ∀ i, Cert.Pre_draw_is_shortlisted.fn_part23 (F := Ideal) (finV (Idealize.ShloMosaic.StableHlo.launchContents m' c)) (reV (Idealize.ShloMosaic.StableHlo.launchContents m' c)) (imV (Idealize.ShloMosaic.StableHlo.launchContents m' c))
      (Cert.ReferenceIdeal.Value.res_main_v223 (Idealize.ShloMosaic.StableHlo.launchContents m' c)) (idxV (Idealize.ShloMosaic.StableHlo.launchContents m' c)) i = 1#1 := by
    intro i
    rw [← pre_eq]
    have h1 := hpre c
    rw [← h.a0, ← h.a1, ← h.a2, ← h.a3, ← h.a4, ← h.a5, ← h.a6] at h1
    exact congrFun h1 i
  obtain ⟨j, hj⟩ := (pre_flags _ _ _ _ _ hp).1
  have hf := finite_inputs _ j hj
  have hV : SameArrays (Idealize.ShloMosaic.StableHlo.launchContents m' c) (Cert.KernelIdeal.Whole.V1 m g) c :=
    ⟨(v31_eq m g c).trans (by rw [← h.a4]), (v9_eq m g c).trans (by rw [← h.a3]), (v32_eq m g c).trans (by rw [← h.a1]), (v33_eq m g c).trans (by rw [← h.a2])⟩
  refine (result_eq m g c).trans (funext fun i => ?_)
  have hi : i = ix2 (i 0) (i 1) := funext fun a => by fin_cases a <;> rfl
  rw [hi]
  refine (kernel_result _ _ _ _ _ _ (i 0) (i 1)).trans ?_
  refine Eq.trans ?_ (reference_result _ _ _ (i 0) (i 1)).symm
  rw [← h.a3, ← h.a5, ← h.a6]
  refine congrArg (· * ((16⁻¹ : ℝ) : EReal)) (congrArg (fun p => total _ _ p (i 1)) (funext fun j => ?_))
  exact drawn_eq _ _ c hf hV hp _ _ (i 0) j

end

end Cert.Draw
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Whole
public import proofs.«01_k».proof.Proof.KernelIdeal.Whole
public import proofs.«01_k».proof.Proof.PreFacts
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphore, so its run ends with every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

/-- Wherever the drawn states are in the kernel's shortlists, the kernel and the reference end with equal results. -/
theorem value_claim : Cert.algebraic_KernelIdeal_ReferenceIdeal_pre_draw_is_shortlisted
    (hKernelIdeal := Cert.KernelIdeal.Gen.facts) (hReferenceIdeal := Cert.ReferenceIdeal.Gen.facts) (hPre_draw_is_shortlisted := Cert.Draw.preFacts) :=
  fun m g m' g' hpre hargs =>
  ⟨fun c => Cert.KernelIdeal.Whole.W3 m g c (Proc.devRef .tc Cert.KernelIdeal.main_v35),
   (θ_run Cert.KernelIdeal.defs _ _).mono (fun _ h c =>
    ⟨h.1 c _ (Cert.KernelIdeal.Whole.mem_uc Cert.KernelIdeal.main_v35 (by decide)),
     (h.1 c _ (Cert.KernelIdeal.Whole.mem_uc Cert.KernelIdeal.main_arg0 (by decide))).trans (Cert.KernelIdeal.Whole.W3_main_arg0 m g c),
     (h.1 c _ (Cert.KernelIdeal.Whole.mem_uc Cert.KernelIdeal.main_arg1 (by decide))).trans (Cert.KernelIdeal.Whole.W3_main_arg1 m g c),
     (h.1 c _ (Cert.KernelIdeal.Whole.mem_uc Cert.KernelIdeal.main_arg2 (by decide))).trans (Cert.KernelIdeal.Whole.W3_main_arg2 m g c),
     (h.1 c _ (Cert.KernelIdeal.Whole.mem_uc Cert.KernelIdeal.main_arg3 (by decide))).trans (Cert.KernelIdeal.Whole.W3_main_arg3 m g c),
     (h.1 c _ (Cert.KernelIdeal.Whole.mem_uc Cert.KernelIdeal.main_arg4 (by decide))).trans (Cert.KernelIdeal.Whole.W3_main_arg4 m g c),
     (h.1 c _ (Cert.KernelIdeal.Whole.mem_uc Cert.KernelIdeal.main_arg5 (by decide))).trans (Cert.KernelIdeal.Whole.W3_main_arg5 m g c),
     (h.1 c _ (Cert.KernelIdeal.Whole.mem_uc Cert.KernelIdeal.main_arg6 (by decide))).trans (Cert.KernelIdeal.Whole.W3_main_arg6 m g c)⟩)
    (Cert.KernelIdeal.Whole.run_all m g),
   (θ_run Cert.ReferenceIdeal.defs _ _).mono (fun _ h c =>
    ⟨(h c).1.trans (Cert.Draw.value_eq m g m' hpre c
      ⟨(hargs c).1, (hargs c).2.1, (hargs c).2.2.1, (hargs c).2.2.2.1, (hargs c).2.2.2.2.1, (hargs c).2.2.2.2.2.1, (hargs c).2.2.2.2.2.2⟩).symm,
     (h c).2⟩)
    (Cert.ReferenceIdeal.Value.run m' g')⟩

/-- Every claim of the certificate. -/
theorem claim : Cert.Claim := ⟨Cert.Kernel.Gen.facts, Cert.KernelIdeal.Gen.facts, Cert.ReferenceIdeal.Gen.facts, Cert.Draw.preFacts,
  fun m ρ _ => Cert.Kernel.Whole.frame m ρ,
  fun m ρ _ => Cert.KernelIdeal.Whole.frame m ρ,
  fun m ρ _ => Cert.KernelIdeal.Whole.frame m ρ,
  reference_frame,
  fun m ρ _ => reference_frame m ρ trivial,
  IdealRules.named_const.statement Cert.KernelIdeal.κ "inv_ln2" .f32 0x3FB8AA3B#32 (((Real.log 2)⁻¹ : ℝ) : EReal) rfl,
  value_claim⟩

end Cert.Proof

end
